-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Db (m : (ℓ : Loc Cert.Db.nD Cert.Db.τ Cert.Db.sig) → Buf (Elt Bits) ℓ) : Prop :=
  True

def Pre_DbIdeal (m : (ℓ : Loc Cert.DbIdeal.nD Cert.DbIdeal.τ Cert.DbIdeal.sig) → Buf (Elt Ideal) ℓ) : Prop :=
  True

def Pre_DbRefIdeal (m : (ℓ : Loc Cert.DbRefIdeal.nD Cert.DbRefIdeal.τ Cert.DbRefIdeal.sig) → Buf (Elt Ideal) ℓ) : Prop :=
  True

def Pre_Gram (m : (ℓ : Loc Cert.Gram.nD Cert.Gram.τ Cert.Gram.sig) → Buf (Elt Bits) ℓ) : Prop :=
  True

def Pre_GramIdeal (m : (ℓ : Loc Cert.GramIdeal.nD Cert.GramIdeal.τ Cert.GramIdeal.sig) → Buf (Elt Ideal) ℓ) : Prop :=
  True

def Pre_GramRefIdeal (m : (ℓ : Loc Cert.GramRefIdeal.nD Cert.GramRefIdeal.τ Cert.GramRefIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3))
      ∧ r.2.sem = fun _ => 0)

def quiescent_Db [hDb : Cert.Db.Facts] : Prop :=
  ∀ (m : (ℓ : Loc Cert.Db.nD Cert.Db.τ Cert.Db.sig) → Buf (Elt Bits) ℓ) (g : Dev Cert.Db.nD → PrngReg), Pre_Db m →
    θ_run (Cert.Db.defs (F := Bits)) (onTc (τ := Cert.Db.τ) (Cert.Db.main (F := Bits))) ⟨m, fun _ => 0, g⟩ (fun r => (∀ c : Dev Cert.Db.nD,
      r.2.mem ((c.tc : Thread Cert.Db.nD Cert.Db.τ).loc Cert.Db.main_arg0) = m ((c.tc : Thread Cert.Db.nD Cert.Db.τ).loc Cert.Db.main_arg0)
      ∧ r.2.mem ((c.tc : Thread Cert.Db.nD Cert.Db.τ).loc Cert.Db.main_arg1) = m ((c.tc : Thread Cert.Db.nD Cert.Db.τ).loc Cert.Db.main_arg1))
      ∧ r.2.sem = fun _ => 0)

def quiescent_DbIdeal [hDbIdeal : Cert.DbIdeal.Facts] : Prop :=
  ∀ (m : (ℓ : Loc Cert.DbIdeal.nD Cert.DbIdeal.τ Cert.DbIdeal.sig) → Buf (Elt Ideal) ℓ) (g : Dev Cert.DbIdeal.nD → PrngReg), Pre_DbIdeal m →
    θ_run (Cert.DbIdeal.defs (F := Ideal)) (onTc (τ := Cert.DbIdeal.τ) (Cert.DbIdeal.main (F := Ideal))) ⟨m, fun _ => 0, g⟩ (fun r => (∀ c : Dev Cert.DbIdeal.nD,
      r.2.mem ((c.tc : Thread Cert.DbIdeal.nD Cert.DbIdeal.τ).loc Cert.DbIdeal.main_arg0) = m ((c.tc : Thread Cert.DbIdeal.nD Cert.DbIdeal.τ).loc Cert.DbIdeal.main_arg0)
      ∧ r.2.mem ((c.tc : Thread Cert.DbIdeal.nD Cert.DbIdeal.τ).loc Cert.DbIdeal.main_arg1) = m ((c.tc : Thread Cert.DbIdeal.nD Cert.DbIdeal.τ).loc Cert.DbIdeal.main_arg1))
      ∧ r.2.sem = fun _ => 0)

def quiescent_DbRefIdeal [hDbRefIdeal : Cert.DbRefIdeal.Facts] : Prop :=
  ∀ (m : (ℓ : Loc Cert.DbRefIdeal.nD Cert.DbRefIdeal.τ Cert.DbRefIdeal.sig) → Buf (Elt Ideal) ℓ) (g : Dev Cert.DbRefIdeal.nD → PrngReg), Pre_DbRefIdeal m →
    θ_run (Cert.DbRefIdeal.defs (F := Ideal)) (onTc (τ := Cert.DbRefIdeal.τ) (Cert.DbRefIdeal.main (F := Ideal))) ⟨m, fun _ => 0, g⟩ (fun r => (∀ c : Dev Cert.DbRefIdeal.nD,
      r.2.mem ((c.tc : Thread Cert.DbRefIdeal.nD Cert.DbRefIdeal.τ).loc Cert.DbRefIdeal.main_arg0) = m ((c.tc : Thread Cert.DbRefIdeal.nD Cert.DbRefIdeal.τ).loc Cert.DbRefIdeal.main_arg0)
      ∧ r.2.mem ((c.tc : Thread Cert.DbRefIdeal.nD Cert.DbRefIdeal.τ).loc Cert.DbRefIdeal.main_arg1) = m ((c.tc : Thread Cert.DbRefIdeal.nD Cert.DbRefIdeal.τ).loc Cert.DbRefIdeal.main_arg1))
      ∧ r.2.sem = fun _ => 0)

def quiescent_Gram [hGram : Cert.Gram.Facts] : Prop :=
  ∀ (m : (ℓ : Loc Cert.Gram.nD Cert.Gram.τ Cert.Gram.sig) → Buf (Elt Bits) ℓ) (g : Dev Cert.Gram.nD → PrngReg), Pre_Gram m →
    θ_run (Cert.Gram.defs (F := Bits)) (onTc (τ := Cert.Gram.τ) (Cert.Gram.main (F := Bits))) ⟨m, fun _ => 0, g⟩ (fun r => (∀ c : Dev Cert.Gram.nD,
      r.2.mem ((c.tc : Thread Cert.Gram.nD Cert.Gram.τ).loc Cert.Gram.main_arg0) = m ((c.tc : Thread Cert.Gram.nD Cert.Gram.τ).loc Cert.Gram.main_arg0)
      ∧ r.2.mem ((c.tc : Thread Cert.Gram.nD Cert.Gram.τ).loc Cert.Gram.main_arg1) = m ((c.tc : Thread Cert.Gram.nD Cert.Gram.τ).loc Cert.Gram.main_arg1)
      ∧ r.2.mem ((c.tc : Thread Cert.Gram.nD Cert.Gram.τ).loc Cert.Gram.main_arg2) = m ((c.tc : Thread Cert.Gram.nD Cert.Gram.τ).loc Cert.Gram.main_arg2))
      ∧ r.2.sem = fun _ => 0)

def quiescent_GramIdeal [hGramIdeal : Cert.GramIdeal.Facts] : Prop :=
  ∀ (m : (ℓ : Loc Cert.GramIdeal.nD Cert.GramIdeal.τ Cert.GramIdeal.sig) → Buf (Elt Ideal) ℓ) (g : Dev Cert.GramIdeal.nD → PrngReg), Pre_GramIdeal m →
    θ_run (Cert.GramIdeal.defs (F := Ideal)) (onTc (τ := Cert.GramIdeal.τ) (Cert.GramIdeal.main (F := Ideal))) ⟨m, fun _ => 0, g⟩ (fun r => (∀ c : Dev Cert.GramIdeal.nD,
      r.2.mem ((c.tc : Thread Cert.GramIdeal.nD Cert.GramIdeal.τ).loc Cert.GramIdeal.main_arg0) = m ((c.tc : Thread Cert.GramIdeal.nD Cert.GramIdeal.τ).loc Cert.GramIdeal.main_arg0)
      ∧ r.2.mem ((c.tc : Thread Cert.GramIdeal.nD Cert.GramIdeal.τ).loc Cert.GramIdeal.main_arg1) = m ((c.tc : Thread Cert.GramIdeal.nD Cert.GramIdeal.τ).loc Cert.GramIdeal.main_arg1)
      ∧ r.2.mem ((c.tc : Thread Cert.GramIdeal.nD Cert.GramIdeal.τ).loc Cert.GramIdeal.main_arg2) = m ((c.tc : Thread Cert.GramIdeal.nD Cert.GramIdeal.τ).loc Cert.GramIdeal.main_arg2))
      ∧ r.2.sem = fun _ => 0)

def quiescent_GramRefIdeal [hGramRefIdeal : Cert.GramRefIdeal.Facts] : Prop :=
  ∀ (m : (ℓ : Loc Cert.GramRefIdeal.nD Cert.GramRefIdeal.τ Cert.GramRefIdeal.sig) → Buf (Elt Ideal) ℓ) (g : Dev Cert.GramRefIdeal.nD → PrngReg), Pre_GramRefIdeal m →
    θ_run (Cert.GramRefIdeal.defs (F := Ideal)) (onTc (τ := Cert.GramRefIdeal.τ) (Cert.GramRefIdeal.main (F := Ideal))) ⟨m, fun _ => 0, g⟩ (fun r => (∀ c : Dev Cert.GramRefIdeal.nD,
      r.2.mem ((c.tc : Thread Cert.GramRefIdeal.nD Cert.GramRefIdeal.τ).loc Cert.GramRefIdeal.main_arg0) = m ((c.tc : Thread Cert.GramRefIdeal.nD Cert.GramRefIdeal.τ).loc Cert.GramRefIdeal.main_arg0)
      ∧ r.2.mem ((c.tc : Thread Cert.GramRefIdeal.nD Cert.GramRefIdeal.τ).loc Cert.GramRefIdeal.main_arg1) = m ((c.tc : Thread Cert.GramRefIdeal.nD Cert.GramRefIdeal.τ).loc Cert.GramRefIdeal.main_arg1)
      ∧ r.2.mem ((c.tc : Thread Cert.GramRefIdeal.nD Cert.GramRefIdeal.τ).loc Cert.GramRefIdeal.main_arg2) = m ((c.tc : Thread Cert.GramRefIdeal.nD Cert.GramRefIdeal.τ).loc Cert.GramRefIdeal.main_arg2))
      ∧ r.2.sem = fun _ => 0)

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v0) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3))

def preserves_Db_DbIdeal : Prop :=
  True

def algebraic_DbIdeal_DbRefIdeal [hDbIdeal : Cert.DbIdeal.Facts] [hDbRefIdeal : Cert.DbRefIdeal.Facts] : Prop :=
  ∀ (m : (ℓ : Loc Cert.DbIdeal.nD Cert.DbIdeal.τ Cert.DbIdeal.sig) → Buf (Elt Ideal) ℓ) (g : Dev Cert.DbIdeal.nD → PrngReg)
    (m' : (ℓ : Loc Cert.DbRefIdeal.nD Cert.DbRefIdeal.τ Cert.DbRefIdeal.sig) → Buf (Elt Ideal) ℓ) (g' : Dev Cert.DbRefIdeal.nD → PrngReg), Pre_DbIdeal m →
    (∀ c : Dev Cert.DbIdeal.nD,
      m' ((c.tc : Thread Cert.DbRefIdeal.nD Cert.DbRefIdeal.τ).loc Cert.DbRefIdeal.main_arg0) = m ((c.tc : Thread Cert.DbIdeal.nD Cert.DbIdeal.τ).loc Cert.DbIdeal.main_arg0)
      ∧ m' ((c.tc : Thread Cert.DbRefIdeal.nD Cert.DbRefIdeal.τ).loc Cert.DbRefIdeal.main_arg1) = m ((c.tc : Thread Cert.DbIdeal.nD Cert.DbIdeal.τ).loc Cert.DbIdeal.main_arg1)) →
    ∃ (v0 : (c : Dev Cert.DbIdeal.nD) → Buf (Elt Ideal) ((c.tc : Thread Cert.DbIdeal.nD Cert.DbIdeal.τ).loc Cert.DbIdeal.main_v0)),
      θ_run (Cert.DbIdeal.defs (F := Ideal)) (onTc (τ := Cert.DbIdeal.τ) (Cert.DbIdeal.main (F := Ideal))) ⟨m, fun _ => 0, g⟩ (fun r => ∀ c : Dev Cert.DbIdeal.nD,
          r.2.mem ((c.tc : Thread Cert.DbIdeal.nD Cert.DbIdeal.τ).loc Cert.DbIdeal.main_v0) = v0 c
          ∧ r.2.mem ((c.tc : Thread Cert.DbIdeal.nD Cert.DbIdeal.τ).loc Cert.DbIdeal.main_arg0) = m ((c.tc : Thread Cert.DbIdeal.nD Cert.DbIdeal.τ).loc Cert.DbIdeal.main_arg0)
          ∧ r.2.mem ((c.tc : Thread Cert.DbIdeal.nD Cert.DbIdeal.τ).loc Cert.DbIdeal.main_arg1) = m ((c.tc : Thread Cert.DbIdeal.nD Cert.DbIdeal.τ).loc Cert.DbIdeal.main_arg1))
      ∧ θ_run (Cert.DbRefIdeal.defs (F := Ideal)) (onTc (τ := Cert.DbRefIdeal.τ) (Cert.DbRefIdeal.main (F := Ideal))) ⟨m', fun _ => 0, g'⟩ (fun r => ∀ c : Dev Cert.DbRefIdeal.nD,
          r.2.mem ((c.tc : Thread Cert.DbRefIdeal.nD Cert.DbRefIdeal.τ).loc Cert.DbRefIdeal.main_v7) = v0 c
          ∧ r.2.mem ((c.tc : Thread Cert.DbRefIdeal.nD Cert.DbRefIdeal.τ).loc Cert.DbRefIdeal.main_arg0) = m' ((c.tc : Thread Cert.DbRefIdeal.nD Cert.DbRefIdeal.τ).loc Cert.DbRefIdeal.main_arg0)
          ∧ r.2.mem ((c.tc : Thread Cert.DbRefIdeal.nD Cert.DbRefIdeal.τ).loc Cert.DbRefIdeal.main_arg1) = m' ((c.tc : Thread Cert.DbRefIdeal.nD Cert.DbRefIdeal.τ).loc Cert.DbRefIdeal.main_arg1))

def preserves_Gram_GramIdeal : Prop :=
  True

def algebraic_GramIdeal_GramRefIdeal [hGramIdeal : Cert.GramIdeal.Facts] [hGramRefIdeal : Cert.GramRefIdeal.Facts] : Prop :=
  ∀ (m : (ℓ : Loc Cert.GramIdeal.nD Cert.GramIdeal.τ Cert.GramIdeal.sig) → Buf (Elt Ideal) ℓ) (g : Dev Cert.GramIdeal.nD → PrngReg)
    (m' : (ℓ : Loc Cert.GramRefIdeal.nD Cert.GramRefIdeal.τ Cert.GramRefIdeal.sig) → Buf (Elt Ideal) ℓ) (g' : Dev Cert.GramRefIdeal.nD → PrngReg), Pre_GramIdeal m →
    (∀ c : Dev Cert.GramIdeal.nD,
      m' ((c.tc : Thread Cert.GramRefIdeal.nD Cert.GramRefIdeal.τ).loc Cert.GramRefIdeal.main_arg0) = m ((c.tc : Thread Cert.GramIdeal.nD Cert.GramIdeal.τ).loc Cert.GramIdeal.main_arg0)
      ∧ m' ((c.tc : Thread Cert.GramRefIdeal.nD Cert.GramRefIdeal.τ).loc Cert.GramRefIdeal.main_arg1) = m ((c.tc : Thread Cert.GramIdeal.nD Cert.GramIdeal.τ).loc Cert.GramIdeal.main_arg1)
      ∧ m' ((c.tc : Thread Cert.GramRefIdeal.nD Cert.GramRefIdeal.τ).loc Cert.GramRefIdeal.main_arg2) = m ((c.tc : Thread Cert.GramIdeal.nD Cert.GramIdeal.τ).loc Cert.GramIdeal.main_arg2)) →
    ∃ (v0 : (c : Dev Cert.GramIdeal.nD) → Buf (Elt Ideal) ((c.tc : Thread Cert.GramIdeal.nD Cert.GramIdeal.τ).loc Cert.GramIdeal.main_v0_0)) (v1 : (c : Dev Cert.GramIdeal.nD) → Buf (Elt Ideal) ((c.tc : Thread Cert.GramIdeal.nD Cert.GramIdeal.τ).loc Cert.GramIdeal.main_v0_1)) (v2 : (c : Dev Cert.GramIdeal.nD) → Buf (Elt Ideal) ((c.tc : Thread Cert.GramIdeal.nD Cert.GramIdeal.τ).loc Cert.GramIdeal.main_v0_2)) (v3 : (c : Dev Cert.GramIdeal.nD) → Buf (Elt Ideal) ((c.tc : Thread Cert.GramIdeal.nD Cert.GramIdeal.τ).loc Cert.GramIdeal.main_v0_3)) (v4 : (c : Dev Cert.GramIdeal.nD) → Buf (Elt Ideal) ((c.tc : Thread Cert.GramIdeal.nD Cert.GramIdeal.τ).loc Cert.GramIdeal.main_v0_4)) (v5 : (c : Dev Cert.GramIdeal.nD) → Buf (Elt Ideal) ((c.tc : Thread Cert.GramIdeal.nD Cert.GramIdeal.τ).loc Cert.GramIdeal.main_v0_5)) (v6 : (c : Dev Cert.GramIdeal.nD) → Buf (Elt Ideal) ((c.tc : Thread Cert.GramIdeal.nD Cert.GramIdeal.τ).loc Cert.GramIdeal.main_v0_6)) (v7 : (c : Dev Cert.GramIdeal.nD) → Buf (Elt Ideal) ((c.tc : Thread Cert.GramIdeal.nD Cert.GramIdeal.τ).loc Cert.GramIdeal.main_v0_7)) (v8 : (c : Dev Cert.GramIdeal.nD) → Buf (Elt Ideal) ((c.tc : Thread Cert.GramIdeal.nD Cert.GramIdeal.τ).loc Cert.GramIdeal.main_v0_8)),
      θ_run (Cert.GramIdeal.defs (F := Ideal)) (onTc (τ := Cert.GramIdeal.τ) (Cert.GramIdeal.main (F := Ideal))) ⟨m, fun _ => 0, g⟩ (fun r => ∀ c : Dev Cert.GramIdeal.nD,
          r.2.mem ((c.tc : Thread Cert.GramIdeal.nD Cert.GramIdeal.τ).loc Cert.GramIdeal.main_v0_0) = v0 c
          ∧ r.2.mem ((c.tc : Thread Cert.GramIdeal.nD Cert.GramIdeal.τ).loc Cert.GramIdeal.main_v0_1) = v1 c
          ∧ r.2.mem ((c.tc : Thread Cert.GramIdeal.nD Cert.GramIdeal.τ).loc Cert.GramIdeal.main_v0_2) = v2 c
          ∧ r.2.mem ((c.tc : Thread Cert.GramIdeal.nD Cert.GramIdeal.τ).loc Cert.GramIdeal.main_v0_3) = v3 c
          ∧ r.2.mem ((c.tc : Thread Cert.GramIdeal.nD Cert.GramIdeal.τ).loc Cert.GramIdeal.main_v0_4) = v4 c
          ∧ r.2.mem ((c.tc : Thread Cert.GramIdeal.nD Cert.GramIdeal.τ).loc Cert.GramIdeal.main_v0_5) = v5 c
          ∧ r.2.mem ((c.tc : Thread Cert.GramIdeal.nD Cert.GramIdeal.τ).loc Cert.GramIdeal.main_v0_6) = v6 c
          ∧ r.2.mem ((c.tc : Thread Cert.GramIdeal.nD Cert.GramIdeal.τ).loc Cert.GramIdeal.main_v0_7) = v7 c
          ∧ r.2.mem ((c.tc : Thread Cert.GramIdeal.nD Cert.GramIdeal.τ).loc Cert.GramIdeal.main_v0_8) = v8 c
          ∧ r.2.mem ((c.tc : Thread Cert.GramIdeal.nD Cert.GramIdeal.τ).loc Cert.GramIdeal.main_arg0) = m ((c.tc : Thread Cert.GramIdeal.nD Cert.GramIdeal.τ).loc Cert.GramIdeal.main_arg0)
          ∧ r.2.mem ((c.tc : Thread Cert.GramIdeal.nD Cert.GramIdeal.τ).loc Cert.GramIdeal.main_arg1) = m ((c.tc : Thread Cert.GramIdeal.nD Cert.GramIdeal.τ).loc Cert.GramIdeal.main_arg1)
          ∧ r.2.mem ((c.tc : Thread Cert.GramIdeal.nD Cert.GramIdeal.τ).loc Cert.GramIdeal.main_arg2) = m ((c.tc : Thread Cert.GramIdeal.nD Cert.GramIdeal.τ).loc Cert.GramIdeal.main_arg2))
      ∧ θ_run (Cert.GramRefIdeal.defs (F := Ideal)) (onTc (τ := Cert.GramRefIdeal.τ) (Cert.GramRefIdeal.main (F := Ideal))) ⟨m', fun _ => 0, g'⟩ (fun r => ∀ c : Dev Cert.GramRefIdeal.nD,
          r.2.mem ((c.tc : Thread Cert.GramRefIdeal.nD Cert.GramRefIdeal.τ).loc Cert.GramRefIdeal.main_v42_0) = v0 c
          ∧ r.2.mem ((c.tc : Thread Cert.GramRefIdeal.nD Cert.GramRefIdeal.τ).loc Cert.GramRefIdeal.main_v42_2) = v1 c
          ∧ r.2.mem ((c.tc : Thread Cert.GramRefIdeal.nD Cert.GramRefIdeal.τ).loc Cert.GramRefIdeal.main_v88) = v2 c
          ∧ r.2.mem ((c.tc : Thread Cert.GramRefIdeal.nD Cert.GramRefIdeal.τ).loc Cert.GramRefIdeal.main_v89) = v3 c
          ∧ r.2.mem ((c.tc : Thread Cert.GramRefIdeal.nD Cert.GramRefIdeal.τ).loc Cert.GramRefIdeal.main_v90) = v4 c
          ∧ r.2.mem ((c.tc : Thread Cert.GramRefIdeal.nD Cert.GramRefIdeal.τ).loc Cert.GramRefIdeal.main_v80) = v5 c
          ∧ r.2.mem ((c.tc : Thread Cert.GramRefIdeal.nD Cert.GramRefIdeal.τ).loc Cert.GramRefIdeal.main_v82) = v6 c
          ∧ r.2.mem ((c.tc : Thread Cert.GramRefIdeal.nD Cert.GramRefIdeal.τ).loc Cert.GramRefIdeal.main_v91) = v7 c
          ∧ r.2.mem ((c.tc : Thread Cert.GramRefIdeal.nD Cert.GramRefIdeal.τ).loc Cert.GramRefIdeal.main_v92) = v8 c
          ∧ r.2.mem ((c.tc : Thread Cert.GramRefIdeal.nD Cert.GramRefIdeal.τ).loc Cert.GramRefIdeal.main_arg0) = m' ((c.tc : Thread Cert.GramRefIdeal.nD Cert.GramRefIdeal.τ).loc Cert.GramRefIdeal.main_arg0)
          ∧ r.2.mem ((c.tc : Thread Cert.GramRefIdeal.nD Cert.GramRefIdeal.τ).loc Cert.GramRefIdeal.main_arg1) = m' ((c.tc : Thread Cert.GramRefIdeal.nD Cert.GramRefIdeal.τ).loc Cert.GramRefIdeal.main_arg1)
          ∧ r.2.mem ((c.tc : Thread Cert.GramRefIdeal.nD Cert.GramRefIdeal.τ).loc Cert.GramRefIdeal.main_arg2) = m' ((c.tc : Thread Cert.GramRefIdeal.nD Cert.GramRefIdeal.τ).loc Cert.GramRefIdeal.main_arg2))

def Claim : Prop :=
  ∃ (hDw : Cert.Dw.Facts) (hDwIdeal : Cert.DwIdeal.Facts) (hDwRefIdeal : Cert.DwRefIdeal.Facts) (hDb : Cert.Db.Facts) (hDbIdeal : Cert.DbIdeal.Facts) (hDbRefIdeal : Cert.DbRefIdeal.Facts) (hGram : Cert.Gram.Facts) (hGramIdeal : Cert.GramIdeal.Facts) (hGramRefIdeal : Cert.GramRefIdeal.Facts),
    quiescent_Dw (hDw := hDw)
    ∧ quiescent_DwIdeal (hDwIdeal := hDwIdeal)
    ∧ quiescent_DwRefIdeal (hDwRefIdeal := hDwRefIdeal)
    ∧ quiescent_Db (hDb := hDb)
    ∧ quiescent_DbIdeal (hDbIdeal := hDbIdeal)
    ∧ quiescent_DbRefIdeal (hDbRefIdeal := hDbRefIdeal)
    ∧ quiescent_Gram (hGram := hGram)
    ∧ quiescent_GramIdeal (hGramIdeal := hGramIdeal)
    ∧ quiescent_GramRefIdeal (hGramRefIdeal := hGramRefIdeal)
    ∧ preserves_Dw_DwIdeal
    ∧ algebraic_DwIdeal_DwRefIdeal (hDwIdeal := hDwIdeal) (hDwRefIdeal := hDwRefIdeal)
    ∧ preserves_Db_DbIdeal
    ∧ algebraic_DbIdeal_DbRefIdeal (hDbIdeal := hDbIdeal) (hDbRefIdeal := hDbRefIdeal)
    ∧ preserves_Gram_GramIdeal
    ∧ algebraic_GramIdeal_GramRefIdeal (hGramIdeal := hGramIdeal) (hGramRefIdeal := hGramRefIdeal)
-- ==== Dw.lean ====
abbrev S20480x1536 : Shape := ⟨2, ![20480, 1536]⟩
abbrev S20480x6144 : Shape := ⟨2, ![20480, 6144]⟩
abbrev S20480x1 : Shape := ⟨2, ![20480, 1]⟩
abbrev S20480x128 : Shape := ⟨2, ![20480, 128]⟩
abbrev S1536x6144 : Shape := ⟨2, ![1536, 6144]⟩
abbrev S1024x1536 : Shape := ⟨2, ![1024, 1536]⟩
abbrev S1024x1024 : Shape := ⟨2, ![1024, 1024]⟩
abbrev S1024x128 : Shape := ⟨2, ![1024, 128]⟩
abbrev S1536x1024 : Shape := ⟨2, ![1536, 1024]⟩

abbrev nBuf : Space → Nat
  | .hbm => 7
  | .vmem => 12
  | .smem => 0
  | _ => 0

abbrev bufTy : (tb : Table) → Fin (tcTables nBuf tb) → BufTy
  | .hbm, ⟨0, _⟩ => ⟨S20480x1536, .fp8e4m3⟩
  | .hbm, ⟨1, _⟩ => ⟨S20480x6144, .fp8e5m2⟩
  | .hbm, ⟨2, _⟩ => ⟨S20480x1, .bf16⟩
  | .hbm, ⟨3, _⟩ => ⟨S20480x1, .bf16⟩
  | .hbm, ⟨4, _⟩ => ⟨S20480x128, .bf16⟩
  | .hbm, ⟨5, _⟩ => ⟨S20480x128, .bf16⟩
  | .hbm, ⟨6, _⟩ => ⟨S1536x6144, .f32⟩
  | .local _ .vmem, ⟨0, _⟩ => ⟨S1024x1536, .fp8e4m3⟩
  | .local _ .vmem, ⟨1, _⟩ => ⟨S1024x1536, .fp8e4m3⟩
  | .local _ .vmem, ⟨2, _⟩ => ⟨S1024x1024, .fp8e5m2⟩
  | .local _ .vmem, ⟨3, _⟩ => ⟨S1024x1024, .fp8e5m2⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1536x1024, .f32⟩
  | .local _ .vmem, ⟨9, _⟩ => ⟨S1536x1024, .f32⟩
  | .local _ .vmem, ⟨10, _⟩ => ⟨S1024x1536, .bf16⟩
  | .local _ .vmem, ⟨11, _⟩ => ⟨S1024x1024, .bf16⟩
  | _, _ => ⟨S20480x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwRefIdeal.lean ====
abbrev S20480x1536 : Shape := ⟨2, ![20480, 1536]⟩
abbrev S20480x6144 : Shape := ⟨2, ![20480, 6144]⟩
abbrev S20480x1 : Shape := ⟨2, ![20480, 1]⟩
abbrev S1536x6144 : Shape := ⟨2, ![1536, 6144]⟩

abbrev nBuf : Space → Nat
  | .hbm => 5
  | .vmem => 5
  | .smem => 0
  | _ => 0

abbrev bufTy : (tb : Table) → Fin (tcTables nBuf tb) → BufTy
  | .hbm, ⟨0, _⟩ => ⟨S20480x1536, .fp8e4m3⟩
  | .hbm, ⟨1, _⟩ => ⟨S20480x6144, .fp8e5m2⟩
  | .hbm, ⟨2, _⟩ => ⟨S20480x1, .bf16⟩
  | .hbm, ⟨3, _⟩ => ⟨S20480x1, .bf16⟩
  | .hbm, ⟨4, _⟩ => ⟨S1536x6144, .f32⟩
  | .local _ .vmem, ⟨0, _⟩ => ⟨S20480x1536, .fp8e4m3⟩
  | .local _ .vmem, ⟨1, _⟩ => ⟨S20480x6144, .fp8e5m2⟩
  | .local _ .vmem, ⟨2, _⟩ => ⟨S20480x1, .bf16⟩
  | .local _ .vmem, ⟨3, _⟩ => ⟨S20480x1, .bf16⟩
  | .local _ .vmem, ⟨4, _⟩ => ⟨S1536x6144, .f32⟩
  | _, _ => ⟨S20480x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S20480x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20480x6144 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20480x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20480x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Db.lean ====
abbrev S20x1x128 : Shape := ⟨3, ![20, 1, 128]⟩
abbrev S20x1x6144 : Shape := ⟨3, ![20, 1, 6144]⟩
abbrev S1x6144 : Shape := ⟨2, ![1, 6144]⟩
abbrev S1x1x1 : Shape := ⟨3, ![1, 1, 1]⟩
abbrev S1x1 : Shape := ⟨2, ![1, 1]⟩
abbrev S1x1x6144 : Shape := ⟨3, ![1, 1, 6144]⟩

abbrev nBuf : Space → Nat
  | .hbm => 3
  | .vmem => 3
  | .smem => 0
  | _ => 0

abbrev bufTy : (tb : Table) → Fin (tcTables nBuf tb) → BufTy
  | .hbm, ⟨0, _⟩ => ⟨S20x1x128, .f32⟩
  | .hbm, ⟨1, _⟩ => ⟨S20x1x6144, .f32⟩
  | .hbm, ⟨2, _⟩ => ⟨S1x6144, .f32⟩
  | .local _ .vmem, ⟨0, _⟩ => ⟨S20x1x128, .f32⟩
  | .local _ .vmem, ⟨1, _⟩ => ⟨S20x1x6144, .f32⟩
  | .local _ .vmem, ⟨2, _⟩ => ⟨S1x6144, .f32⟩
  | _, _ => ⟨S20x1x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S20x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DbRefIdeal.lean ====
abbrev S20x1x128 : Shape := ⟨3, ![20, 1, 128]⟩
abbrev S20x1x6144 : Shape := ⟨3, ![20, 1, 6144]⟩
abbrev S20x1x1 : Shape := ⟨3, ![20, 1, 1]⟩
abbrev S20 : Shape := ⟨1, ![20]⟩
abbrev S20x1 : Shape := ⟨2, ![20, 1]⟩
abbrev S20x6144 : Shape := ⟨2, ![20, 6144]⟩
abbrev S_ : Shape := ⟨0, ![]⟩
abbrev S6144 : Shape := ⟨1, ![6144]⟩
abbrev S1x6144 : Shape := ⟨2, ![1, 6144]⟩

abbrev nBuf : Space → Nat
  | .hbm => 11
  | .vmem => 0
  | .smem => 0
  | _ => 0

abbrev bufTy : (tb : Table) → Fin (tcTables nBuf tb) → BufTy
  | .hbm, ⟨0, _⟩ => ⟨S20x1x128, .f32⟩
  | .hbm, ⟨1, _⟩ => ⟨S20x1x6144, .f32⟩
  | .hbm, ⟨2, _⟩ => ⟨S20x1x1, .f32⟩
  | .hbm, ⟨3, _⟩ => ⟨S20, .f32⟩
  | .hbm, ⟨4, _⟩ => ⟨S20x1, .f32⟩
  | .hbm, ⟨5, _⟩ => ⟨S20x6144, .f32⟩
  | .hbm, ⟨6, _⟩ => ⟨S20x6144, .f32⟩
  | .hbm, ⟨7, _⟩ => ⟨S20x6144, .f32⟩
  | .hbm, ⟨8, _⟩ => ⟨S_, .f32⟩
  | .hbm, ⟨9, _⟩ => ⟨S6144, .f32⟩
  | .hbm, ⟨10, _⟩ => ⟨S1x6144, .f32⟩
  | _, _ => ⟨S20x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gram.lean ====
abbrev S20x1024x1536 : Shape := ⟨3, ![20, 1024, 1536]⟩
abbrev S20x1024x6144 : Shape := ⟨3, ![20, 1024, 6144]⟩
abbrev S1 : Shape := ⟨1, ![1]⟩
abbrev S20x1x1024 : Shape := ⟨3, ![20, 1, 1024]⟩
abbrev S20x1024x128 : Shape := ⟨3, ![20, 1024, 128]⟩
abbrev S20x1x6144 : Shape := ⟨3, ![20, 1, 6144]⟩
abbrev S20x1x128 : Shape := ⟨3, ![20, 1, 128]⟩
abbrev S1x1024x1536 : Shape := ⟨3, ![1, 1024, 1536]⟩
abbrev S1x1024x6144 : Shape := ⟨3, ![1, 1024, 6144]⟩
abbrev S1x1x1024 : Shape := ⟨3, ![1, 1, 1024]⟩
abbrev S1x1024x128 : Shape := ⟨3, ![1, 1024, 128]⟩
abbrev S1x1x6144 : Shape := ⟨3, ![1, 1, 6144]⟩
abbrev S1x1x128 : Shape := ⟨3, ![1, 1, 128]⟩
abbrev S2x1024x128 : Shape := ⟨3, ![2, 1024, 128]⟩
abbrev S1x128x1536 : Shape := ⟨3, ![1, 128, 1536]⟩
abbrev S128x1536 : Shape := ⟨2, ![128, 1536]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S1x128x6144 : Shape := ⟨3, ![1, 128, 6144]⟩
abbrev S128x6144 : Shape := ⟨2, ![128, 6144]⟩
abbrev S1x128 : Shape := ⟨2, ![1, 128]⟩
abbrev S1x1024 : Shape := ⟨2, ![1, 1024]⟩
abbrev S1x1 : Shape := ⟨2, ![1, 1]⟩
abbrev S1x256x1536 : Shape := ⟨3, ![1, 256, 1536]⟩
abbrev S256x1536 : Shape := ⟨2, ![256, 1536]⟩
abbrev S1024x1536 : Shape := ⟨2, ![1024, 1536]⟩
abbrev S256x1024 : Shape := ⟨2, ![256, 1024]⟩
abbrev S1x256x6144 : Shape := ⟨3, ![1, 256, 6144]⟩
abbrev S256x6144 : Shape := ⟨2, ![256, 6144]⟩
abbrev S1024x6144 : Shape := ⟨2, ![1024, 6144]⟩
abbrev S1x256x1 : Shape := ⟨3, ![1, 256, 1]⟩
abbrev S256x1 : Shape := ⟨2, ![256, 1]⟩
abbrev S256 : Shape := ⟨1, ![256]⟩
abbrev S256x128 : Shape := ⟨2, ![256, 128]⟩
abbrev S128x256 : Shape := ⟨2, ![128, 256]⟩
abbrev S1x256 : Shape := ⟨2, ![1, 256]⟩
abbrev S1x1x256 : Shape := ⟨3, ![1, 1, 256]⟩
abbrev S1x6144 : Shape := ⟨2, ![1, 6144]⟩
abbrev S1024x128 : Shape := ⟨2, ![1024, 128]⟩

abbrev nBuf : Space → Nat
  | .hbm => 12
  | .vmem => 23
  | .smem => 1
  | _ => 0

abbrev bufTy : (tb : Table) → Fin (tcTables nBuf tb) → BufTy
  | .hbm, ⟨0, _⟩ => ⟨S20x1024x1536, .bf16⟩
  | .hbm, ⟨1, _⟩ => ⟨S20x1024x6144, .bf16⟩
  | .hbm, ⟨2, _⟩ => ⟨S1, .f32⟩
  | .hbm, ⟨3, _⟩ => ⟨S20x1024x1536, .fp8e4m3⟩
  | .hbm, ⟨4, _⟩ => ⟨S20x1024x6144, .fp8e5m2⟩
  | .hbm, ⟨5, _⟩ => ⟨S20x1x1024, .f32⟩
  | .hbm, ⟨6, _⟩ => ⟨S20x1x1024, .f32⟩
  | .hbm, ⟨7, _⟩ => ⟨S20x1x1024, .f32⟩
  | .hbm, ⟨8, _⟩ => ⟨S20x1024x128, .bf16⟩
  | .hbm, ⟨9, _⟩ => ⟨S20x1024x128, .bf16⟩
  | .hbm, ⟨10, _⟩ => ⟨S20x1x6144, .f32⟩
  | .hbm, ⟨11, _⟩ => ⟨S20x1x128, .f32⟩
  | .local _ .vmem, ⟨0, _⟩ => ⟨S1x1024x1536, .bf16⟩
  | .local _ .vmem, ⟨1, _⟩ => ⟨S1x1024x1536, .bf16⟩
  | .local _ .vmem, ⟨2, _⟩ => ⟨S1x1024x6144, .bf16⟩
  | .local _ .vmem, ⟨3, _⟩ => ⟨S1x1024x6144, .bf16⟩
  | .local _ .vmem, ⟨4, _⟩ => ⟨S1x1024x1536, .fp8e4m3⟩
  | .local _ .vmem, ⟨5, _⟩ => ⟨S1x1024x1536, .fp8e4m3⟩
  | .local _ .vmem, ⟨6, _⟩ => ⟨S1x1024x6144, .fp8e5m2⟩
  | .local _ .vmem, ⟨7, _⟩ => ⟨S1x1024x6144, .fp8e5m2⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .bf16⟩
  | .local _ .vmem, ⟨18, _⟩ => ⟨S1x1x6144, .f32⟩
  | .local _ .vmem, ⟨19, _⟩ => ⟨S1x1x6144, .f32⟩
  | .local _ .vmem, ⟨20, _⟩ => ⟨S1x1x128, .f32⟩
  | .local _ .vmem, ⟨21, _⟩ => ⟨S1x1x128, .f32⟩
  | .local _ .vmem, ⟨22, _⟩ => ⟨S2x1024x128, .f32⟩
  | .local _ .smem, ⟨0, _⟩ => ⟨S1, .f32⟩
  | _, _ => ⟨S20x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  v196
def k0_off1 (k0_t1 : Fin k0_t1_loop.trips) : Fin 3 → Nat :=
  let c0_133 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v198 : Index := Scalar.indexCast v197
  let c0_134 : Index := 0#32
  ![0, v198.toNat, 0]
def k0_off2 (k0_t1 : Fin k0_t1_loop.trips) : Fin 3 → Nat :=
  let c0_181 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v411 : Index := Scalar.indexCast v197
  let c0_182 : Index := 0#32
  ![0, v411.toNat, 0]
def k0_off3 (k0_t1 : Fin k0_t1_loop.trips) : Fin 3 → Nat :=
  let c0_183 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v415 : Index := Scalar.indexCast v197
  let c128 : Index := 128#32
  ![0, v415.toNat, 128]
def k0_off4 (k0_t1 : Fin k0_t1_loop.trips) : Fin 3 → Nat :=
  let c0_184 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v419 : Index := Scalar.indexCast v197
  let c256_185 : Index := 256#32
  ![0, v419.toNat, 256]
def k0_off5 (k0_t1 : Fin k0_t1_loop.trips) : Fin 3 → Nat :=
  let c0_186 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v423 : Index := Scalar.indexCast v197
  let c384 : Index := 384#32
  ![0, v423.toNat, 384]
def k0_off6 (k0_t1 : Fin k0_t1_loop.trips) : Fin 3 → Nat :=
  let c0_187 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v427 : Index := Scalar.indexCast v197
  let c512_188 : Index := 512#32
  ![0, v427.toNat, 512]
def k0_off7 (k0_t1 : Fin k0_t1_loop.trips) : Fin 3 → Nat :=
  let c0_189 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v431 : Index := Scalar.indexCast v197
  let c640 : Index := 640#32
  ![0, v431.toNat, 640]
def k0_off8 (k0_t1 : Fin k0_t1_loop.trips) : Fin 3 → Nat :=
  let c0_190 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v435 : Index := Scalar.indexCast v197
  let c768_191 : Index := 768#32
  ![0, v435.toNat, 768]
def k0_off9 (k0_t1 : Fin k0_t1_loop.trips) : Fin 3 → Nat :=
  let c0_192 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v439 : Index := Scalar.indexCast v197
  let c896 : Index := 896#32
  ![0, v439.toNat, 896]
def k0_off10 (k0_t1 : Fin k0_t1_loop.trips) : Fin 3 → Nat :=
  let c0_193 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v443 : Index := Scalar.indexCast v197
  let c1024 : Index := 1024#32
  ![0, v443.toNat, 1024]
def k0_off11 (k0_t1 : Fin k0_t1_loop.trips) : Fin 3 → Nat :=
  let c0_194 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v447 : Index := Scalar.indexCast v197
  let c1152 : Index := 1152#32
  ![0, v447.toNat, 1152]
def k0_off12 (k0_t1 : Fin k0_t1_loop.trips) : Fin 3 → Nat :=
  let c0_195 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v451 : Index := Scalar.indexCast v197
  let c1280 : Index := 1280#32
  ![0, v451.toNat, 1280]
def k0_off13 (k0_t1 : Fin k0_t1_loop.trips) : Fin 3 → Nat :=
  let c0_196 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v455 : Index := Scalar.indexCast v197
  let c1408 : Index := 1408#32
  ![0, v455.toNat, 1408]
def k0_off14 (k0_t1 : Fin k0_t1_loop.trips) : Fin 3 → Nat :=
  let c0_197 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v459 : Index := Scalar.indexCast v197
  let c0_198 : Index := 0#32
  ![0, v459.toNat, 0]
def k0_off15 (k0_t1 : Fin k0_t1_loop.trips) : Fin 3 → Nat :=
  let c0_326 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1032 : Index := Scalar.indexCast v197
  let c0_327 : Index := 0#32
  ![0, v1032.toNat, 0]
def k0_off16 (k0_t1 : Fin k0_t1_loop.trips) : Fin 3 → Nat :=
  let c0_335 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1046 : Index := Scalar.indexCast v197
  let c128_336 : Index := 128#32
  ![0, v1046.toNat, 128]
def k0_off17 (k0_t1 : Fin k0_t1_loop.trips) : Fin 3 → Nat :=
  let c0_344 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1060 : Index := Scalar.indexCast v197
  let c256_345 : Index := 256#32
  ![0, v1060.toNat, 256]
def k0_off18 (k0_t1 : Fin k0_t1_loop.trips) : Fin 3 → Nat :=
  let c0_353 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1074 : Index := Scalar.indexCast v197
  let c384_354 : Index := 384#32
  ![0, v1074.toNat, 384]
def k0_off19 (k0_t1 : Fin k0_t1_loop.trips) : Fin 3 → Nat :=
  let c0_362 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1088 : Index := Scalar.indexCast v197
  let c512_363 : Index := 512#32
  ![0, v1088.toNat, 512]
def k0_off20 (k0_t1 : Fin k0_t1_loop.trips) : Fin 3 → Nat :=
  let c0_371 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1102 : Index := Scalar.indexCast v197
  let c640_372 : Index := 640#32
  ![0, v1102.toNat, 640]
def k0_off21 (k0_t1 : Fin k0_t1_loop.trips) : Fin 3 → Nat :=
  let c0_380 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1116 : Index := Scalar.indexCast v197
  let c768_381 : Index := 768#32
  ![0, v1116.toNat, 768]
def k0_off22 (k0_t1 : Fin k0_t1_loop.trips) : Fin 3 → Nat :=
  let c0_389 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1130 : Index := Scalar.indexCast v197
  let c896_390 : Index := 896#32
  ![0, v1130.toNat, 896]
def k0_off23 (k0_t1 : Fin k0_t1_loop.trips) : Fin 3 → Nat :=
  let c0_398 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1144 : Index := Scalar.indexCast v197
  let c1024_399 : Index := 1024#32
  ![0, v1144.toNat, 1024]
def k0_off24 (k0_t1 : Fin k0_t1_loop.trips) : Fin 3 → Nat :=
  let c0_407 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1158 : Index := Scalar.indexCast v197
  let c1152_408 : Index := 1152#32
  ![0, v1158.toNat, 1152]
def k0_off25 (k0_t1 : Fin k0_t1_loop.trips) : Fin 3 → Nat :=
  let c0_416 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1172 : Index := Scalar.indexCast v197
  let c1280_417 : Index := 1280#32
  ![0, v1172.toNat, 1280]
def k0_off26 (k0_t1 : Fin k0_t1_loop.trips) : Fin 3 → Nat :=
  let c0_425 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1186 : Index := Scalar.indexCast v197
  let c1408_426 : Index := 1408#32
  ![0, v1186.toNat, 1408]
def k0_off27 (k0_t1 : Fin k0_t1_loop.trips) : Fin 3 → Nat :=
  let c0_434 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1200 : Index := Scalar.indexCast v197
  let c1536 : Index := 1536#32
  ![0, v1200.toNat, 1536]
def k0_off28 (k0_t1 : Fin k0_t1_loop.trips) : Fin 3 → Nat :=
  let c0_442 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1214 : Index := Scalar.indexCast v197
  let c1664 : Index := 1664#32
  ![0, v1214.toNat, 1664]
def k0_off29 (k0_t1 : Fin k0_t1_loop.trips) : Fin 3 → Nat :=
  let c0_450 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1228 : Index := Scalar.indexCast v197
  let c1792 : Index := 1792#32
  ![0, v1228.toNat, 1792]
def k0_off30 (k0_t1 : Fin k0_t1_loop.trips) : Fin 3 → Nat :=
  let c0_458 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1242 : Index := Scalar.indexCast v197
  let c1920 : Index := 1920#32
  ![0, v1242.toNat, 1920]
def k0_off31 (k0_t1 : Fin k0_t1_loop.trips) : Fin 3 → Nat :=
  let c0_466 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1256 : Index := Scalar.indexCast v197
  let c2048 : Index := 2048#32
  ![0, v1256.toNat, 2048]
def k0_off32 (k0_t1 : Fin k0_t1_loop.trips) : Fin 3 → Nat :=
  let c0_474 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1270 : Index := Scalar.indexCast v197
  let c2176 : Index := 2176#32
  ![0, v1270.toNat, 2176]
def k0_off33 (k0_t1 : Fin k0_t1_loop.trips) : Fin 3 → Nat :=
  let c0_482 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1284 : Index := Scalar.indexCast v197
  let c2304 : Index := 2304#32
  ![0, v1284.toNat, 2304]
def k0_off34 (k0_t1 : Fin k0_t1_loop.trips) : Fin 3 → Nat :=
  let c0_490 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1298 : Index := Scalar.indexCast v197
  let c2432 : Index := 2432#32
  ![0, v1298.toNat, 2432]
def k0_off35 (k0_t1 : Fin k0_t1_loop.trips) : Fin 3 → Nat :=
  let c0_498 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1312 : Index := Scalar.indexCast v197
  let c2560 : Index := 2560#32
  ![0, v1312.toNat, 2560]
def k0_off36 (k0_t1 : Fin k0_t1_loop.trips) : Fin 3 → Nat :=
  let c0_506 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1326 : Index := Scalar.indexCast v197
  let c2688 : Index := 2688#32
  ![0, v1326.toNat, 2688]
def k0_off37 (k0_t1 : Fin k0_t1_loop.trips) : Fin 3 → Nat :=
  let c0_514 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1340 : Index := Scalar.indexCast v197
  let c2816 : Index := 2816#32
  ![0, v1340.toNat, 2816]
def k0_off38 (k0_t1 : Fin k0_t1_loop.trips) : Fin 3 → Nat :=
  let c0_522 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1354 : Index := Scalar.indexCast v197
  let c2944 : Index := 2944#32
  ![0, v1354.toNat, 2944]
def k0_off39 (k0_t1 : Fin k0_t1_loop.trips) : Fin 3 → Nat :=
  let c0_530 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1368 : Index := Scalar.indexCast v197
  let c3072 : Index := 3072#32
  ![0, v1368.toNat, 3072]
def k0_off40 (k0_t1 : Fin k0_t1_loop.trips) : Fin 3 → Nat :=
  let c0_538 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1382 : Index := Scalar.indexCast v197
  let c3200 : Index := 3200#32
  ![0, v1382.toNat, 3200]
def k0_off41 (k0_t1 : Fin k0_t1_loop.trips) : Fin 3 → Nat :=
  let c0_546 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1396 : Index := Scalar.indexCast v197
  let c3328 : Index := 3328#32
  ![0, v1396.toNat, 3328]
def k0_off42 (k0_t1 : Fin k0_t1_loop.trips) : Fin 3 → Nat :=
  let c0_554 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1410 : Index := Scalar.indexCast v197
  let c3456 : Index := 3456#32
  ![0, v1410.toNat, 3456]
def k0_off43 (k0_t1 : Fin k0_t1_loop.trips) : Fin 3 → Nat :=
  let c0_562 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1424 : Index := Scalar.indexCast v197
  let c3584 : Index := 3584#32
  ![0, v1424.toNat, 3584]
def k0_off44 (k0_t1 : Fin k0_t1_loop.trips) : Fin 3 → Nat :=
  let c0_570 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1438 : Index := Scalar.indexCast v197
  let c3712 : Index := 3712#32
  ![0, v1438.toNat, 3712]
def k0_off45 (k0_t1 : Fin k0_t1_loop.trips) : Fin 3 → Nat :=
  let c0_578 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1452 : Index := Scalar.indexCast v197
  let c3840 : Index := 3840#32
  ![0, v1452.toNat, 3840]
def k0_off46 (k0_t1 : Fin k0_t1_loop.trips) : Fin 3 → Nat :=
  let c0_586 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1466 : Index := Scalar.indexCast v197
  let c3968 : Index := 3968#32
  ![0, v1466.toNat, 3968]
def k0_off47 (k0_t1 : Fin k0_t1_loop.trips) : Fin 3 → Nat :=
  let c0_594 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1480 : Index := Scalar.indexCast v197
  let c4096 : Index := 4096#32
  ![0, v1480.toNat, 4096]
def k0_off48 (k0_t1 : Fin k0_t1_loop.trips) : Fin 3 → Nat :=
  let c0_602 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1494 : Index := Scalar.indexCast v197
  let c4224 : Index := 4224#32
  ![0, v1494.toNat, 4224]
def k0_off49 (k0_t1 : Fin k0_t1_loop.trips) : Fin 3 → Nat :=
  let c0_610 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1508 : Index := Scalar.indexCast v197
  let c4352 : Index := 4352#32
  ![0, v1508.toNat, 4352]
def k0_off50 (k0_t1 : Fin k0_t1_loop.trips) : Fin 3 → Nat :=
  let c0_618 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1522 : Index := Scalar.indexCast v197
  let c4480 : Index := 4480#32
  ![0, v1522.toNat, 4480]
def k0_off51 (k0_t1 : Fin k0_t1_loop.trips) : Fin 3 → Nat :=
  let c0_626 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1536 : Index := Scalar.indexCast v197
  let c4608 : Index := 4608#32
  ![0, v1536.toNat, 4608]
def k0_off52 (k0_t1 : Fin k0_t1_loop.trips) : Fin 3 → Nat :=
  let c0_634 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1550 : Index := Scalar.indexCast v197
  let c4736 : Index := 4736#32
  ![0, v1550.toNat, 4736]
def k0_off53 (k0_t1 : Fin k0_t1_loop.trips) : Fin 3 → Nat :=
  let c0_642 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1564 : Index := Scalar.indexCast v197
  let c4864 : Index := 4864#32
  ![0, v1564.toNat, 4864]
def k0_off54 (k0_t1 : Fin k0_t1_loop.trips) : Fin 3 → Nat :=
  let c0_650 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1578 : Index := Scalar.indexCast v197
  let c4992 : Index := 4992#32
  ![0, v1578.toNat, 4992]
def k0_off55 (k0_t1 : Fin k0_t1_loop.trips) : Fin 3 → Nat :=
  let c0_658 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1592 : Index := Scalar.indexCast v197
  let c5120 : Index := 5120#32
  ![0, v1592.toNat, 5120]
def k0_off56 (k0_t1 : Fin k0_t1_loop.trips) : Fin 3 → Nat :=
  let c0_666 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1606 : Index := Scalar.indexCast v197
  let c5248 : Index := 5248#32
  ![0, v1606.toNat, 5248]
def k0_off57 (k0_t1 : Fin k0_t1_loop.trips) : Fin 3 → Nat :=
  let c0_674 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1620 : Index := Scalar.indexCast v197
  let c5376 : Index := 5376#32
  ![0, v1620.toNat, 5376]
def k0_off58 (k0_t1 : Fin k0_t1_loop.trips) : Fin 3 → Nat :=
  let c0_682 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1634 : Index := Scalar.indexCast v197
  let c5504 : Index := 5504#32
  ![0, v1634.toNat, 5504]
def k0_off59 (k0_t1 : Fin k0_t1_loop.trips) : Fin 3 → Nat :=
  let c0_690 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1648 : Index := Scalar.indexCast v197
  let c5632 : Index := 5632#32
  ![0, v1648.toNat, 5632]
def k0_off60 (k0_t1 : Fin k0_t1_loop.trips) : Fin 3 → Nat :=
  let c0_698 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1662 : Index := Scalar.indexCast v197
  let c5760 : Index := 5760#32
  ![0, v1662.toNat, 5760]
def k0_off61 (k0_t1 : Fin k0_t1_loop.trips) : Fin 3 → Nat :=
  let c0_706 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1676 : Index := Scalar.indexCast v197
  let c5888 : Index := 5888#32
  ![0, v1676.toNat, 5888]
def k0_off62 (k0_t1 : Fin k0_t1_loop.trips) : Fin 3 → Nat :=
  let c0_714 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1690 : Index := Scalar.indexCast v197
  let c6016 : Index := 6016#32
  ![0, v1690.toNat, 6016]
def k0_off63 (k0_t1 : Fin k0_t1_loop.trips) : Fin 3 → Nat :=
  let c0_722 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1704 : Index := Scalar.indexCast v197
  let c0_723 : Index := 0#32
  ![0, v1704.toNat, 0]
def k0_off64 (k0_t1 : Fin k0_t1_loop.trips) : Fin 3 → Nat :=
  let c1_724 : Index := 1#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1708 : Index := Scalar.indexCast v197
  let c0_725 : Index := 0#32
  ![1, v1708.toNat, 0]
def k0_off65 (k0_t1 : Fin k0_t1_loop.trips) : Fin 3 → Nat :=
  let c0_726 : Index := 0#32
  let c0_727 : Index := 0#32
  let c0_i32_132 : BitVec 32 := 0#32
  let c0_i32 : BitVec 32 := 0#32
  let c1_i32 : BitVec 32 := 1#32
  let arg14 : BitVec 32 := Scf.iv c0_i32 c1_i32 k0_t1
  let c1_i32_131 : BitVec 32 := 1#32
  let v194 : BitVec 32 := Scalar.muli arg14 c1_i32_131
  let v195 : BitVec 32 := Scalar.addi c0_i32_132 v194
  let c128_i32 : BitVec 32 := 128#32
  let v196 : BitVec 32 := Scalar.muli v195 c128_i32
  let v197 : BitVec 32 := v196
  let v1714 : Index := Scalar.indexCast v197
  ![0, 0, v1714.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x6144 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x6144 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GramRefIdeal.lean ====
abbrev S20x1024x1536 : Shape := ⟨3, ![20, 1024, 1536]⟩
abbrev S20x1024x6144 : Shape := ⟨3, ![20, 1024, 6144]⟩
abbrev S1 : Shape := ⟨1, ![1]⟩
abbrev S254 : Shape := ⟨1, ![254]⟩
abbrev S_ : Shape := ⟨0, ![]⟩
abbrev S20x1024 : Shape := ⟨2, ![20, 1024]⟩
abbrev S20x1024x1 : Shape := ⟨3, ![20, 1024, 1]⟩
abbrev S1x1x254 : Shape := ⟨3, ![1, 1, 254]⟩
abbrev S20x1024x254 : Shape := ⟨3, ![20, 1024, 254]⟩
abbrev S20x1024x1024 : Shape := ⟨3, ![20, 1024, 1024]⟩
abbrev S20x1x1024 : Shape := ⟨3, ![20, 1, 1024]⟩
abbrev S20x6144 : Shape := ⟨2, ![20, 6144]⟩
abbrev S20 : Shape := ⟨1, ![20]⟩
abbrev S20x1 : Shape := ⟨2, ![20, 1]⟩
abbrev S20x1024x128 : Shape := ⟨3, ![20, 1024, 128]⟩
abbrev S20x126 : Shape := ⟨2, ![20, 126]⟩
abbrev S20x128 : Shape := ⟨2, ![20, 128]⟩
abbrev S20x1x6144 : Shape := ⟨3, ![20, 1, 6144]⟩
abbrev S20x1x128 : Shape := ⟨3, ![20, 1, 128]⟩

abbrev nBuf : Space → Nat
  | .hbm => 139
  | .vmem => 8
  | .smem => 0
  | _ => 0

abbrev hbmTy0_0 (i : Nat) : BufTy := match i % 128 with
  | 0 => ⟨S20x1024x1536, .bf16⟩
  | 1 => ⟨S20x1024x6144, .bf16⟩
  | 2 => ⟨S1, .f32⟩
  | 3 => ⟨S254, .f32⟩
  | 4 => ⟨S254, .f32⟩
  | 5 => ⟨S20x1024x1536, .f32⟩
  | 6 => ⟨S20x1024x1536, .f32⟩
  | 7 => ⟨S_, .f32⟩
  | 8 => ⟨S20x1024, .f32⟩
  | 9 => ⟨S_, .f32⟩
  | 10 => ⟨S20x1024, .f32⟩
  | 11 => ⟨S20x1024, .f32⟩
  | 12 => ⟨S20x1024x1, .f32⟩
  | 13 => ⟨S1x1x254, .f32⟩
  | 14 => ⟨S20x1024x254, .f32⟩
  | 15 => ⟨S20x1024x254, .f32⟩
  | 16 => ⟨S20x1024x254, .i1⟩
  | 17 => ⟨S_, .f32⟩
  | 18 => ⟨S_, .f32⟩
  | 19 => ⟨S20x1024x254, .f32⟩
  | 20 => ⟨S20x1024x254, .f32⟩
  | 21 => ⟨S20x1024x254, .f32⟩
  | 22 => ⟨S_, .f32⟩
  | 23 => ⟨S20x1024, .f32⟩
  | 24 => ⟨S_, .f32⟩
  | 25 => ⟨S20x1024, .f32⟩
  | 26 => ⟨S20x1024, .i1⟩
  | 27 => ⟨S_, .f32⟩
  | 28 => ⟨S_, .f32⟩
  | 29 => ⟨S20x1024, .f32⟩
  | 30 => ⟨S20x1024, .f32⟩
  | 31 => ⟨S_, .f32⟩
  | 32 => ⟨S20x1024, .f32⟩
  | 33 => ⟨S20x1024, .i1⟩
  | 34 => ⟨S_, .f32⟩
  | 35 => ⟨S20x1024, .f32⟩
  | 36 => ⟨S20x1024, .f32⟩
  | 37 => ⟨S_, .f32⟩
  | 38 => ⟨S_, .f32⟩
  | 39 => ⟨S20x1024, .f32⟩
  | 40 => ⟨S20x1024, .f32⟩
  | 41 => ⟨S20x1024x6144, .f32⟩
  | 42 => ⟨S20x1024x6144, .f32⟩
  | 43 => ⟨S_, .f32⟩
  | 44 => ⟨S20x1024, .f32⟩
  | 45 => ⟨S_, .f32⟩
  | 46 => ⟨S20x1024, .f32⟩
  | 47 => ⟨S20x1024, .f32⟩
  | 48 => ⟨S20x1024x1, .f32⟩
  | 49 => ⟨S1x1x254, .f32⟩
  | 50 => ⟨S20x1024x254, .f32⟩
  | 51 => ⟨S20x1024x254, .f32⟩
  | 52 => ⟨S20x1024x254, .i1⟩
  | 53 => ⟨S_, .f32⟩
  | 54 => ⟨S_, .f32⟩
  | 55 => ⟨S20x1024x254, .f32⟩
  | 56 => ⟨S20x1024x254, .f32⟩
  | 57 => ⟨S20x1024x254, .f32⟩
  | 58 => ⟨S_, .f32⟩
  | 59 => ⟨S20x1024, .f32⟩
  | 60 => ⟨S_, .f32⟩
  | 61 => ⟨S20x1024, .f32⟩
  | 62 => ⟨S20x1024, .i1⟩
  | 63 => ⟨S_, .f32⟩
  | 64 => ⟨S_, .f32⟩
  | 65 => ⟨S20x1024, .f32⟩
  | 66 => ⟨S20x1024, .f32⟩
  | 67 => ⟨S_, .f32⟩
  | 68 => ⟨S20x1024, .f32⟩
  | 69 => ⟨S20x1024, .i1⟩
  | 70 => ⟨S_, .f32⟩
  | 71 => ⟨S20x1024, .f32⟩
  | 72 => ⟨S20x1024, .f32⟩
  | 73 => ⟨S_, .f32⟩
  | 74 => ⟨S_, .f32⟩
  | 75 => ⟨S20x1024, .f32⟩
  | 76 => ⟨S20x1024, .f32⟩
  | 77 => ⟨S20x1024x1, .f32⟩
  | 78 => ⟨S20x1024x1, .f32⟩
  | 79 => ⟨S20x1024x1536, .fp8e4m3⟩
  | 80 => ⟨S20x1024x1536, .f32⟩
  | 81 => ⟨S20x1024x6144, .fp8e5m2⟩
  | 82 => ⟨S20x1024x6144, .f32⟩
  | 83 => ⟨S20x1024x1024, .f32⟩
  | 84 => ⟨S20x1024x1, .f32⟩
  | 85 => ⟨S20x1x1024, .f32⟩
  | 86 => ⟨S20x1024x1024, .f32⟩
  | 87 => ⟨S20x1024x1024, .f32⟩
  | 88 => ⟨S20x1024x1024, .f32⟩
  | 89 => ⟨S20x1024x1024, .f32⟩
  | 90 => ⟨S20x1024x1024, .f32⟩
  | 91 => ⟨S20x1024x1, .f32⟩
  | 92 => ⟨S20x1x1024, .f32⟩
  | 93 => ⟨S20x1024x1024, .f32⟩
  | 94 => ⟨S20x1024x1024, .f32⟩
  | 95 => ⟨S20x1024x1024, .f32⟩
  | 96 => ⟨S20x1024x1024, .f32⟩
  | 97 => ⟨S20x1024x1024, .f32⟩
  | 98 => ⟨S_, .f32⟩
  | 99 => ⟨S20x1024, .f32⟩
  | 100 => ⟨S20x6144, .f32⟩
  | 101 => ⟨S20x6144, .f32⟩
  | 102 => ⟨S_, .f32⟩
  | 103 => ⟨S20, .f32⟩
  | 104 => ⟨S_, .f32⟩
  | 105 => ⟨S20, .f32⟩
  | 106 => ⟨S20, .f32⟩
  | 107 => ⟨S_, .f32⟩
  | 108 => ⟨S20, .f32⟩
  | 109 => ⟨S20, .f32⟩
  | 110 => ⟨S20, .f32⟩
  | 111 => ⟨S_, .f32⟩
  | 112 => ⟨S_, .f32⟩
  | 113 => ⟨S20, .f32⟩
  | 114 => ⟨S20, .f32⟩
  | 115 => ⟨S20, .f32⟩
  | 116 => ⟨S20, .f32⟩
  | 117 => ⟨S_, .f32⟩
  | 118 => ⟨S20, .f32⟩
  | 119 => ⟨S20, .f32⟩
  | 120 => ⟨S20x1, .f32⟩
  | 121 => ⟨S20x1024, .f32⟩
  | 122 => ⟨S20x1024, .f32⟩
  | 123 => ⟨S20x1024, .bf16⟩
  | 124 => ⟨S20x1024, .bf16⟩
  | 125 => ⟨S20x1024x1, .bf16⟩
  | 126 => ⟨S20x1024x128, .bf16⟩
  | 127 => ⟨S20x1024x1, .bf16⟩
  | _ => ⟨S20x1024x1536, .bf16⟩

abbrev hbmTy0_1 (i : Nat) : BufTy := match i % 128 with
  | 0 => ⟨S20x1024x128, .bf16⟩
  | 1 => ⟨S20x1, .f32⟩
  | 2 => ⟨S20x1, .f32⟩
  | 3 => ⟨S20x1, .f32⟩
  | 4 => ⟨S20x126, .f32⟩
  | 5 => ⟨S20x128, .f32⟩
  | 6 => ⟨S20x1x1024, .f32⟩
  | 7 => ⟨S20x1x1024, .f32⟩
  | 8 => ⟨S20x1x1024, .f32⟩
  | 9 => ⟨S20x1x6144, .f32⟩
  | 10 => ⟨S20x1x128, .f32⟩
  | _ => ⟨S20x1024x1536, .bf16⟩

abbrev hbmTy (i : Nat) : BufTy := match i / 128 with
  | 0 => hbmTy0_0 i
  | 1 => hbmTy0_1 i
  | _ => ⟨S20x1024x1536, .bf16⟩

abbrev bufTy : (tb : Table) → Fin (tcTables nBuf tb) → BufTy
  | .hbm, ⟨i, _⟩ => hbmTy i
  | .local _ .vmem, ⟨0, _⟩ => ⟨S20x1024x1536, .bf16⟩
  | .local _ .vmem, ⟨1, _⟩ => ⟨S20x1024x1, .f32⟩
  | .local _ .vmem, ⟨2, _⟩ => ⟨S20x1024x6144, .bf16⟩
  | .local _ .vmem, ⟨3, _⟩ => ⟨S20x1024x1, .f32⟩
  | .local _ .vmem, ⟨4, _⟩ => ⟨S20x1024x1536, .fp8e4m3⟩
  | .local _ .vmem, ⟨5, _⟩ => ⟨S20x1024x1536, .f32⟩
  | .local _ .vmem, ⟨6, _⟩ => ⟨S20x1024x6144, .fp8e5m2⟩
  | .local _ .vmem, ⟨7, _⟩ => ⟨S20x1024x6144, .f32⟩
  | _, _ => ⟨S20x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_cst_6 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_cst_7 : Ref sig .tc := ⟨.hbm, 31, rfl⟩
abbrev main_v15 : Ref sig .tc := ⟨.hbm, 32, rfl⟩
abbrev main_v16 : Ref sig .tc := ⟨.hbm, 33, rfl⟩
abbrev main_cst_8 : Ref sig .tc := ⟨.hbm, 34, rfl⟩
abbrev main_v17 : Ref sig .tc := ⟨.hbm, 35, rfl⟩
abbrev main_v18 : Ref sig .tc := ⟨.hbm, 36, rfl⟩
abbrev main_cst_9 : Ref sig .tc := ⟨.hbm, 37, rfl⟩
abbrev main_call2_v0 : Ref sig .tc := ⟨.hbm, 38, rfl⟩
abbrev main_call2_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_10 : Ref sig .tc := ⟨.hbm, 43, rfl⟩
abbrev main_v22 : Ref sig .tc := ⟨.hbm, 44, rfl⟩
abbrev main_cst_11 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_12 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v30 : Ref sig .tc := ⟨.hbm, 57, rfl⟩
abbrev main_cst_13 : Ref sig .tc := ⟨.hbm, 58, rfl⟩
abbrev main_v31 : Ref sig .tc := ⟨.hbm, 59, rfl⟩
abbrev main_cst_14 : Ref sig .tc := ⟨.hbm, 60, rfl⟩
abbrev main_v32 : Ref sig .tc := ⟨.hbm, 61, rfl⟩
abbrev main_v33 : Ref sig .tc := ⟨.hbm, 62, rfl⟩
abbrev main_cst_15 : Ref sig .tc := ⟨.hbm, 63, rfl⟩
abbrev main_call4_v0 : Ref sig .tc := ⟨.hbm, 64, rfl⟩
abbrev main_call4_v1 : Ref sig .tc := ⟨.hbm, 65, rfl⟩
abbrev main_v34 : Ref sig .tc := ⟨.hbm, 66, rfl⟩
abbrev main_cst_16 : Ref sig .tc := ⟨.hbm, 67, rfl⟩
abbrev main_v35 : Ref sig .tc := ⟨.hbm, 68, rfl⟩
abbrev main_v36 : Ref sig .tc := ⟨.hbm, 69, rfl⟩
abbrev main_cst_17 : Ref sig .tc := ⟨.hbm, 70, rfl⟩
abbrev main_v37 : Ref sig .tc := ⟨.hbm, 71, rfl⟩
abbrev main_v38 : Ref sig .tc := ⟨.hbm, 72, rfl⟩
abbrev main_cst_18 : Ref sig .tc := ⟨.hbm, 73, rfl⟩
abbrev main_call5_v0 : Ref sig .tc := ⟨.hbm, 74, rfl⟩
abbrev main_call5_v1 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42_0 : Ref sig .tc := ⟨.hbm, 79, rfl⟩
abbrev main_v42_1 : Ref sig .tc := ⟨.hbm, 80, rfl⟩
abbrev main_v42_2 : Ref sig .tc := ⟨.hbm, 81, rfl⟩
abbrev main_v42_3 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_19 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_20 : Ref sig .tc := ⟨.hbm, 102, rfl⟩
abbrev main_v61 : Ref sig .tc := ⟨.hbm, 103, rfl⟩
abbrev main_cst_21 : Ref sig .tc := ⟨.hbm, 104, rfl⟩
abbrev main_v62 : Ref sig .tc := ⟨.hbm, 105, rfl⟩
abbrev main_v63 : Ref sig .tc := ⟨.hbm, 106, rfl⟩
abbrev main_cst_22 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_23 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_24 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S20x1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x1024x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x1024x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x1024x6144 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x1024x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.GramTrip.lean ====
/- One trip of the quantising loop: what it stores, as lists of pieces. -/
module

public import proofs.«01_k».proof.Proof.Gen.Gram.Loops
public import Idealize.ShloMosaic.Lib.Exec
public import Idealize.ShloMosaic.Lib.Tactic
public import Idealize.ShloMosaic.Lib.Pipeline.Kit

@[expose] public section

set_option maxRecDepth 16384
set_option maxHeartbeats 8000000

noncomputable section

namespace Cert.Gram.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)

/-- What a trip reads and writes. -/
abbrev Trip (X2 : BufTy.Contents (Elt F) arg2.view.ty) (X3 : BufTy.Contents (Elt F) arg3.view.ty)
    (f4 : BufTy.Contents (Elt F) arg4.view.ty) (f5 : BufTy.Contents (Elt F) arg5.view.ty)
    (f6 : BufTy.Contents (Elt F) arg6.view.ty) (f7 : BufTy.Contents (Elt F) arg7.view.ty)
    (f11 : BufTy.Contents (Elt F) arg11.view.ty) (f13 : BufTy.Contents (Elt F) arg13.view.ty) : sProp 𝕄G :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} f4) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7)
    ∗ (arg11.view.loc (c : Thread nD τ) ↦[arg11.view.set]{fullShare} f11) ∗ (arg13.view.loc (c : Thread nD τ) ↦[arg13.view.set]{fullShare} f13))

/-- One trip at a symbolic `k`: the pieces it stores. Only the row sums it stores depend on what it finds. -/
def trip (X2 : BufTy.Contents (Elt F) arg2.view.ty) (X3 : BufTy.Contents (Elt F) arg3.view.ty) (k : Fin k0_t1_loop.trips) :
    Σ' (L4 : List (View.Piece (Elt F) S1x1024x1536 .fp8e4m3)) (L5 : List (View.Piece (Elt F) S1x1024x6144 .fp8e5m2))
      (L6 : List (View.Piece (Elt F) S1x1x1024 .f32)) (L7 : List (View.Piece (Elt F) S1x1x1024 .f32))
      (L11 : BufTy.Contents (Elt F) arg11.view.ty → List (View.Piece (Elt F) S1x1x6144 .f32)),
      { L13 : List (View.Piece (Elt F) S2x1024x128 .f32) //
        ∀ (E : Set ℕ) (f4 : BufTy.Contents (Elt F) arg4.view.ty) (f5 : BufTy.Contents (Elt F) arg5.view.ty)
          (f6 : BufTy.Contents (Elt F) arg6.view.ty) (f7 : BufTy.Contents (Elt F) arg7.view.ty)
          (f11 : BufTy.Contents (Elt F) arg11.view.ty) (f13 : BufTy.Contents (Elt F) arg13.view.ty),
        Trip (F := F) c arg2 arg3 arg4 arg5 arg6 arg7 arg11 arg13 X2 X3 f4 f5 f6 f7 f11 f13
        ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
          (fun _ => Trip (F := F) c arg2 arg3 arg4 arg5 arg6 arg7 arg11 arg13 X2 X3
            (arg4.view.writes (Elt F) f4 L4) (arg5.view.writes (Elt F) f5 L5) (arg6.view.writes (Elt F) f6 L6)
            (arg7.view.writes (Elt F) f7 L7) (arg11.view.writes (Elt F) f11 (L11 f11)) (arg13.view.writes (Elt F) f13 L13)) } := by
  have hk : k.val < 8 := Nat.lt_of_lt_of_le k.isLt k0_t1_abs.2.1
  refine ⟨?_, ?_, ?_, ?_, ?_, ?_, fun E f4 f5 f6 f7 f11 f13 => ?run⟩
  case run =>
    unfold k0_t1_body
    iintro ⟨H2, H3, H4, H5, H6, H7, H11, H13⟩
    sl_exec
    sl_step
    sl_close

end Cert.Gram.Gen

end
-- ==== Proof.Rows.lean ====
/- Stores that fill an array one block of 128 rows at a time: what it holds after the first `n` blocks. -/
module

public import Idealize.ShloMosaic.Lib.Pipeline.FrameBody
public import Idealize.ShloMosaic.Lib.Pipeline.Frame
public import Idealize.ShloMosaic.Lib.Writes

@[expose] public section

noncomputable section

namespace Cert.Rows

open Idealize.ShloMosaic

variable {sig : RefSig} {κ : Kind} {sp : Space} {s : Shape} {e : EltTy} {Val : EltTy → Type}

/-- `V` on the first `n` blocks of 128 along axis `a`, `G` on the rest. -/
def fill (a : Fin s.rank) (n : ℕ) (V G : s.Idx → Val e) : s.Idx → Val e := fun y => if (y a).val < 128 * n then V y else G y

theorem fill_zero (a : Fin s.rank) (V G : s.Idx → Val e) : fill a 0 V G = G := by
  funext y; simp [fill]

theorem fill_all (a : Fin s.rank) (n : ℕ) (V G : s.Idx → Val e) (h : s.size a ≤ 128 * n) : fill a n V G = V := by
  funext y; exact if_pos ((y a).isLt.trans_le h)

/-- Storing block `n` moves `fill` on by one. -/
theorem writes_fill [∀ e, Nonempty (Val e)] {m : Memref sig κ sp s e} (h : m.IsWhole) (a : Fin s.rank) (n : ℕ) (V G : s.Idx → Val e)
    (L : List (View.Piece Val s e))
    (hin : ∀ p ∈ L, ∀ y ∈ p.1.set, 128 * n ≤ (y a).val ∧ (y a).val < 128 * (n + 1))
    (hcov : ∀ y : s.Idx, 128 * n ≤ (y a).val → (y a).val < 128 * (n + 1) → ∃ p ∈ L, y ∈ p.1.set)
    (hV : ∀ y : s.Idx, 128 * n ≤ (y a).val → (y a).val < 128 * (n + 1) → V y = View.canon L y) :
    m.view.writes Val (h.unread (fill a n V G)) L = h.unread (fill a (n + 1) V G) := by
  apply h.eq_unread
  funext y
  by_cases hy : 128 * n ≤ (y a).val ∧ (y a).val < 128 * (n + 1)
  · rw [View.read_writes_apply_eq_canon _ _ _ _ (hcov y hy.1 hy.2), fill, if_pos hy.2, hV y hy.1 hy.2]
  · rw [View.read_writes_apply_of_forall_not_mem _ _ _ _ fun p hp hm => hy (hin p hp y hm), h.read_unread]
    unfold fill
    split_ifs <;> first | rfl | (exfalso; omega)

/-- The index lies in the box with this corner and these sizes. -/
def InBox (b : (Fin s.rank → ℕ) × (Fin s.rank → ℕ)) (y : s.Idx) : Prop := ∀ a, b.1 a ≤ (y a).val ∧ (y a).val < b.1 a + b.2 a

theorem mem_of_box {r : Rect s} {b : (Fin s.rank → ℕ) × (Fin s.rank → ℕ)} (h : (r.off, r.size, r.stride) = (b.1, b.2, fun _ => 1))
    (y : s.Idx) : y ∈ r.set ↔ InBox b y := by
  obtain ⟨h1, h2⟩ := Prod.mk.inj h
  obtain ⟨h2, h3⟩ := Prod.mk.inj h2
  rw [LoadRect.mem_set]
  refine forall_congr' fun a => ?_
  rw [h1, h2, h3]
  constructor
  · rintro ⟨j, hj, hy⟩
    dsimp only at hy
    omega
  · intro hy
    exact ⟨(y a).val - b.1 a, by omega, by dsimp only; omega⟩

theorem boxes_mem {L : List (View.Piece Val s e)} {B : List ((Fin s.rank → ℕ) × (Fin s.rank → ℕ))}
    (h : L.map (fun p => (p.1.off, p.1.size, p.1.stride)) = B.map fun b => (b.1, b.2, fun _ => 1)) :
    (∀ p ∈ L, ∃ b ∈ B, ∀ y, y ∈ p.1.set ↔ InBox b y) ∧ ∀ b ∈ B, ∃ p ∈ L, ∀ y, y ∈ p.1.set ↔ InBox b y := by
  constructor
  · intro p hp
    have hm := List.mem_map_of_mem (f := fun p : View.Piece Val s e => (p.1.off, p.1.size, p.1.stride)) hp
    rw [h] at hm
    obtain ⟨b, hb, hbp⟩ := List.mem_map.mp hm
    exact ⟨b, hb, mem_of_box hbp.symm⟩
  · intro b hb
    have hm := List.mem_map_of_mem
      (f := fun b : (Fin s.rank → ℕ) × (Fin s.rank → ℕ) => (b.1, b.2, (fun _ => 1 : Fin s.rank → ℕ))) hb
    rw [← h] at hm
    obtain ⟨p, hp, hbp⟩ := List.mem_map.mp hm
    exact ⟨p, hp, mem_of_box hbp⟩

/-- Boxes that lie in block `n` of axis `a` and cover it, told of a list of pieces through its boxes. -/
theorem block_of_boxes {L : List (View.Piece Val s e)} {B : List ((Fin s.rank → ℕ) × (Fin s.rank → ℕ))}
    (h : L.map (fun p => (p.1.off, p.1.size, p.1.stride)) = B.map fun b => (b.1, b.2, fun _ => 1)) (a : Fin s.rank) (n : ℕ)
    (hin : ∀ b ∈ B, b.1 a = 128 * n ∧ b.2 a = 128)
    (hcov : ∀ y : s.Idx, 128 * n ≤ (y a).val → (y a).val < 128 * (n + 1) → ∃ b ∈ B, InBox b y) :
    (∀ p ∈ L, ∀ y ∈ p.1.set, 128 * n ≤ (y a).val ∧ (y a).val < 128 * (n + 1))
    ∧ ∀ y : s.Idx, 128 * n ≤ (y a).val → (y a).val < 128 * (n + 1) → ∃ p ∈ L, y ∈ p.1.set := by
  obtain ⟨h1, h2⟩ := boxes_mem h
  refine ⟨fun p hp y hy => ?_, fun y hy hy' => ?_⟩
  · obtain ⟨b, hb, hbp⟩ := h1 p hp
    have := (hbp y).mp hy a
    have := hin b hb
    omega
  · obtain ⟨b, hb, hby⟩ := hcov y hy hy'
    obtain ⟨p, hp, hbp⟩ := h2 b hb
    exact ⟨p, hp, (hbp y).mpr hby⟩

end Cert.Rows

end
-- ==== Proof.GramLoop.lean ====
/- The quantising loop: what each array it fills holds after the first `n` trips. -/
module

public import proofs.«01_k».proof.Proof.GramTrip
public import proofs.«01_k».proof.Proof.Rows

@[expose] public section

set_option maxRecDepth 16384
set_option maxHeartbeats 4000000

noncomputable section

namespace Cert.Gram.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rows

variable {F : FTy → Type} [FloatOps F]

local notation "𝕄G" => MT nD τ sig Unit (Elt F) ℕ (UR sig nD τ) ℕ

theorem trips_eq : k0_t1_loop.trips = 8 := by decide +kernel

/-- The trip that fills row `r`. -/
def blk (r : ℕ) (h : r < 1024) : Fin k0_t1_loop.trips := ⟨r / 128, by rw [trips_eq]; omega⟩

theorem blk_eq {r : ℕ} (h : r < 1024) (k : Fin k0_t1_loop.trips) (h1 : 128 * k.val ≤ r) (h2 : r < 128 * (k.val + 1)) : blk r h = k :=
  Fin.ext (by show r / 128 = k.val; omega)

def offs4 (k : Fin k0_t1_loop.trips) : List (Fin 3 → ℕ) := [k0_off13 k, k0_off12 k, k0_off11 k, k0_off10 k, k0_off9 k, k0_off8 k, k0_off7 k, k0_off6 k, k0_off5 k, k0_off4 k, k0_off3 k, k0_off2 k]
def offs5 (k : Fin k0_t1_loop.trips) : List (Fin 3 → ℕ) := [k0_off62 k, k0_off61 k, k0_off60 k, k0_off59 k, k0_off58 k, k0_off57 k, k0_off56 k, k0_off55 k, k0_off54 k, k0_off53 k, k0_off52 k, k0_off51 k, k0_off50 k, k0_off49 k, k0_off48 k, k0_off47 k, k0_off46 k, k0_off45 k, k0_off44 k, k0_off43 k, k0_off42 k, k0_off41 k, k0_off40 k, k0_off39 k, k0_off38 k, k0_off37 k, k0_off36 k, k0_off35 k, k0_off34 k, k0_off33 k, k0_off32 k, k0_off31 k, k0_off30 k, k0_off29 k, k0_off28 k, k0_off27 k, k0_off26 k, k0_off25 k, k0_off24 k, k0_off23 k, k0_off22 k, k0_off21 k, k0_off20 k, k0_off19 k, k0_off18 k, k0_off17 k, k0_off16 k, k0_off15 k]

theorem offs4_eq : ∀ k, (offs4 k).reverse = (List.range 12).map fun j => ![0, 128 * k.val, 128 * j] := by decide +kernel
theorem offs5_eq : ∀ k, (offs5 k).reverse = (List.range 48).map fun j => ![0, 128 * k.val, 128 * j] := by decide +kernel
theorem off65_eq : ∀ k, k0_off65 k = ![0, 0, 128 * k.val] := by decide +kernel
theorem off64_eq : ∀ k, k0_off64 k = ![1, 128 * k.val, 0] := by decide +kernel
theorem off63_eq : ∀ k, k0_off63 k = ![0, 128 * k.val, 0] := by decide +kernel

variable (𝒱 : Variants) (c : Dev nD) (bd : Option 𝒱.V) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)
  (X2 : BufTy.Contents (Elt F) arg2.view.ty) (X3 : BufTy.Contents (Elt F) arg3.view.ty)

theorem boxes4 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).1.map (fun p => (p.1.off, p.1.size, p.1.stride))
    = ((offs4 k).map fun o => (o, S1x128x128.size)).map fun b => (b.1, b.2, fun _ => 1) := rfl
theorem boxes5 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1.map (fun p => (p.1.off, p.1.size, p.1.stride))
    = ((offs5 k).map fun o => (o, S1x128x128.size)).map fun b => (b.1, b.2, fun _ => 1) := rfl
theorem boxes6 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.1.map (fun p => (p.1.off, p.1.size, p.1.stride))
    = [(k0_off65 k, S1x1x128.size)].map fun b => (b.1, b.2, fun _ => 1) := rfl
theorem boxes7 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.1.map (fun p => (p.1.off, p.1.size, p.1.stride))
    = [(k0_off65 k, S1x1x128.size)].map fun b => (b.1, b.2, fun _ => 1) := rfl
theorem boxes13 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.1.map (fun p => (p.1.off, p.1.size, p.1.stride))
    = [(k0_off64 k, S1x128x128.size), (k0_off63 k, S1x128x128.size)].map fun b => (b.1, b.2, fun _ => 1) := rfl

theorem block4 (k : Fin k0_t1_loop.trips) :
    (∀ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).1, ∀ y ∈ p.1.set, 128 * k.val ≤ (y 1).val ∧ (y 1).val < 128 * (k.val + 1))
    ∧ ∀ y : S1x1024x1536.Idx, 128 * k.val ≤ (y 1).val → (y 1).val < 128 * (k.val + 1) → ∃ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).1, y ∈ p.1.set := by
  have hm : ∀ o, o ∈ offs4 k ↔ ∃ j < 12, ![0, 128 * k.val, 128 * j] = o := fun o => by
    rw [← List.mem_reverse, offs4_eq]; simp
  refine block_of_boxes (boxes4 𝒱 c bd i arg1 harg1 arg2 harg2 arg3 harg3 arg4 harg4 arg5 harg5 arg6 harg6 arg7 harg7 arg8 harg8 arg9 harg9 arg10 harg10 arg11 harg11 arg12 harg12 arg13 harg13 X2 X3 k) 1 k.val (fun b hb => ?_) fun y h1 h2 => ?_
  · obtain ⟨o, ho, rfl⟩ := List.mem_map.mp hb
    obtain ⟨j, -, rfl⟩ := (hm o).mp ho
    exact ⟨rfl, rfl⟩
  · have h0 : (y 0).val < 1 := (y 0).isLt
    have h3 : (y 2).val < 1536 := (y 2).isLt
    refine ⟨_, List.mem_map_of_mem ((hm _).mpr ⟨(y 2).val / 128, by omega, rfl⟩), fun a => ?_⟩
    fin_cases a
    · show 0 ≤ (y 0).val ∧ (y 0).val < 0 + 1; omega
    · show 128 * k.val ≤ (y 1).val ∧ (y 1).val < 128 * k.val + 128; omega
    · show 128 * ((y 2).val / 128) ≤ (y 2).val ∧ (y 2).val < 128 * ((y 2).val / 128) + 128; omega

theorem block5 (k : Fin k0_t1_loop.trips) :
    (∀ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1, ∀ y ∈ p.1.set, 128 * k.val ≤ (y 1).val ∧ (y 1).val < 128 * (k.val + 1))
    ∧ ∀ y : S1x1024x6144.Idx, 128 * k.val ≤ (y 1).val → (y 1).val < 128 * (k.val + 1) → ∃ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1, y ∈ p.1.set := by
  have hm : ∀ o, o ∈ offs5 k ↔ ∃ j < 48, ![0, 128 * k.val, 128 * j] = o := fun o => by
    rw [← List.mem_reverse, offs5_eq]; simp
  refine block_of_boxes (boxes5 𝒱 c bd i arg1 harg1 arg2 harg2 arg3 harg3 arg4 harg4 arg5 harg5 arg6 harg6 arg7 harg7 arg8 harg8 arg9 harg9 arg10 harg10 arg11 harg11 arg12 harg12 arg13 harg13 X2 X3 k) 1 k.val (fun b hb => ?_) fun y h1 h2 => ?_
  · obtain ⟨o, ho, rfl⟩ := List.mem_map.mp hb
    obtain ⟨j, -, rfl⟩ := (hm o).mp ho
    exact ⟨rfl, rfl⟩
  · have h0 : (y 0).val < 1 := (y 0).isLt
    have h3 : (y 2).val < 6144 := (y 2).isLt
    refine ⟨_, List.mem_map_of_mem ((hm _).mpr ⟨(y 2).val / 128, by omega, rfl⟩), fun a => ?_⟩
    fin_cases a
    · show 0 ≤ (y 0).val ∧ (y 0).val < 0 + 1; omega
    · show 128 * k.val ≤ (y 1).val ∧ (y 1).val < 128 * k.val + 128; omega
    · show 128 * ((y 2).val / 128) ≤ (y 2).val ∧ (y 2).val < 128 * ((y 2).val / 128) + 128; omega

theorem block_lane {L : List (View.Piece (Elt F) S1x1x1024 .f32)} (k : Fin k0_t1_loop.trips)
    (h : L.map (fun p => (p.1.off, p.1.size, p.1.stride)) = [(k0_off65 k, S1x1x128.size)].map fun b => (b.1, b.2, fun _ => 1)) :
    (∀ p ∈ L, ∀ y ∈ p.1.set, 128 * k.val ≤ (y 2).val ∧ (y 2).val < 128 * (k.val + 1))
    ∧ ∀ y : S1x1x1024.Idx, 128 * k.val ≤ (y 2).val → (y 2).val < 128 * (k.val + 1) → ∃ p ∈ L, y ∈ p.1.set := by
  refine block_of_boxes h 2 k.val (fun b hb => ?_) fun y h1 h2 => ?_
  · obtain rfl := List.mem_singleton.mp hb
    exact ⟨by rw [off65_eq]; rfl, rfl⟩
  · have h0 : (y 0).val < 1 := (y 0).isLt
    have h3 : (y 1).val < 1 := (y 1).isLt
    refine ⟨_, List.mem_singleton.mpr rfl, fun a => ?_⟩
    rw [off65_eq]
    fin_cases a
    · show 0 ≤ (y 0).val ∧ (y 0).val < 0 + 1; omega
    · show 0 ≤ (y 1).val ∧ (y 1).val < 0 + 1; omega
    · show 128 * k.val ≤ (y 2).val ∧ (y 2).val < 128 * k.val + 128; omega

theorem block13 (k : Fin k0_t1_loop.trips) :
    (∀ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.1, ∀ y ∈ p.1.set, 128 * k.val ≤ (y 1).val ∧ (y 1).val < 128 * (k.val + 1))
    ∧ ∀ y : S2x1024x128.Idx, 128 * k.val ≤ (y 1).val → (y 1).val < 128 * (k.val + 1) → ∃ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.1, y ∈ p.1.set := by
  refine block_of_boxes (boxes13 𝒱 c bd i arg1 harg1 arg2 harg2 arg3 harg3 arg4 harg4 arg5 harg5 arg6 harg6 arg7 harg7 arg8 harg8 arg9 harg9 arg10 harg10 arg11 harg11 arg12 harg12 arg13 harg13 X2 X3 k) 1 k.val (fun b hb => ?_) fun y h1 h2 => ?_
  · rw [List.mem_pair] at hb
    rcases hb with rfl | rfl
    · exact ⟨by rw [off64_eq]; rfl, rfl⟩
    · exact ⟨by rw [off63_eq]; rfl, rfl⟩
  · have h0 : (y 0).val < 2 := (y 0).isLt
    have h3 : (y 2).val < 128 := (y 2).isLt
    rw [off64_eq, off63_eq]
    by_cases hy : (y 0).val = 0
    · refine ⟨_, List.mem_pair.mpr (.inr rfl), fun a => ?_⟩
      fin_cases a
      · show 0 ≤ (y 0).val ∧ (y 0).val < 0 + 1; omega
      · show 128 * k.val ≤ (y 1).val ∧ (y 1).val < 128 * k.val + 128; omega
      · show 0 ≤ (y 2).val ∧ (y 2).val < 0 + 128; omega
    · refine ⟨_, List.mem_pair.mpr (.inl rfl), fun a => ?_⟩
      fin_cases a
      · show 1 ≤ (y 0).val ∧ (y 0).val < 1 + 1; omega
      · show 128 * k.val ≤ (y 1).val ∧ (y 1).val < 128 * k.val + 128; omega
      · show 0 ≤ (y 2).val ∧ (y 2).val < 0 + 128; omega

/-- The codes and scales, each row from the trip that fills it. -/
def V4 : Vec F S1x1024x1536 .fp8e4m3 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).1 y
def V5 : Vec F S1x1024x6144 .fp8e5m2 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).2.1 y
def V6 : Vec F S1x1x1024 .f32 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 2).val (y 2).isLt)).2.2.1 y
def V7 : Vec F S1x1x1024 .f32 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 2).val (y 2).isLt)).2.2.2.1 y
def V13 : Vec F S2x1024x128 .f32 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).2.2.2.2.2.1 y

/-- The row sums after the first `n` trips, from `G`. -/
def sums (G : BufTy.Contents (Elt F) arg11.view.ty) : ℕ → BufTy.Contents (Elt F) arg11.view.ty
  | 0 => G
  | n + 1 => if h : n < k0_t1_loop.trips then
      arg11.view.writes (Elt F) (sums G n) ((trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 ⟨n, h⟩).2.2.2.2.1 (sums G n)) else sums G n

theorem sums_succ (G : BufTy.Contents (Elt F) arg11.view.ty) (k : Fin k0_t1_loop.trips) : sums 𝒱 c bd i arg1 harg1 arg2 harg2 arg3 harg3 arg4 harg4 arg5 harg5 arg6 harg6 arg7 harg7 arg8 harg8 arg9 harg9 arg10 harg10 arg11 harg11 arg12 harg12 arg13 harg13 X2 X3 G (k.val + 1)
    = arg11.view.writes (Elt F) (sums 𝒱 c bd i arg1 harg1 arg2 harg2 arg3 harg3 arg4 harg4 arg5 harg5 arg6 harg6 arg7 harg7 arg8 harg8 arg9 harg9 arg10 harg10 arg11 harg11 arg12 harg12 arg13 harg13 X2 X3 G k.val) ((trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.1 (sums 𝒱 c bd i arg1 harg1 arg2 harg2 arg3 harg3 arg4 harg4 arg5 harg5 arg6 harg6 arg7 harg7 arg8 harg8 arg9 harg9 arg10 harg10 arg11 harg11 arg12 harg12 arg13 harg13 X2 X3 G k.val)) := by
  rw [sums]; exact dif_pos k.isLt

variable (G4 : BufTy.Contents (Elt F) arg4.view.ty) (G5 : BufTy.Contents (Elt F) arg5.view.ty)
  (G6 : BufTy.Contents (Elt F) arg6.view.ty) (G7 : BufTy.Contents (Elt F) arg7.view.ty)
  (G11 : BufTy.Contents (Elt F) arg11.view.ty) (G13 : BufTy.Contents (Elt F) arg13.view.ty)

/-- What the arrays hold after the first `n` trips. -/
def S4 : ℕ → BufTy.Contents (Elt F) arg4.view.ty
  | 0 => G4
  | n + 1 => harg4.unread (fill 1 (n + 1) (V4 𝒱 c bd i arg1 harg1 arg2 harg2 arg3 harg3 arg4 harg4 arg5 harg5 arg6 harg6 arg7 harg7 arg8 harg8 arg9 harg9 arg10 harg10 arg11 harg11 arg12 harg12 arg13 harg13 X2 X3) (arg4.view.read (Elt F) G4))
def S5 : ℕ → BufTy.Contents (Elt F) arg5.view.ty
  | 0 => G5
  | n + 1 => harg5.unread (fill 1 (n + 1) (V5 𝒱 c bd i arg1 harg1 arg2 harg2 arg3 harg3 arg4 harg4 arg5 harg5 arg6 harg6 arg7 harg7 arg8 harg8 arg9 harg9 arg10 harg10 arg11 harg11 arg12 harg12 arg13 harg13 X2 X3) (arg5.view.read (Elt F) G5))
def S6 : ℕ → BufTy.Contents (Elt F) arg6.view.ty
  | 0 => G6
  | n + 1 => harg6.unread (fill 2 (n + 1) (V6 𝒱 c bd i arg1 harg1 arg2 harg2 arg3 harg3 arg4 harg4 arg5 harg5 arg6 harg6 arg7 harg7 arg8 harg8 arg9 harg9 arg10 harg10 arg11 harg11 arg12 harg12 arg13 harg13 X2 X3) (arg6.view.read (Elt F) G6))
def S7 : ℕ → BufTy.Contents (Elt F) arg7.view.ty
  | 0 => G7
  | n + 1 => harg7.unread (fill 2 (n + 1) (V7 𝒱 c bd i arg1 harg1 arg2 harg2 arg3 harg3 arg4 harg4 arg5 harg5 arg6 harg6 arg7 harg7 arg8 harg8 arg9 harg9 arg10 harg10 arg11 harg11 arg12 harg12 arg13 harg13 X2 X3) (arg7.view.read (Elt F) G7))
def S13 : ℕ → BufTy.Contents (Elt F) arg13.view.ty
  | 0 => G13
  | n + 1 => harg13.unread (fill 1 (n + 1) (V13 𝒱 c bd i arg1 harg1 arg2 harg2 arg3 harg3 arg4 harg4 arg5 harg5 arg6 harg6 arg7 harg7 arg8 harg8 arg9 harg9 arg10 harg10 arg11 harg11 arg12 harg12 arg13 harg13 X2 X3) (arg13.view.read (Elt F) G13))

theorem S4_eq (n : ℕ) : S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 n = harg4.unread (fill 1 n (V4 𝒱 c bd i arg1 harg1 arg2 harg2 arg3 harg3 arg4 harg4 arg5 harg5 arg6 harg6 arg7 harg7 arg8 harg8 arg9 harg9 arg10 harg10 arg11 harg11 arg12 harg12 arg13 harg13 X2 X3) (arg4.view.read (Elt F) G4)) := by
  cases n with
  | zero => rw [fill_zero, harg4.unread_read]; rfl
  | succ n => rfl

theorem S4_succ (k : Fin k0_t1_loop.trips) : arg4.view.writes (Elt F) (S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).1 = S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 (k.val + 1) := by
  rw [S4_eq, S4_eq]
  exact writes_fill harg4 1 k.val _ _ _ (block4 𝒱 c bd i arg1 harg1 arg2 harg2 arg3 harg3 arg4 harg4 arg5 harg5 arg6 harg6 arg7 harg7 arg8 harg8 arg9 harg9 arg10 harg10 arg11 harg11 arg12 harg12 arg13 harg13 X2 X3 k).1 (block4 𝒱 c bd i arg1 harg1 arg2 harg2 arg3 harg3 arg4 harg4 arg5 harg5 arg6 harg6 arg7 harg7 arg8 harg8 arg9 harg9 arg10 harg10 arg11 harg11 arg12 harg12 arg13 harg13 X2 X3 k).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).1 y = _
    rw [blk_eq (y 1).isLt k h1 h2]

theorem S4_last : S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 8 = harg4.unread (V4 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S4_eq, fill_all]; decide

theorem S5_eq (n : ℕ) : S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 n = harg5.unread (fill 1 n (V5 𝒱 c bd i arg1 harg1 arg2 harg2 arg3 harg3 arg4 harg4 arg5 harg5 arg6 harg6 arg7 harg7 arg8 harg8 arg9 harg9 arg10 harg10 arg11 harg11 arg12 harg12 arg13 harg13 X2 X3) (arg5.view.read (Elt F) G5)) := by
  cases n with
  | zero => rw [fill_zero, harg5.unread_read]; rfl
  | succ n => rfl

theorem S5_succ (k : Fin k0_t1_loop.trips) : arg5.view.writes (Elt F) (S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1 = S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 (k.val + 1) := by
  rw [S5_eq, S5_eq]
  exact writes_fill harg5 1 k.val _ _ _ (block5 𝒱 c bd i arg1 harg1 arg2 harg2 arg3 harg3 arg4 harg4 arg5 harg5 arg6 harg6 arg7 harg7 arg8 harg8 arg9 harg9 arg10 harg10 arg11 harg11 arg12 harg12 arg13 harg13 X2 X3 k).1 (block5 𝒱 c bd i arg1 harg1 arg2 harg2 arg3 harg3 arg4 harg4 arg5 harg5 arg6 harg6 arg7 harg7 arg8 harg8 arg9 harg9 arg10 harg10 arg11 harg11 arg12 harg12 arg13 harg13 X2 X3 k).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).2.1 y = _
    rw [blk_eq (y 1).isLt k h1 h2]

theorem S5_last : S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 8 = harg5.unread (V5 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S5_eq, fill_all]; decide

theorem S6_eq (n : ℕ) : S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 n = harg6.unread (fill 2 n (V6 𝒱 c bd i arg1 harg1 arg2 harg2 arg3 harg3 arg4 harg4 arg5 harg5 arg6 harg6 arg7 harg7 arg8 harg8 arg9 harg9 arg10 harg10 arg11 harg11 arg12 harg12 arg13 harg13 X2 X3) (arg6.view.read (Elt F) G6)) := by
  cases n with
  | zero => rw [fill_zero, harg6.unread_read]; rfl
  | succ n => rfl

theorem S6_succ (k : Fin k0_t1_loop.trips) : arg6.view.writes (Elt F) (S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.1 = S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 (k.val + 1) := by
  rw [S6_eq, S6_eq]
  exact writes_fill harg6 2 k.val _ _ _ (block_lane k (boxes6 𝒱 c bd i arg1 harg1 arg2 harg2 arg3 harg3 arg4 harg4 arg5 harg5 arg6 harg6 arg7 harg7 arg8 harg8 arg9 harg9 arg10 harg10 arg11 harg11 arg12 harg12 arg13 harg13 X2 X3 k)).1 (block_lane k (boxes6 𝒱 c bd i arg1 harg1 arg2 harg2 arg3 harg3 arg4 harg4 arg5 harg5 arg6 harg6 arg7 harg7 arg8 harg8 arg9 harg9 arg10 harg10 arg11 harg11 arg12 harg12 arg13 harg13 X2 X3 k)).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 2).val (y 2).isLt)).2.2.1 y = _
    rw [blk_eq (y 2).isLt k h1 h2]

theorem S6_last : S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 8 = harg6.unread (V6 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S6_eq, fill_all]; decide

theorem S7_eq (n : ℕ) : S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 n = harg7.unread (fill 2 n (V7 𝒱 c bd i arg1 harg1 arg2 harg2 arg3 harg3 arg4 harg4 arg5 harg5 arg6 harg6 arg7 harg7 arg8 harg8 arg9 harg9 arg10 harg10 arg11 harg11 arg12 harg12 arg13 harg13 X2 X3) (arg7.view.read (Elt F) G7)) := by
  cases n with
  | zero => rw [fill_zero, harg7.unread_read]; rfl
  | succ n => rfl

theorem S7_succ (k : Fin k0_t1_loop.trips) : arg7.view.writes (Elt F) (S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.1 = S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 (k.val + 1) := by
  rw [S7_eq, S7_eq]
  exact writes_fill harg7 2 k.val _ _ _ (block_lane k (boxes7 𝒱 c bd i arg1 harg1 arg2 harg2 arg3 harg3 arg4 harg4 arg5 harg5 arg6 harg6 arg7 harg7 arg8 harg8 arg9 harg9 arg10 harg10 arg11 harg11 arg12 harg12 arg13 harg13 X2 X3 k)).1 (block_lane k (boxes7 𝒱 c bd i arg1 harg1 arg2 harg2 arg3 harg3 arg4 harg4 arg5 harg5 arg6 harg6 arg7 harg7 arg8 harg8 arg9 harg9 arg10 harg10 arg11 harg11 arg12 harg12 arg13 harg13 X2 X3 k)).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 2).val (y 2).isLt)).2.2.2.1 y = _
    rw [blk_eq (y 2).isLt k h1 h2]

theorem S7_last : S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 8 = harg7.unread (V7 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S7_eq, fill_all]; decide

theorem S13_eq (n : ℕ) : S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 n = harg13.unread (fill 1 n (V13 𝒱 c bd i arg1 harg1 arg2 harg2 arg3 harg3 arg4 harg4 arg5 harg5 arg6 harg6 arg7 harg7 arg8 harg8 arg9 harg9 arg10 harg10 arg11 harg11 arg12 harg12 arg13 harg13 X2 X3) (arg13.view.read (Elt F) G13)) := by
  cases n with
  | zero => rw [fill_zero, harg13.unread_read]; rfl
  | succ n => rfl

theorem S13_succ (k : Fin k0_t1_loop.trips) : arg13.view.writes (Elt F) (S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.1 = S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 (k.val + 1) := by
  rw [S13_eq, S13_eq]
  exact writes_fill harg13 1 k.val _ _ _ (block13 𝒱 c bd i arg1 harg1 arg2 harg2 arg3 harg3 arg4 harg4 arg5 harg5 arg6 harg6 arg7 harg7 arg8 harg8 arg9 harg9 arg10 harg10 arg11 harg11 arg12 harg12 arg13 harg13 X2 X3 k).1 (block13 𝒱 c bd i arg1 harg1 arg2 harg2 arg3 harg3 arg4 harg4 arg5 harg5 arg6 harg6 arg7 harg7 arg8 harg8 arg9 harg9 arg10 harg10 arg11 harg11 arg12 harg12 arg13 harg13 X2 X3 k).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).2.2.2.2.2.1 y = _
    rw [blk_eq (y 1).isLt k h1 h2]

theorem S13_last : S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 8 = harg13.unread (V13 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S13_eq, fill_all]; decide

/-- What the loop holds before trip `k`. -/
def Inv (k : ℕ) : sProp 𝕄G := iprop((arg2.view.loc (c : Thread nD τ) ↦[arg2.view.set]{fullShare} X2) ∗ (arg3.view.loc (c : Thread nD τ) ↦[arg3.view.set]{fullShare} X3)
    ∗ (∃ f, (arg4.view.loc (c : Thread nD τ) ↦[arg4.view.set]{fullShare} f) ∗ ⌜f = S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 k⌝)
    ∗ (∃ f, (arg5.view.loc (c : Thread nD τ) ↦[arg5.view.set]{fullShare} f) ∗ ⌜f = S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 k⌝)
    ∗ (∃ f, (arg6.view.loc (c : Thread nD τ) ↦[arg6.view.set]{fullShare} f) ∗ ⌜f = S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 k⌝)
    ∗ (∃ f, (arg7.view.loc (c : Thread nD τ) ↦[arg7.view.set]{fullShare} f) ∗ ⌜f = S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 k⌝)
    ∗ (∃ f, (arg11.view.loc (c : Thread nD τ) ↦[arg11.view.set]{fullShare} f) ∗ ⌜f = sums 𝒱 c bd i arg1 harg1 arg2 harg2 arg3 harg3 arg4 harg4 arg5 harg5 arg6 harg6 arg7 harg7 arg8 harg8 arg9 harg9 arg10 harg10 arg11 harg11 arg12 harg12 arg13 harg13 X2 X3 G11 k⌝)
    ∗ (∃ f, (arg13.view.loc (c : Thread nD τ) ↦[arg13.view.set]{fullShare} f) ∗ ⌜f = S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 k⌝))

/-- The loop's invariant. -/
@[sl_loop] def loopInv_k0_t1 (E : Set ℕ) : LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 where
  inv k _ := Inv 𝒱 c bd i arg1 harg1 arg2 harg2 arg3 harg3 arg4 harg4 arg5 harg5 arg6 harg6 arg7 harg7 arg8 harg8 arg9 harg9 arg10 harg10 arg11 harg11 arg12 harg12 arg13 harg13 X2 X3 G4 G5 G6 G7 G11 G13 k
  step k acc := by
    unfold Inv
    iintro ⟨H2, H3, ⟨%f4, H4, %h4⟩, ⟨%f5, H5, %h5⟩, ⟨%f6, H6, %h6⟩, ⟨%f7, H7, %h7⟩, ⟨%f11, H11, %h11⟩, ⟨%f13, H13, %h13⟩⟩
    iapply (wp_wand_r Idealize.ShloMosaic.frame (wpE (defs₀ (F := F)) 𝒱 (c : Thread nD τ) bd) E)
    isplitl [H2 H3 H4 H5 H6 H7 H11 H13]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.2 E f4 f5 f6 f7 f11 f13)
      isplitl [H2]; · iexact H2
      isplitl [H3]; · iexact H3
      isplitl [H4]; · iexact H4
      isplitl [H5]; · iexact H5
      isplitl [H6]; · iexact H6
      isplitl [H7]; · iexact H7
      isplitl [H11]; · iexact H11
      iexact H13
    · iintro %_ ⟨H2, H3, H4, H5, H6, H7, H11, H13⟩
      isplitl [H2]; · iexact H2
      isplitl [H3]; · iexact H3
      isplitl [H4]
      · iexists _; isplitl [H4]; · iexact H4
        ipureintro; rw [h4, S4_succ]
      isplitl [H5]
      · iexists _; isplitl [H5]; · iexact H5
        ipureintro; rw [h5, S5_succ]
      isplitl [H6]
      · iexists _; isplitl [H6]; · iexact H6
        ipureintro; rw [h6, S6_succ]
      isplitl [H7]
      · iexists _; isplitl [H7]; · iexact H7
        ipureintro; rw [h7, S7_succ]
      isplitl [H11]
      · iexists _; isplitl [H11]; · iexact H11
        ipureintro; rw [h11, sums_succ]
      iexists _; isplitl [H13]; · iexact H13
      ipureintro; rw [h13, S13_succ]

/-- What the loop leaves: the arrays it fills no longer depend on what they held before. -/
instance loopExit (E : Set ℕ) : LoopExit (loopInv_k0_t1 𝒱 c bd i arg1 harg1 arg2 harg2 arg3 harg3 arg4 harg4 arg5 harg5 arg6 harg6 arg7 harg7 arg8 harg8 arg9 harg9 arg10 harg10 arg11 harg11 arg12 harg12 arg13 harg13 X2 X3 G4 G5 G6 G7 G11 G13 E) where
  post _ := iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} harg4.unread (V4 𝒱 c bd i arg1 harg1 arg2 harg2 arg3 harg3 arg4 harg4 arg5 harg5 arg6 harg6 arg7 harg7 arg8 harg8 arg9 harg9 arg10 harg10 arg11 harg11 arg12 harg12 arg13 harg13 X2 X3))
    ∗ (arg5.view.loc (c : Thread nD τ) ↦[arg5.view.set]{fullShare} harg5.unread (V5 𝒱 c bd i arg1 harg1 arg2 harg2 arg3 harg3 arg4 harg4 arg5 harg5 arg6 harg6 arg7 harg7 arg8 harg8 arg9 harg9 arg10 harg10 arg11 harg11 arg12 harg12 arg13 harg13 X2 X3))
    ∗ (arg6.view.loc (c : Thread nD τ) ↦[arg6.view.set]{fullShare} harg6.unread (V6 𝒱 c bd i arg1 harg1 arg2 harg2 arg3 harg3 arg4 harg4 arg5 harg5 arg6 harg6 arg7 harg7 arg8 harg8 arg9 harg9 arg10 harg10 arg11 harg11 arg12 harg12 arg13 harg13 X2 X3))
    ∗ (arg7.view.loc (c : Thread nD τ) ↦[arg7.view.set]{fullShare} harg7.unread (V7 𝒱 c bd i arg1 harg1 arg2 harg2 arg3 harg3 arg4 harg4 arg5 harg5 arg6 harg6 arg7 harg7 arg8 harg8 arg9 harg9 arg10 harg10 arg11 harg11 arg12 harg12 arg13 harg13 X2 X3))
    ∗ (arg11.view.loc (c : Thread nD τ) ↦[arg11.view.set]{fullShare} sums 𝒱 c bd i arg1 harg1 arg2 harg2 arg3 harg3 arg4 harg4 arg5 harg5 arg6 harg6 arg7 harg7 arg8 harg8 arg9 harg9 arg10 harg10 arg11 harg11 arg12 harg12 arg13 harg13 X2 X3 G11 8)
    ∗ (arg13.view.loc (c : Thread nD τ) ↦[arg13.view.set]{fullShare} harg13.unread (V13 𝒱 c bd i arg1 harg1 arg2 harg2 arg3 harg3 arg4 harg4 arg5 harg5 arg6 harg6 arg7 harg7 arg8 harg8 arg9 harg9 arg10 harg10 arg11 harg11 arg12 harg12 arg13 harg13 X2 X3)))
  exit _ := by
    show Inv 𝒱 c bd i arg1 harg1 arg2 harg2 arg3 harg3 arg4 harg4 arg5 harg5 arg6 harg6 arg7 harg7 arg8 harg8 arg9 harg9 arg10 harg10 arg11 harg11 arg12 harg12 arg13 harg13 X2 X3 G4 G5 G6 G7 G11 G13 k0_t1_loop.trips ⊢ _
    rw [trips_eq]; unfold Inv
    iintro ⟨H2, H3, ⟨%f4, H4, %h4⟩, ⟨%f5, H5, %h5⟩, ⟨%f6, H6, %h6⟩, ⟨%f7, H7, %h7⟩, ⟨%f11, H11, %h11⟩, ⟨%f13, H13, %h13⟩⟩
    rw [S4_last] at h4; rw [S5_last] at h5; rw [S6_last] at h6; rw [S7_last] at h7; rw [S13_last] at h13
    subst h4 h5 h6 h7 h11 h13
    isplitl [H2]; · iexact H2
    isplitl [H3]; · iexact H3
    isplitl [H4]; · iexact H4
    isplitl [H5]; · iexact H5
    isplitl [H6]; · iexact H6
    isplitl [H7]; · iexact H7
    isplitl [H11]; · iexact H11
    iexact H13

end Cert.Gram.Gen

end
-- ==== Proof.GramRun.lean ====
/- The body of the quantising call, run: what it leaves in each of its output blocks. -/
module

public import proofs.«01_k».proof.Proof.GramLoop

@[expose] public section

set_option maxRecDepth 16384
set_option maxHeartbeats 8000000

noncomputable section

namespace Cert.Gram.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body on blocks `x0`, `x1`, `x2` of its inputs: the codes and scales as the loop leaves them, the rest as pieces. -/
def kernelRun (c : Dev nD) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)
    (x0 : Vec F S1 .f32) (x1 : Vec F S1x1024x1536 .bf16) (x2 : Vec F S1x1024x6144 .bf16) :
    Σ' (L8 : List (View.Piece (Elt F) S1x1x1024 .f32)) (L9 : List (View.Piece (Elt F) S1x1024x128 .bf16))
      (L10 : List (View.Piece (Elt F) S1x1024x128 .bf16)) (C11 : BufTy.Contents (Elt F) arg11.view.ty),
      { L12 : List (View.Piece (Elt F) S1x1x128 .f32) //
        ∀ (E : Set ℕ) (K : PUnit → sProp 𝕄G),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} harg4.unread (V4 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))) ∗ (arg5.view.loc (c : Thread nD τ) ↦[arg5.view.set]{fullShare} harg5.unread (V5 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))) ∗ (arg6.view.loc (c : Thread nD τ) ↦[arg6.view.set]{fullShare} harg6.unread (V6 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))) ∗ (arg7.view.loc (c : Thread nD τ) ↦[arg7.view.set]{fullShare} harg7.unread (V7 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (arg11.view.loc (c : Thread nD τ) ↦[arg11.view.set]{fullShare} C11) ∗ (∃ f, arg12.view.loc (c : Thread nD τ) ↦[arg12.view.set]{fullShare} arg12.view.writes (Elt F) f L12) ∗ (∃ d, owns (c : Thread nD τ) arg13 fullShare d)) -∗ K ⟨⟩))
        ⊢ wp frame (wpE (defs₀ (F := F)) Variants.none (c : Thread nD τ) none) E (cc0_quant_gram (F := F) i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_quant_gram_eq_skeleton]; unfold cc0_quant_gram_skel
    simp only [k0_part39_eq_skeleton, k0_part40_eq_skeleton, k0_part41_eq_skeleton, k0_part42_eq_skeleton, k0_part43_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf1; obtain rfl := harg2.eq_unread hf2; obtain rfl := harg3.eq_unread hf3
    sl_exec
    sl_step
    iapply Hk
    sl_close

end Cert.Gram.Gen

end
-- ==== Proof.GramFrame.lean ====
/- The quantising call framed: what each of its outputs holds at each grid point, and its run. -/
module

public import proofs.«01_k».proof.Proof.GramRun
public import proofs.«01_k».proof.Proof.Gen.Gram.Frame
public import Idealize.ShloMosaic.Lib.Claim

@[expose] public section

set_option maxRecDepth 16384

noncomputable section

namespace Cert.Gram.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs of a point -/

abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1536 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x6144 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x6144 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x128 .f32 := win0_11.stage (cfg0.slots t 11)
abbrev hs0_11 (t : Fin cfg0.N) : (ms0_11 t).IsWhole := hstage0_11 ((cfg0.slots t 11).cast nbuf0_11)
abbrev scM0_0 : Memref sig .tc .vmem S2x1024x128 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-! ## What the outputs hold -/

def out0_3 (c : Dev nD) (t : Fin cfg0.N) : Vec F S1x1024x1536 .fp8e4m3 := V4 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hs0_1 t).unread (iblk m c 1 t)) ((hs0_2 t).unread (iblk m c 2 t))
def out0_4 (c : Dev nD) (t : Fin cfg0.N) : Vec F S1x1024x6144 .fp8e5m2 := V5 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hs0_1 t).unread (iblk m c 1 t)) ((hs0_2 t).unread (iblk m c 2 t))
def out0_5 (c : Dev nD) (t : Fin cfg0.N) : Vec F S1x1x1024 .f32 := V6 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hs0_1 t).unread (iblk m c 1 t)) ((hs0_2 t).unread (iblk m c 2 t))
def out0_6 (c : Dev nD) (t : Fin cfg0.N) : Vec F S1x1x1024 .f32 := V7 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hs0_1 t).unread (iblk m c 1 t)) ((hs0_2 t).unread (iblk m c 2 t))
def out0_7 (c : Dev nD) (t : Fin cfg0.N) : Vec F S1x1x1024 .f32 := View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).1
def out0_8 (c : Dev nD) (t : Fin cfg0.N) : Vec F S1x1024x128 .bf16 := View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.1
def out0_9 (c : Dev nD) (t : Fin cfg0.N) : Vec F S1x1024x128 .bf16 := View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.1
def out0_10 (c : Dev nD) (t : Fin cfg0.N) : Vec F S1x1x6144 .f32 := (ms0_10 t).view.read (Elt F) (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.1
def out0_11 (c : Dev nD) (t : Fin cfg0.N) : Vec F S1x1x128 .f32 := View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.2.1

theorem cover0_7 (c : Dev nD) (t : Fin cfg0.N) (y : S1x1x1024.Idx) : ∃ pc ∈ (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).1, y ∈ pc.1.set :=
  View.cover_of_tiledL (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).1 S1x1x256.size (by sl_kernel_rfl) y
theorem cover0_8 (c : Dev nD) (t : Fin cfg0.N) (y : S1x1024x128.Idx) : ∃ pc ∈ (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.1, y ∈ pc.1.set :=
  View.cover_of_tiledL (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.1 S1x1024x128.size (by sl_kernel_rfl) y
theorem cover0_9 (c : Dev nD) (t : Fin cfg0.N) (y : S1x1024x128.Idx) : ∃ pc ∈ (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.1, y ∈ pc.1.set :=
  View.cover_of_tiledL (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.1 S1x1024x128.size (by sl_kernel_rfl) y
theorem cover0_11 (c : Dev nD) (t : Fin cfg0.N) (y : S1x1x128.Idx) : ∃ pc ∈ (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.2.1, y ∈ pc.1.set :=
  View.cover_of_tiledL (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.2.1 S1x1x128.size (by sl_kernel_rfl) y

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 m c t
    | ⟨4, _⟩ => out0_4 m c t
    | ⟨5, _⟩ => out0_5 m c t
    | ⟨6, _⟩ => out0_6 m c t
    | ⟨7, _⟩ => out0_7 m c t
    | ⟨8, _⟩ => out0_8 m c t
    | ⟨9, _⟩ => out0_9 m c t
    | ⟨10, _⟩ => out0_10 m c t
    | ⟨11, _⟩ => out0_11 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 m c t := by dsimp only [dats]
theorem after0_4 (c : Dev nD) (t : Fin cfg0.N) : (dats m 0 c).after 4 t = out0_4 m c t := by dsimp only [dats]
theorem after0_5 (c : Dev nD) (t : Fin cfg0.N) : (dats m 0 c).after 5 t = out0_5 m c t := by dsimp only [dats]
theorem after0_6 (c : Dev nD) (t : Fin cfg0.N) : (dats m 0 c).after 6 t = out0_6 m c t := by dsimp only [dats]
theorem after0_7 (c : Dev nD) (t : Fin cfg0.N) : (dats m 0 c).after 7 t = out0_7 m c t := by dsimp only [dats]
theorem after0_8 (c : Dev nD) (t : Fin cfg0.N) : (dats m 0 c).after 8 t = out0_8 m c t := by dsimp only [dats]
theorem after0_9 (c : Dev nD) (t : Fin cfg0.N) : (dats m 0 c).after 9 t = out0_9 m c t := by dsimp only [dats]
theorem after0_10 (c : Dev nD) (t : Fin cfg0.N) : (dats m 0 c).after 10 t = out0_10 m c t := by dsimp only [dats]
theorem after0_11 (c : Dev nD) (t : Fin cfg0.N) : (dats m 0 c).after 11 t = out0_11 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS]; · iexact HS
  iintro ⟨H0, H1, H2, H3, H4, H5, H6, ⟨%e7, H7⟩, ⟨%e8, H8⟩, ⟨%e9, H9⟩, H10, ⟨%e11, H11⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact (hs0_3 t).read_unread _
  isplitl [H4]
  · unfold owns; iexists _; isplitr
    swap; · iexact H4
    ipureintro; exact (hs0_4 t).read_unread _
  isplitl [H5]
  · unfold owns; iexists _; isplitr
    swap; · iexact H5
    ipureintro; exact (hs0_5 t).read_unread _
  isplitl [H6]
  · unfold owns; iexists _; isplitr
    swap; · iexact H6
    ipureintro; exact (hs0_6 t).read_unread _
  isplitl [H7]
  · unfold owns; iexists _; isplitr
    swap; · iexact H7
    ipureintro; exact funext fun y => View.read_writes_apply_eq_canon _ _ _ _ (cover0_7 m c t y)
  isplitl [H8]
  · unfold owns; iexists _; isplitr
    swap; · iexact H8
    ipureintro; exact funext fun y => View.read_writes_apply_eq_canon _ _ _ _ (cover0_8 m c t y)
  isplitl [H9]
  · unfold owns; iexists _; isplitr
    swap; · iexact H9
    ipureintro; exact funext fun y => View.read_writes_apply_eq_canon _ _ _ _ (cover0_9 m c t y)
  isplitl [H10]
  · unfold owns; iexists _; isplitr
    swap; · iexact H10
    ipureintro; rfl
  unfold owns; iexists _; isplitr
  swap; · iexact H11
  ipureintro; exact funext fun y => View.read_writes_apply_eq_canon _ _ _ _ (cover0_11 m c t y)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The call runs, changes none of its arguments, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Gram.Gen

end
-- ==== Proof.GramRefHost.lean ====
module

public import proofs.«01_k».proof.Proof.Gen.GramRefIdeal.Frame
public import Idealize.ShloMosaic.Lib.Pipeline.ValueKit
public import Idealize.ShloMosaic.Lib.Pointwise

@[expose] public section

set_option maxRecDepth 16384

noncomputable section

namespace Cert.GramRefIdeal.Gen

open Idealize.ShloMosaic Idealize.ShloMosaic.TcCoe Idealize.ShloMosaic.StableHlo Idealize.SL.Sem

/-! The values of the reference's host operations, over any contents of the buffers they read. -/

/-- The largest magnitude in each row of `x`. -/
def maxX (A : Vec Ideal S20x1024x1536 .bf16) : Vec Ideal S20x1024 .f32 :=
  Host.reduce (FloatOps.maximumf (F := Ideal) (φ := .f32)) (Host.absf (F := Ideal) (φ := .f32) (extf .f32 A bitsLt_bf16_f32)) (constant S_ .f32 0xFF800000#32 : FVec Ideal S_ .f32) reducesTo_S20x1024x1536_S20x1024_d2 h_S_

/-- The largest magnitude in each row of `dy`. -/
def maxD (A : Vec Ideal S20x1024x6144 .bf16) : Vec Ideal S20x1024 .f32 :=
  Host.reduce (FloatOps.maximumf (F := Ideal) (φ := .f32)) (Host.absf (F := Ideal) (φ := .f32) (extf .f32 A bitsLt_bf16_f32)) (constant S_ .f32 0xFF800000#32 : FVec Ideal S_ .f32) reducesTo_S20x1024x6144_S20x1024_d2 h_S_

/-- Where the table exceeds the row's bound. -/
def above (T : Vec Ideal S254 .f32) (k : BitVec 32) (a : Vec Ideal S20x1024 .f32) : Vec Ideal S20x1024x254 .i1 :=
  cmpf .ogt
    (broadcastInDim S20x1024x254 ![0, 1, 2] bcast_S1x1x254_S20x1024x254_0_1_2 (broadcastInDim S1x1x254 ![2] bcast_S254_S1x1x254_2 T))
    (broadcastInDim S20x1024x254 ![0, 1, 2] bcast_S20x1024x1_S20x1024x254_0_1_2 (broadcastInDim S20x1024x1 ![0, 1] bcast_S20x1024_S20x1024x1_0_1
      (mulf a (broadcastInDim S20x1024 ![] bcast_S_S20x1024 (constant S_ .f32 k : FVec Ideal S_ .f32)))))

/-- The table's entries that exceed the bound, and infinity elsewhere. -/
def cand (M : Vec Ideal S20x1024x254 .i1) (T : Vec Ideal S254 .f32) (v : Vec Ideal S_ .f32) : Vec Ideal S20x1024x254 .f32 :=
  select M (broadcastInDim S20x1024x254 ![2] bcast_S254_S20x1024x254_2 T) (broadcastInDim S20x1024x254 ![] bcast_S_S20x1024x254 v)

/-- The least of the candidates. -/
def least (A : Vec Ideal S20x1024x254 .f32) : Vec Ideal S20x1024 .f32 :=
  Host.reduce (FloatOps.minimumf (F := Ideal) (φ := .f32)) A (constant S_ .f32 0x7F800000#32 : FVec Ideal S_ .f32) reducesTo_S20x1024x254_S20x1024_d2 h_S_

/-- Which rows are zero. -/
def isZero (a : Vec Ideal S20x1024 .f32) : Vec Ideal S20x1024 .i1 :=
  cmpf .oeq a (broadcastInDim S20x1024 ![] bcast_S_S20x1024 (constant S_ .f32 0x00000000#32 : FVec Ideal S_ .f32))

/-- One value where the mask holds, the given ones elsewhere. -/
def pick (M : Vec Ideal S20x1024 .i1) (v : Vec Ideal S_ .f32) (a : Vec Ideal S20x1024 .f32) : Vec Ideal S20x1024 .f32 :=
  select M (broadcastInDim S20x1024 ![] bcast_S_S20x1024 v) a

/-- Which scales have an inverse below the normal range. -/
def isBig (s : Vec Ideal S20x1024 .f32) : Vec Ideal S20x1024 .i1 :=
  cmpf .ogt s (broadcastInDim S20x1024 ![] bcast_S_S20x1024 (constant S_ .f32 0x7E800000#32 : FVec Ideal S_ .f32))

/-- The reciprocals. -/
def recip (s : Vec Ideal S20x1024 .f32) : Vec Ideal S20x1024 .f32 :=
  Host.divf (broadcastInDim S20x1024 ![] bcast_S_S20x1024 (constant S_ .f32 0x3F800000#32 : FVec Ideal S_ .f32)) s

/-- The smallest entry of the table above the row's bound, and 1 for a zero row. -/
def scl (T : Vec Ideal S254 .f32) (k : BitVec 32) (a : Vec Ideal S20x1024 .f32) : Vec Ideal S20x1024 .f32 :=
  pick (isZero a) (constant S_ .f32 0x3F800000#32 : FVec Ideal S_ .f32) (least (cand (above T k a) T (constant S_ .f32 0x7F800000#32 : FVec Ideal S_ .f32)))

/-- The inverse of a scale, and 0 where the inverse is below the normal range. -/
def inv (s : Vec Ideal S20x1024 .f32) : Vec Ideal S20x1024 .f32 :=
  pick (isBig s) (constant S_ .f32 0x00000000#32 : FVec Ideal S_ .f32) (recip s)

/-- The table of the powers of two. -/
def tab0 : Vec Ideal S254 .f32 := fun i => FloatOps.ofBits (F := Ideal) .f32 (lit0 (S254.rowMajor i))
/-- The same table again. -/
def tab1 : Vec Ideal S254 .f32 := fun i => FloatOps.ofBits (F := Ideal) .f32 (lit1 (S254.rowMajor i))

variable (X : Valuation τ sig (Elt Ideal))

theorem h0_cst : after hostOps0 X (Proc.devRef .tc main_cst) = tab0 := by
  simp only [hostOps0]
  after_results_simp
  rfl

theorem h0_cst_0 : after hostOps0 X (Proc.devRef .tc main_cst_0) = tab1 := by
  simp only [hostOps0]
  after_results_simp
  rfl

theorem h0_v2 : after hostOps0 X (Proc.devRef .tc main_v2) = maxX (X (Proc.devRef .tc main_arg0)) := by
  simp only [hostOps0]
  after_results_simp
  rfl

theorem h0_v9 : after hostOps0 X (Proc.devRef .tc main_v9) = above tab0 0x3B124925#32 (maxX (X (Proc.devRef .tc main_arg0))) := by
  simp only [hostOps0]
  after_results_simp
  rfl

theorem h0_cst_3 : after hostOps0 X (Proc.devRef .tc main_cst_3) = (constant S_ .f32 0x7F800000#32 : FVec Ideal S_ .f32) := by
  simp only [hostOps0]
  after_results_simp

theorem h1_v10 : after hostOps0_1 X (Proc.devRef .tc main_v10) = cand (X (Proc.devRef .tc main_v9)) (X (Proc.devRef .tc main_cst)) (X (Proc.devRef .tc main_cst_3)) := by
  simp only [hostOps0_1]
  after_results_simp
  rfl

theorem h2_v11 : after hostOps0_2 X (Proc.devRef .tc main_v11) = least (X (Proc.devRef .tc main_v10)) := by
  simp only [hostOps0_2]
  after_results_simp
  rfl

theorem h2_v13 : after hostOps0_2 X (Proc.devRef .tc main_v13) = isZero (X (Proc.devRef .tc main_v2)) := by
  simp only [hostOps0_2]
  after_results_simp
  rfl

theorem h2_cst_6 : after hostOps0_2 X (Proc.devRef .tc main_cst_6) = (constant S_ .f32 0x3F800000#32 : FVec Ideal S_ .f32) := by
  simp only [hostOps0_2]
  after_results_simp

theorem h3_v14 : after hostOps0_3 X (Proc.devRef .tc main_v14) = pick (X (Proc.devRef .tc main_v13)) (X (Proc.devRef .tc main_cst_6)) (X (Proc.devRef .tc main_v11)) := by
  simp only [hostOps0_3]
  after_results_simp
  rfl

theorem h4_v16 : after hostOps0_4 X (Proc.devRef .tc main_v16) = isBig (X (Proc.devRef .tc main_v14)) := by
  simp only [hostOps0_4]
  after_results_simp
  rfl

theorem h4_v18 : after hostOps0_4 X (Proc.devRef .tc main_v18) = recip (X (Proc.devRef .tc main_v14)) := by
  simp only [hostOps0_4]
  after_results_simp
  rfl

theorem h4_cst_9 : after hostOps0_4 X (Proc.devRef .tc main_cst_9) = (constant S_ .f32 0x00000000#32 : FVec Ideal S_ .f32) := by
  simp only [hostOps0_4]
  after_results_simp

theorem h5_v19 : after hostOps0_5 X (Proc.devRef .tc main_v19) = pick (X (Proc.devRef .tc main_v16)) (X (Proc.devRef .tc main_cst_9)) (X (Proc.devRef .tc main_v18)) := by
  simp only [hostOps0_5]
  after_results_simp
  rfl

theorem h6_v22 : after hostOps0_6 X (Proc.devRef .tc main_v22) = maxD (X (Proc.devRef .tc main_arg1)) := by
  simp only [hostOps0_6]
  after_results_simp
  rfl

theorem h6_v29 : after hostOps0_6 X (Proc.devRef .tc main_v29) = above (X (Proc.devRef .tc main_cst_0)) 0x37924925#32 (maxD (X (Proc.devRef .tc main_arg1))) := by
  simp only [hostOps0_6]
  after_results_simp
  rfl

theorem h6_cst_12 : after hostOps0_6 X (Proc.devRef .tc main_cst_12) = (constant S_ .f32 0x7F800000#32 : FVec Ideal S_ .f32) := by
  simp only [hostOps0_6]
  after_results_simp

theorem h7_v30 : after hostOps0_7 X (Proc.devRef .tc main_v30) = cand (X (Proc.devRef .tc main_v29)) (X (Proc.devRef .tc main_cst_0)) (X (Proc.devRef .tc main_cst_12)) := by
  simp only [hostOps0_7]
  after_results_simp
  rfl

theorem h8_v31 : after hostOps0_8 X (Proc.devRef .tc main_v31) = least (X (Proc.devRef .tc main_v30)) := by
  simp only [hostOps0_8]
  after_results_simp
  rfl

theorem h8_v33 : after hostOps0_8 X (Proc.devRef .tc main_v33) = isZero (X (Proc.devRef .tc main_v22)) := by
  simp only [hostOps0_8]
  after_results_simp
  rfl

theorem h8_cst_15 : after hostOps0_8 X (Proc.devRef .tc main_cst_15) = (constant S_ .f32 0x3F800000#32 : FVec Ideal S_ .f32) := by
  simp only [hostOps0_8]
  after_results_simp

theorem h9_v34 : after hostOps0_9 X (Proc.devRef .tc main_v34) = pick (X (Proc.devRef .tc main_v33)) (X (Proc.devRef .tc main_cst_15)) (X (Proc.devRef .tc main_v31)) := by
  simp only [hostOps0_9]
  after_results_simp
  rfl

theorem h10_v36 : after hostOps0_10 X (Proc.devRef .tc main_v36) = isBig (X (Proc.devRef .tc main_v34)) := by
  simp only [hostOps0_10]
  after_results_simp
  rfl

theorem h10_v38 : after hostOps0_10 X (Proc.devRef .tc main_v38) = recip (X (Proc.devRef .tc main_v34)) := by
  simp only [hostOps0_10]
  after_results_simp
  rfl

theorem h10_cst_18 : after hostOps0_10 X (Proc.devRef .tc main_cst_18) = (constant S_ .f32 0x00000000#32 : FVec Ideal S_ .f32) := by
  simp only [hostOps0_10]
  after_results_simp

theorem h11_v39 : after hostOps0_11 X (Proc.devRef .tc main_v39) = pick (X (Proc.devRef .tc main_v36)) (X (Proc.devRef .tc main_cst_18)) (X (Proc.devRef .tc main_v38)) := by
  simp only [hostOps0_11]
  after_results_simp
  rfl

theorem h12_v40 : after hostOps0_12 X (Proc.devRef .tc main_v40) = broadcastInDim S20x1024x1 ![0, 1] bcast_S20x1024_S20x1024x1_0_1 (X (Proc.devRef .tc main_v19)) := by
  simp only [hostOps0_12]
  after_results_simp

theorem h12_v41 : after hostOps0_12 X (Proc.devRef .tc main_v41) = broadcastInDim S20x1024x1 ![0, 1] bcast_S20x1024_S20x1024x1_0_1 (X (Proc.devRef .tc main_v39)) := by
  simp only [hostOps0_12]
  after_results_simp

theorem h0_arg1 : after hostOps0 X (Proc.devRef .tc main_arg1) = X (Proc.devRef .tc main_arg1) := by
  simp only [hostOps0]
  after_results_simp

theorem h1_arg1 : after hostOps0_1 X (Proc.devRef .tc main_arg1) = X (Proc.devRef .tc main_arg1) := by
  simp only [hostOps0_1]
  after_results_simp

theorem h1_cst_0 : after hostOps0_1 X (Proc.devRef .tc main_cst_0) = X (Proc.devRef .tc main_cst_0) := by
  simp only [hostOps0_1]
  after_results_simp

theorem h1_v2 : after hostOps0_1 X (Proc.devRef .tc main_v2) = X (Proc.devRef .tc main_v2) := by
  simp only [hostOps0_1]
  after_results_simp

theorem h2_arg1 : after hostOps0_2 X (Proc.devRef .tc main_arg1) = X (Proc.devRef .tc main_arg1) := by
  simp only [hostOps0_2]
  after_results_simp

theorem h2_cst_0 : after hostOps0_2 X (Proc.devRef .tc main_cst_0) = X (Proc.devRef .tc main_cst_0) := by
  simp only [hostOps0_2]
  after_results_simp

theorem h3_arg1 : after hostOps0_3 X (Proc.devRef .tc main_arg1) = X (Proc.devRef .tc main_arg1) := by
  simp only [hostOps0_3]
  after_results_simp

theorem h3_cst_0 : after hostOps0_3 X (Proc.devRef .tc main_cst_0) = X (Proc.devRef .tc main_cst_0) := by
  simp only [hostOps0_3]
  after_results_simp

theorem h4_arg1 : after hostOps0_4 X (Proc.devRef .tc main_arg1) = X (Proc.devRef .tc main_arg1) := by
  simp only [hostOps0_4]
  after_results_simp

theorem h4_cst_0 : after hostOps0_4 X (Proc.devRef .tc main_cst_0) = X (Proc.devRef .tc main_cst_0) := by
  simp only [hostOps0_4]
  after_results_simp

theorem h4_v14 : after hostOps0_4 X (Proc.devRef .tc main_v14) = X (Proc.devRef .tc main_v14) := by
  simp only [hostOps0_4]
  after_results_simp

theorem h5_arg1 : after hostOps0_5 X (Proc.devRef .tc main_arg1) = X (Proc.devRef .tc main_arg1) := by
  simp only [hostOps0_5]
  after_results_simp

theorem h5_cst_0 : after hostOps0_5 X (Proc.devRef .tc main_cst_0) = X (Proc.devRef .tc main_cst_0) := by
  simp only [hostOps0_5]
  after_results_simp

theorem h5_v14 : after hostOps0_5 X (Proc.devRef .tc main_v14) = X (Proc.devRef .tc main_v14) := by
  simp only [hostOps0_5]
  after_results_simp

theorem h6_cst_0 : after hostOps0_6 X (Proc.devRef .tc main_cst_0) = X (Proc.devRef .tc main_cst_0) := by
  simp only [hostOps0_6]
  after_results_simp

theorem h6_v14 : after hostOps0_6 X (Proc.devRef .tc main_v14) = X (Proc.devRef .tc main_v14) := by
  simp only [hostOps0_6]
  after_results_simp

theorem h6_v19 : after hostOps0_6 X (Proc.devRef .tc main_v19) = X (Proc.devRef .tc main_v19) := by
  simp only [hostOps0_6]
  after_results_simp

theorem h7_v14 : after hostOps0_7 X (Proc.devRef .tc main_v14) = X (Proc.devRef .tc main_v14) := by
  simp only [hostOps0_7]
  after_results_simp

theorem h7_v19 : after hostOps0_7 X (Proc.devRef .tc main_v19) = X (Proc.devRef .tc main_v19) := by
  simp only [hostOps0_7]
  after_results_simp

theorem h7_v22 : after hostOps0_7 X (Proc.devRef .tc main_v22) = X (Proc.devRef .tc main_v22) := by
  simp only [hostOps0_7]
  after_results_simp

theorem h8_v14 : after hostOps0_8 X (Proc.devRef .tc main_v14) = X (Proc.devRef .tc main_v14) := by
  simp only [hostOps0_8]
  after_results_simp

theorem h8_v19 : after hostOps0_8 X (Proc.devRef .tc main_v19) = X (Proc.devRef .tc main_v19) := by
  simp only [hostOps0_8]
  after_results_simp

theorem h9_v14 : after hostOps0_9 X (Proc.devRef .tc main_v14) = X (Proc.devRef .tc main_v14) := by
  simp only [hostOps0_9]
  after_results_simp

theorem h9_v19 : after hostOps0_9 X (Proc.devRef .tc main_v19) = X (Proc.devRef .tc main_v19) := by
  simp only [hostOps0_9]
  after_results_simp

theorem h10_v14 : after hostOps0_10 X (Proc.devRef .tc main_v14) = X (Proc.devRef .tc main_v14) := by
  simp only [hostOps0_10]
  after_results_simp

theorem h10_v19 : after hostOps0_10 X (Proc.devRef .tc main_v19) = X (Proc.devRef .tc main_v19) := by
  simp only [hostOps0_10]
  after_results_simp

theorem h10_v34 : after hostOps0_10 X (Proc.devRef .tc main_v34) = X (Proc.devRef .tc main_v34) := by
  simp only [hostOps0_10]
  after_results_simp

theorem h11_v14 : after hostOps0_11 X (Proc.devRef .tc main_v14) = X (Proc.devRef .tc main_v14) := by
  simp only [hostOps0_11]
  after_results_simp

theorem h11_v19 : after hostOps0_11 X (Proc.devRef .tc main_v19) = X (Proc.devRef .tc main_v19) := by
  simp only [hostOps0_11]
  after_results_simp

theorem h11_v34 : after hostOps0_11 X (Proc.devRef .tc main_v34) = X (Proc.devRef .tc main_v34) := by
  simp only [hostOps0_11]
  after_results_simp

theorem h12_v14 : after hostOps0_12 X (Proc.devRef .tc main_v14) = X (Proc.devRef .tc main_v14) := by
  simp only [hostOps0_12]
  after_results_simp

theorem h12_v34 : after hostOps0_12 X (Proc.devRef .tc main_v34) = X (Proc.devRef .tc main_v34) := by
  simp only [hostOps0_12]
  after_results_simp

/-- All the operations before the kernel. -/
abbrev pre : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12]

theorem pre_v14 : after pre X (Proc.devRef .tc main_v14) = scl tab0 0x3B124925#32 (maxX (X (Proc.devRef .tc main_arg0))) := by
  simp only [pre, List.flatten_cons, List.flatten_nil, List.append_nil, after_append]
  rw [h12_v14, h11_v14, h10_v14, h9_v14, h8_v14, h7_v14, h6_v14, h5_v14, h4_v14, h3_v14, h2_v13, h2_cst_6, h2_v11, h1_v2, h1_v10, h0_v2, h0_v9, h0_cst, h0_cst_3, scl]
theorem pre_v34 : after pre X (Proc.devRef .tc main_v34) = scl tab1 0x37924925#32 (maxD (X (Proc.devRef .tc main_arg1))) := by
  simp only [pre, List.flatten_cons, List.flatten_nil, List.append_nil, after_append]
  rw [h12_v34, h11_v34, h10_v34, h9_v34, h8_v33, h8_cst_15, h8_v31, h7_v22, h7_v30, h6_v22, h6_v29, h6_cst_0, h6_cst_12, h5_cst_0, h4_cst_0, h3_cst_0, h2_cst_0, h1_cst_0, h0_cst_0, h5_arg1, h4_arg1, h3_arg1, h2_arg1, h1_arg1, h0_arg1, scl]
/-- The column of a vector of row values. -/
def col (a : Vec Ideal S20x1024 .f32) : Vec Ideal S20x1024x1 .f32 := broadcastInDim S20x1024x1 ![0, 1] bcast_S20x1024_S20x1024x1_0_1 a

theorem pre_v40 : after pre X (Proc.devRef .tc main_v40) = col (inv (scl tab0 0x3B124925#32 (maxX (X (Proc.devRef .tc main_arg0))))) := by
  simp only [pre, List.flatten_cons, List.flatten_nil, List.append_nil, after_append]
  rw [h12_v40, h11_v19, h10_v19, h9_v19, h8_v19, h7_v19, h6_v19, h5_v19, h4_v16, h4_cst_9, h4_v18, h3_v14, h2_v13, h2_cst_6, h2_v11, h1_v2, h1_v10, h0_v2, h0_v9, h0_cst, h0_cst_3, scl, inv, col]
theorem pre_v41 : after pre X (Proc.devRef .tc main_v41) = col (inv (scl tab1 0x37924925#32 (maxD (X (Proc.devRef .tc main_arg1))))) := by
  simp only [pre, List.flatten_cons, List.flatten_nil, List.append_nil, after_append]
  rw [h12_v41, h11_v39, h10_v36, h10_cst_18, h10_v38, h9_v34, h8_v33, h8_cst_15, h8_v31, h7_v22, h7_v30, h6_v22, h6_v29, h6_cst_0, h6_cst_12, h5_cst_0, h4_cst_0, h3_cst_0, h2_cst_0, h1_cst_0, h0_cst_0, h5_arg1, h4_arg1, h3_arg1, h2_arg1, h1_arg1, h0_arg1, scl, inv, col]

end Cert.GramRefIdeal.Gen
-- ==== Proof.GramRefPost.lean ====
module

public import proofs.«01_k».proof.Proof.GramRefHost

@[expose] public section

set_option maxRecDepth 16384

noncomputable section

namespace Cert.GramRefIdeal.Gen

open Idealize.ShloMosaic Idealize.ShloMosaic.TcCoe Idealize.ShloMosaic.StableHlo Idealize.SL.Sem

/-! The values of the reference's host operations after the codes are made, over any scales and codes. -/

/-- The product of every two rows' scales. -/
def pairs (s : Vec Ideal S20x1024 .f32) : Vec Ideal S20x1024x1024 .f32 :=
  mulf (F := Ideal) (φ := .f32) (broadcastInDim S20x1024x1024 ![0, 1, 2] bcast_S20x1024x1_S20x1024x1024_0_1_2 (broadcastInDim S20x1024x1 ![0, 1] bcast_S20x1024_S20x1024x1_0_1 s))
    (broadcastInDim S20x1024x1024 ![0, 1, 2] bcast_S20x1x1024_S20x1024x1024_0_1_2 (broadcastInDim S20x1x1024 ![0, 2] bcast_S20x1024_S20x1x1024_0_2 s))

/-- The weighted squares' row sums. -/
def sqs (s d : Vec Ideal S20x1024 .f32) (p : Vec Ideal S20x1024x1536 .f32) (q : Vec Ideal S20x1024x6144 .f32) : Vec Ideal S20x1024 .f32 :=
  Host.reduceAdd (F := Ideal) (φ := .f32) (mulf (mulf (Host.dotGeneral (F := Ideal) (φ₁ := .f32) (φ₂ := .f32) dot_S20x1024x1536_S20x1024x1536_S20x1024x1024_2_2_1_1_0_0 none p p) (pairs s))
    (mulf (Host.dotGeneral (F := Ideal) (φ₁ := .f32) (φ₂ := .f32) dot_S20x1024x6144_S20x1024x6144_S20x1024x1024_2_2_1_1_0_0 none q q) (pairs d)))
    (constant S_ .f32 0x00000000#32) reducesTo_S20x1024x1024_S20x1024_d2 h_S_

/-- The per-batch vectors. -/
def gvs (d : Vec Ideal S20x1024 .f32) (q : Vec Ideal S20x1024x6144 .f32) : Vec Ideal S20x6144 .f32 :=
  Host.dotGeneral (F := Ideal) (φ₁ := .f32) (φ₂ := .f32) dot_S20x1024x6144_S20x1024_S20x6144_1_1_2_n_0_0 none q d

/-- The per-batch vectors' squared lengths. -/
def bss (g : Vec Ideal S20x6144 .f32) : Vec Ideal S20 .f32 :=
  Host.reduceAdd (F := Ideal) (φ := .f32) (mulf g g) (constant S_ .f32 0x00000000#32) reducesTo_S20x6144_S20_d1 h_S_

/-- The norms. -/
def nms (v : Vec Ideal S20x1024 .f32) (b : Vec Ideal S20 .f32) : Vec Ideal S20 .f32 :=
  Host.sqrt (F := Ideal) (φ := .f32) (maximumf (addf (Host.reduceAdd (F := Ideal) (φ := .f32) v (constant S_ .f32 0x00000000#32) reducesTo_S20x1024_S20_d1 h_S_) b)
    (broadcastInDim S20 ![] bcast_S_S20 (constant S_ .f32 0x00000000#32 : FVec Ideal S_ .f32)))

/-- The clipping coefficients. -/
def cfs (z : Vec Ideal S1 .f32) (n : Vec Ideal S20 .f32) : Vec Ideal S20 .f32 :=
  minimumf (F := Ideal) (φ := .f32) (broadcastInDim S20 ![] bcast_S_S20 (constant S_ .f32 0x3F800000#32 : FVec Ideal S_ .f32))
    (Host.divf (F := Ideal) (φ := .f32) (broadcastInDim S20 ![] bcast_S_S20 (shapeCast S_ z shapeCasts_S1_S_))
      (addf n (broadcastInDim S20 ![] bcast_S_S20 (constant S_ .f32 0x358637BD#32 : FVec Ideal S_ .f32))))

/-- A row value at each of 128 lanes. -/
def lanes (a : Vec Ideal S20x1024 .bf16) : Vec Ideal S20x1024x128 .bf16 :=
  broadcastInDim S20x1024x128 ![0, 1, 2] bcast_S20x1024x1_S20x1024x128_0_1_2 (broadcastInDim S20x1024x1 ![0, 1] bcast_S20x1024_S20x1024x1_0_1 a)

/-- The scales of `dy` times the coefficients. -/
def facs (f : Vec Ideal S20 .f32) (d : Vec Ideal S20x1024 .f32) : Vec Ideal S20x1024 .f32 :=
  mulf (F := Ideal) (φ := .f32) (broadcastInDim S20x1024 ![0, 1] bcast_S20x1_S20x1024_0_1 (broadcastInDim S20x1 ![0] bcast_S20_S20x1_0 f)) d

/-- A row vector of each batch. -/
def rowed (s : Vec Ideal S20x1024 .f32) : Vec Ideal S20x1x1024 .f32 := broadcastInDim S20x1x1024 ![0, 2] bcast_S20x1024_S20x1x1024_0_2 s

/-- The statistics: norm, squared length, then coefficients. -/
def stats (n b f : Vec Ideal S20 .f32) : Vec Ideal S20x1x128 .f32 :=
  broadcastInDim S20x1x128 ![0, 2] bcast_S20x128_S20x1x128_0_2
    (concatenate S20x128 1 [⟨S20x1, (broadcastInDim S20x1 ![0] bcast_S20_S20x1_0 n : Vec Ideal S20x1 .f32)⟩, ⟨S20x1, (broadcastInDim S20x1 ![0] bcast_S20_S20x1_0 b : Vec Ideal S20x1 .f32)⟩,
      ⟨S20x126, (broadcastInDim S20x126 ![0, 1] bcast_S20x1_S20x126_0_1 (broadcastInDim S20x1 ![0] bcast_S20_S20x1_0 f) : Vec Ideal S20x126 .f32)⟩] concatenates_S20x1_S20x1_S20x126_S20x128_d1)

variable (X : Valuation τ sig (Elt Ideal))

theorem p_v88 : after hostOps1 X (Proc.devRef .tc main_v88) = rowed (X (Proc.devRef .tc main_v14)) := by
  simp only [hostOps1]
  after_results_simp
  rfl

theorem p_v89 : after hostOps1 X (Proc.devRef .tc main_v89) = rowed (X (Proc.devRef .tc main_v34)) := by
  simp only [hostOps1]
  after_results_simp
  rfl

theorem p_v90 : after hostOps1 X (Proc.devRef .tc main_v90) = rowed (sqs (X (Proc.devRef .tc main_v14)) (X (Proc.devRef .tc main_v34)) (X (Proc.devRef .tc main_v42_1)) (X (Proc.devRef .tc main_v42_3))) := by
  simp only [hostOps1]
  after_results_simp
  rfl

theorem p_v91 : after hostOps1 X (Proc.devRef .tc main_v91) = broadcastInDim S20x1x6144 ![0, 2] bcast_S20x6144_S20x1x6144_0_2 (gvs (X (Proc.devRef .tc main_v34)) (X (Proc.devRef .tc main_v42_3))) := by
  simp only [hostOps1]
  after_results_simp
  rfl

theorem p_v80 : after hostOps1 X (Proc.devRef .tc main_v80) = lanes (truncf (F := Ideal) (φ := .f32) .bf16 (X (Proc.devRef .tc main_v14)) bitsLt_bf16_f32) := by
  simp only [hostOps1]
  after_results_simp
  rfl

theorem p_v82 : after hostOps1 X (Proc.devRef .tc main_v82)
    = lanes (truncf (F := Ideal) (φ := .f32) .bf16 (facs (cfs (X (Proc.devRef .tc main_arg2)) (nms (sqs (X (Proc.devRef .tc main_v14)) (X (Proc.devRef .tc main_v34)) (X (Proc.devRef .tc main_v42_1)) (X (Proc.devRef .tc main_v42_3))) (bss (gvs (X (Proc.devRef .tc main_v34)) (X (Proc.devRef .tc main_v42_3)))))) (X (Proc.devRef .tc main_v34))) bitsLt_bf16_f32) := by
  simp only [hostOps1]
  after_results_simp
  rfl

theorem p_v92 : after hostOps1 X (Proc.devRef .tc main_v92)
    = stats (nms (sqs (X (Proc.devRef .tc main_v14)) (X (Proc.devRef .tc main_v34)) (X (Proc.devRef .tc main_v42_1)) (X (Proc.devRef .tc main_v42_3))) (bss (gvs (X (Proc.devRef .tc main_v34)) (X (Proc.devRef .tc main_v42_3))))) (bss (gvs (X (Proc.devRef .tc main_v34)) (X (Proc.devRef .tc main_v42_3)))) (cfs (X (Proc.devRef .tc main_arg2)) (nms (sqs (X (Proc.devRef .tc main_v14)) (X (Proc.devRef .tc main_v34)) (X (Proc.devRef .tc main_v42_1)) (X (Proc.devRef .tc main_v42_3))) (bss (gvs (X (Proc.devRef .tc main_v34)) (X (Proc.devRef .tc main_v42_3)))))) := by
  simp only [hostOps1]
  after_results
  rfl

end Cert.GramRefIdeal.Gen
-- ==== Proof.GramIdealTrip.lean ====
/- One trip of the quantising loop: what it stores, as lists of pieces. -/
module

public import proofs.«01_k».proof.Proof.Gen.GramIdeal.Loops
public import Idealize.ShloMosaic.Lib.Exec
public import Idealize.ShloMosaic.Lib.Tactic
public import Idealize.ShloMosaic.Lib.Pipeline.Kit

@[expose] public section

set_option maxRecDepth 16384
set_option maxHeartbeats 8000000

noncomputable section

namespace Cert.GramIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)

/-- What a trip reads and writes. -/
abbrev Trip (X2 : BufTy.Contents (Elt F) arg2.view.ty) (X3 : BufTy.Contents (Elt F) arg3.view.ty)
    (f4 : BufTy.Contents (Elt F) arg4.view.ty) (f5 : BufTy.Contents (Elt F) arg5.view.ty)
    (f6 : BufTy.Contents (Elt F) arg6.view.ty) (f7 : BufTy.Contents (Elt F) arg7.view.ty)
    (f11 : BufTy.Contents (Elt F) arg11.view.ty) (f13 : BufTy.Contents (Elt F) arg13.view.ty) : sProp 𝕄G :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} f4) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7)
    ∗ (arg11.view.loc (c : Thread nD τ) ↦[arg11.view.set]{fullShare} f11) ∗ (arg13.view.loc (c : Thread nD τ) ↦[arg13.view.set]{fullShare} f13))

/-- One trip at a symbolic `k`: the pieces it stores. Only the row sums it stores depend on what it finds. -/
def trip (X2 : BufTy.Contents (Elt F) arg2.view.ty) (X3 : BufTy.Contents (Elt F) arg3.view.ty) (k : Fin k0_t1_loop.trips) :
    Σ' (L4 : List (View.Piece (Elt F) S1x1024x1536 .fp8e4m3)) (L5 : List (View.Piece (Elt F) S1x1024x6144 .fp8e5m2))
      (L6 : List (View.Piece (Elt F) S1x1x1024 .f32)) (L7 : List (View.Piece (Elt F) S1x1x1024 .f32))
      (L11 : BufTy.Contents (Elt F) arg11.view.ty → List (View.Piece (Elt F) S1x1x6144 .f32)),
      { L13 : List (View.Piece (Elt F) S2x1024x128 .f32) //
        ∀ (E : Set ℕ) (f4 : BufTy.Contents (Elt F) arg4.view.ty) (f5 : BufTy.Contents (Elt F) arg5.view.ty)
          (f6 : BufTy.Contents (Elt F) arg6.view.ty) (f7 : BufTy.Contents (Elt F) arg7.view.ty)
          (f11 : BufTy.Contents (Elt F) arg11.view.ty) (f13 : BufTy.Contents (Elt F) arg13.view.ty),
        Trip (F := F) c arg2 arg3 arg4 arg5 arg6 arg7 arg11 arg13 X2 X3 f4 f5 f6 f7 f11 f13
        ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
          (fun _ => Trip (F := F) c arg2 arg3 arg4 arg5 arg6 arg7 arg11 arg13 X2 X3
            (arg4.view.writes (Elt F) f4 L4) (arg5.view.writes (Elt F) f5 L5) (arg6.view.writes (Elt F) f6 L6)
            (arg7.view.writes (Elt F) f7 L7) (arg11.view.writes (Elt F) f11 (L11 f11)) (arg13.view.writes (Elt F) f13 L13)) } := by
  have hk : k.val < 8 := Nat.lt_of_lt_of_le k.isLt k0_t1_abs.2.1
  refine ⟨?_, ?_, ?_, ?_, ?_, ?_, fun E f4 f5 f6 f7 f11 f13 => ?run⟩
  case run =>
    unfold k0_t1_body
    iintro ⟨H2, H3, H4, H5, H6, H7, H11, H13⟩
    sl_exec
    sl_step
    sl_close

end Cert.GramIdeal.Gen

end
-- ==== Proof.GramIdealLoop.lean ====
/- The quantising loop: what each array it fills holds after the first `n` trips. -/
module

public import proofs.«01_k».proof.Proof.GramIdealTrip
public import proofs.«01_k».proof.Proof.Rows

@[expose] public section

set_option maxRecDepth 16384
set_option maxHeartbeats 4000000

noncomputable section

namespace Cert.GramIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rows

variable {F : FTy → Type} [FloatOps F]

local notation "𝕄G" => MT nD τ sig Unit (Elt F) ℕ (UR sig nD τ) ℕ

theorem trips_eq : k0_t1_loop.trips = 8 := by decide +kernel

/-- The trip that fills row `r`. -/
def blk (r : ℕ) (h : r < 1024) : Fin k0_t1_loop.trips := ⟨r / 128, by rw [trips_eq]; omega⟩

theorem blk_eq {r : ℕ} (h : r < 1024) (k : Fin k0_t1_loop.trips) (h1 : 128 * k.val ≤ r) (h2 : r < 128 * (k.val + 1)) : blk r h = k :=
  Fin.ext (by show r / 128 = k.val; omega)

def offs4 (k : Fin k0_t1_loop.trips) : List (Fin 3 → ℕ) := [k0_off13 k, k0_off12 k, k0_off11 k, k0_off10 k, k0_off9 k, k0_off8 k, k0_off7 k, k0_off6 k, k0_off5 k, k0_off4 k, k0_off3 k, k0_off2 k]
def offs5 (k : Fin k0_t1_loop.trips) : List (Fin 3 → ℕ) := [k0_off62 k, k0_off61 k, k0_off60 k, k0_off59 k, k0_off58 k, k0_off57 k, k0_off56 k, k0_off55 k, k0_off54 k, k0_off53 k, k0_off52 k, k0_off51 k, k0_off50 k, k0_off49 k, k0_off48 k, k0_off47 k, k0_off46 k, k0_off45 k, k0_off44 k, k0_off43 k, k0_off42 k, k0_off41 k, k0_off40 k, k0_off39 k, k0_off38 k, k0_off37 k, k0_off36 k, k0_off35 k, k0_off34 k, k0_off33 k, k0_off32 k, k0_off31 k, k0_off30 k, k0_off29 k, k0_off28 k, k0_off27 k, k0_off26 k, k0_off25 k, k0_off24 k, k0_off23 k, k0_off22 k, k0_off21 k, k0_off20 k, k0_off19 k, k0_off18 k, k0_off17 k, k0_off16 k, k0_off15 k]

theorem offs4_eq : ∀ k, (offs4 k).reverse = (List.range 12).map fun j => ![0, 128 * k.val, 128 * j] := by decide +kernel
theorem offs5_eq : ∀ k, (offs5 k).reverse = (List.range 48).map fun j => ![0, 128 * k.val, 128 * j] := by decide +kernel
theorem off65_eq : ∀ k, k0_off65 k = ![0, 0, 128 * k.val] := by decide +kernel
theorem off64_eq : ∀ k, k0_off64 k = ![1, 128 * k.val, 0] := by decide +kernel
theorem off63_eq : ∀ k, k0_off63 k = ![0, 128 * k.val, 0] := by decide +kernel

variable (𝒱 : Variants) (c : Dev nD) (bd : Option 𝒱.V) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)
  (X2 : BufTy.Contents (Elt F) arg2.view.ty) (X3 : BufTy.Contents (Elt F) arg3.view.ty)

theorem boxes4 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).1.map (fun p => (p.1.off, p.1.size, p.1.stride))
    = ((offs4 k).map fun o => (o, S1x128x128.size)).map fun b => (b.1, b.2, fun _ => 1) := rfl
theorem boxes5 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1.map (fun p => (p.1.off, p.1.size, p.1.stride))
    = ((offs5 k).map fun o => (o, S1x128x128.size)).map fun b => (b.1, b.2, fun _ => 1) := rfl
theorem boxes6 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.1.map (fun p => (p.1.off, p.1.size, p.1.stride))
    = [(k0_off65 k, S1x1x128.size)].map fun b => (b.1, b.2, fun _ => 1) := rfl
theorem boxes7 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.1.map (fun p => (p.1.off, p.1.size, p.1.stride))
    = [(k0_off65 k, S1x1x128.size)].map fun b => (b.1, b.2, fun _ => 1) := rfl
theorem boxes13 (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.1.map (fun p => (p.1.off, p.1.size, p.1.stride))
    = [(k0_off64 k, S1x128x128.size), (k0_off63 k, S1x128x128.size)].map fun b => (b.1, b.2, fun _ => 1) := rfl

theorem block4 (k : Fin k0_t1_loop.trips) :
    (∀ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).1, ∀ y ∈ p.1.set, 128 * k.val ≤ (y 1).val ∧ (y 1).val < 128 * (k.val + 1))
    ∧ ∀ y : S1x1024x1536.Idx, 128 * k.val ≤ (y 1).val → (y 1).val < 128 * (k.val + 1) → ∃ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).1, y ∈ p.1.set := by
  have hm : ∀ o, o ∈ offs4 k ↔ ∃ j < 12, ![0, 128 * k.val, 128 * j] = o := fun o => by
    rw [← List.mem_reverse, offs4_eq]; simp
  refine block_of_boxes (boxes4 𝒱 c bd i arg1 harg1 arg2 harg2 arg3 harg3 arg4 harg4 arg5 harg5 arg6 harg6 arg7 harg7 arg8 harg8 arg9 harg9 arg10 harg10 arg11 harg11 arg12 harg12 arg13 harg13 X2 X3 k) 1 k.val (fun b hb => ?_) fun y h1 h2 => ?_
  · obtain ⟨o, ho, rfl⟩ := List.mem_map.mp hb
    obtain ⟨j, -, rfl⟩ := (hm o).mp ho
    exact ⟨rfl, rfl⟩
  · have h0 : (y 0).val < 1 := (y 0).isLt
    have h3 : (y 2).val < 1536 := (y 2).isLt
    refine ⟨_, List.mem_map_of_mem ((hm _).mpr ⟨(y 2).val / 128, by omega, rfl⟩), fun a => ?_⟩
    fin_cases a
    · show 0 ≤ (y 0).val ∧ (y 0).val < 0 + 1; omega
    · show 128 * k.val ≤ (y 1).val ∧ (y 1).val < 128 * k.val + 128; omega
    · show 128 * ((y 2).val / 128) ≤ (y 2).val ∧ (y 2).val < 128 * ((y 2).val / 128) + 128; omega

theorem block5 (k : Fin k0_t1_loop.trips) :
    (∀ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1, ∀ y ∈ p.1.set, 128 * k.val ≤ (y 1).val ∧ (y 1).val < 128 * (k.val + 1))
    ∧ ∀ y : S1x1024x6144.Idx, 128 * k.val ≤ (y 1).val → (y 1).val < 128 * (k.val + 1) → ∃ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1, y ∈ p.1.set := by
  have hm : ∀ o, o ∈ offs5 k ↔ ∃ j < 48, ![0, 128 * k.val, 128 * j] = o := fun o => by
    rw [← List.mem_reverse, offs5_eq]; simp
  refine block_of_boxes (boxes5 𝒱 c bd i arg1 harg1 arg2 harg2 arg3 harg3 arg4 harg4 arg5 harg5 arg6 harg6 arg7 harg7 arg8 harg8 arg9 harg9 arg10 harg10 arg11 harg11 arg12 harg12 arg13 harg13 X2 X3 k) 1 k.val (fun b hb => ?_) fun y h1 h2 => ?_
  · obtain ⟨o, ho, rfl⟩ := List.mem_map.mp hb
    obtain ⟨j, -, rfl⟩ := (hm o).mp ho
    exact ⟨rfl, rfl⟩
  · have h0 : (y 0).val < 1 := (y 0).isLt
    have h3 : (y 2).val < 6144 := (y 2).isLt
    refine ⟨_, List.mem_map_of_mem ((hm _).mpr ⟨(y 2).val / 128, by omega, rfl⟩), fun a => ?_⟩
    fin_cases a
    · show 0 ≤ (y 0).val ∧ (y 0).val < 0 + 1; omega
    · show 128 * k.val ≤ (y 1).val ∧ (y 1).val < 128 * k.val + 128; omega
    · show 128 * ((y 2).val / 128) ≤ (y 2).val ∧ (y 2).val < 128 * ((y 2).val / 128) + 128; omega

theorem block_lane {L : List (View.Piece (Elt F) S1x1x1024 .f32)} (k : Fin k0_t1_loop.trips)
    (h : L.map (fun p => (p.1.off, p.1.size, p.1.stride)) = [(k0_off65 k, S1x1x128.size)].map fun b => (b.1, b.2, fun _ => 1)) :
    (∀ p ∈ L, ∀ y ∈ p.1.set, 128 * k.val ≤ (y 2).val ∧ (y 2).val < 128 * (k.val + 1))
    ∧ ∀ y : S1x1x1024.Idx, 128 * k.val ≤ (y 2).val → (y 2).val < 128 * (k.val + 1) → ∃ p ∈ L, y ∈ p.1.set := by
  refine block_of_boxes h 2 k.val (fun b hb => ?_) fun y h1 h2 => ?_
  · obtain rfl := List.mem_singleton.mp hb
    exact ⟨by rw [off65_eq]; rfl, rfl⟩
  · have h0 : (y 0).val < 1 := (y 0).isLt
    have h3 : (y 1).val < 1 := (y 1).isLt
    refine ⟨_, List.mem_singleton.mpr rfl, fun a => ?_⟩
    rw [off65_eq]
    fin_cases a
    · show 0 ≤ (y 0).val ∧ (y 0).val < 0 + 1; omega
    · show 0 ≤ (y 1).val ∧ (y 1).val < 0 + 1; omega
    · show 128 * k.val ≤ (y 2).val ∧ (y 2).val < 128 * k.val + 128; omega

theorem block13 (k : Fin k0_t1_loop.trips) :
    (∀ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.1, ∀ y ∈ p.1.set, 128 * k.val ≤ (y 1).val ∧ (y 1).val < 128 * (k.val + 1))
    ∧ ∀ y : S2x1024x128.Idx, 128 * k.val ≤ (y 1).val → (y 1).val < 128 * (k.val + 1) → ∃ p ∈ (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.1, y ∈ p.1.set := by
  refine block_of_boxes (boxes13 𝒱 c bd i arg1 harg1 arg2 harg2 arg3 harg3 arg4 harg4 arg5 harg5 arg6 harg6 arg7 harg7 arg8 harg8 arg9 harg9 arg10 harg10 arg11 harg11 arg12 harg12 arg13 harg13 X2 X3 k) 1 k.val (fun b hb => ?_) fun y h1 h2 => ?_
  · rw [List.mem_pair] at hb
    rcases hb with rfl | rfl
    · exact ⟨by rw [off64_eq]; rfl, rfl⟩
    · exact ⟨by rw [off63_eq]; rfl, rfl⟩
  · have h0 : (y 0).val < 2 := (y 0).isLt
    have h3 : (y 2).val < 128 := (y 2).isLt
    rw [off64_eq, off63_eq]
    by_cases hy : (y 0).val = 0
    · refine ⟨_, List.mem_pair.mpr (.inr rfl), fun a => ?_⟩
      fin_cases a
      · show 0 ≤ (y 0).val ∧ (y 0).val < 0 + 1; omega
      · show 128 * k.val ≤ (y 1).val ∧ (y 1).val < 128 * k.val + 128; omega
      · show 0 ≤ (y 2).val ∧ (y 2).val < 0 + 128; omega
    · refine ⟨_, List.mem_pair.mpr (.inl rfl), fun a => ?_⟩
      fin_cases a
      · show 1 ≤ (y 0).val ∧ (y 0).val < 1 + 1; omega
      · show 128 * k.val ≤ (y 1).val ∧ (y 1).val < 128 * k.val + 128; omega
      · show 0 ≤ (y 2).val ∧ (y 2).val < 0 + 128; omega

/-- The codes and scales, each row from the trip that fills it. -/
def V4 : Vec F S1x1024x1536 .fp8e4m3 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).1 y
def V5 : Vec F S1x1024x6144 .fp8e5m2 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).2.1 y
def V6 : Vec F S1x1x1024 .f32 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 2).val (y 2).isLt)).2.2.1 y
def V7 : Vec F S1x1x1024 .f32 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 2).val (y 2).isLt)).2.2.2.1 y
def V13 : Vec F S2x1024x128 .f32 := fun y => View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).2.2.2.2.2.1 y

/-- The row sums after the first `n` trips, from `G`. -/
def sums (G : BufTy.Contents (Elt F) arg11.view.ty) : ℕ → BufTy.Contents (Elt F) arg11.view.ty
  | 0 => G
  | n + 1 => if h : n < k0_t1_loop.trips then
      arg11.view.writes (Elt F) (sums G n) ((trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 ⟨n, h⟩).2.2.2.2.1 (sums G n)) else sums G n

theorem sums_succ (G : BufTy.Contents (Elt F) arg11.view.ty) (k : Fin k0_t1_loop.trips) : sums 𝒱 c bd i arg1 harg1 arg2 harg2 arg3 harg3 arg4 harg4 arg5 harg5 arg6 harg6 arg7 harg7 arg8 harg8 arg9 harg9 arg10 harg10 arg11 harg11 arg12 harg12 arg13 harg13 X2 X3 G (k.val + 1)
    = arg11.view.writes (Elt F) (sums 𝒱 c bd i arg1 harg1 arg2 harg2 arg3 harg3 arg4 harg4 arg5 harg5 arg6 harg6 arg7 harg7 arg8 harg8 arg9 harg9 arg10 harg10 arg11 harg11 arg12 harg12 arg13 harg13 X2 X3 G k.val) ((trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.1 (sums 𝒱 c bd i arg1 harg1 arg2 harg2 arg3 harg3 arg4 harg4 arg5 harg5 arg6 harg6 arg7 harg7 arg8 harg8 arg9 harg9 arg10 harg10 arg11 harg11 arg12 harg12 arg13 harg13 X2 X3 G k.val)) := by
  rw [sums]; exact dif_pos k.isLt

variable (G4 : BufTy.Contents (Elt F) arg4.view.ty) (G5 : BufTy.Contents (Elt F) arg5.view.ty)
  (G6 : BufTy.Contents (Elt F) arg6.view.ty) (G7 : BufTy.Contents (Elt F) arg7.view.ty)
  (G11 : BufTy.Contents (Elt F) arg11.view.ty) (G13 : BufTy.Contents (Elt F) arg13.view.ty)

/-- What the arrays hold after the first `n` trips. -/
def S4 : ℕ → BufTy.Contents (Elt F) arg4.view.ty
  | 0 => G4
  | n + 1 => harg4.unread (fill 1 (n + 1) (V4 𝒱 c bd i arg1 harg1 arg2 harg2 arg3 harg3 arg4 harg4 arg5 harg5 arg6 harg6 arg7 harg7 arg8 harg8 arg9 harg9 arg10 harg10 arg11 harg11 arg12 harg12 arg13 harg13 X2 X3) (arg4.view.read (Elt F) G4))
def S5 : ℕ → BufTy.Contents (Elt F) arg5.view.ty
  | 0 => G5
  | n + 1 => harg5.unread (fill 1 (n + 1) (V5 𝒱 c bd i arg1 harg1 arg2 harg2 arg3 harg3 arg4 harg4 arg5 harg5 arg6 harg6 arg7 harg7 arg8 harg8 arg9 harg9 arg10 harg10 arg11 harg11 arg12 harg12 arg13 harg13 X2 X3) (arg5.view.read (Elt F) G5))
def S6 : ℕ → BufTy.Contents (Elt F) arg6.view.ty
  | 0 => G6
  | n + 1 => harg6.unread (fill 2 (n + 1) (V6 𝒱 c bd i arg1 harg1 arg2 harg2 arg3 harg3 arg4 harg4 arg5 harg5 arg6 harg6 arg7 harg7 arg8 harg8 arg9 harg9 arg10 harg10 arg11 harg11 arg12 harg12 arg13 harg13 X2 X3) (arg6.view.read (Elt F) G6))
def S7 : ℕ → BufTy.Contents (Elt F) arg7.view.ty
  | 0 => G7
  | n + 1 => harg7.unread (fill 2 (n + 1) (V7 𝒱 c bd i arg1 harg1 arg2 harg2 arg3 harg3 arg4 harg4 arg5 harg5 arg6 harg6 arg7 harg7 arg8 harg8 arg9 harg9 arg10 harg10 arg11 harg11 arg12 harg12 arg13 harg13 X2 X3) (arg7.view.read (Elt F) G7))
def S13 : ℕ → BufTy.Contents (Elt F) arg13.view.ty
  | 0 => G13
  | n + 1 => harg13.unread (fill 1 (n + 1) (V13 𝒱 c bd i arg1 harg1 arg2 harg2 arg3 harg3 arg4 harg4 arg5 harg5 arg6 harg6 arg7 harg7 arg8 harg8 arg9 harg9 arg10 harg10 arg11 harg11 arg12 harg12 arg13 harg13 X2 X3) (arg13.view.read (Elt F) G13))

theorem S4_eq (n : ℕ) : S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 n = harg4.unread (fill 1 n (V4 𝒱 c bd i arg1 harg1 arg2 harg2 arg3 harg3 arg4 harg4 arg5 harg5 arg6 harg6 arg7 harg7 arg8 harg8 arg9 harg9 arg10 harg10 arg11 harg11 arg12 harg12 arg13 harg13 X2 X3) (arg4.view.read (Elt F) G4)) := by
  cases n with
  | zero => rw [fill_zero, harg4.unread_read]; rfl
  | succ n => rfl

theorem S4_succ (k : Fin k0_t1_loop.trips) : arg4.view.writes (Elt F) (S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).1 = S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 (k.val + 1) := by
  rw [S4_eq, S4_eq]
  exact writes_fill harg4 1 k.val _ _ _ (block4 𝒱 c bd i arg1 harg1 arg2 harg2 arg3 harg3 arg4 harg4 arg5 harg5 arg6 harg6 arg7 harg7 arg8 harg8 arg9 harg9 arg10 harg10 arg11 harg11 arg12 harg12 arg13 harg13 X2 X3 k).1 (block4 𝒱 c bd i arg1 harg1 arg2 harg2 arg3 harg3 arg4 harg4 arg5 harg5 arg6 harg6 arg7 harg7 arg8 harg8 arg9 harg9 arg10 harg10 arg11 harg11 arg12 harg12 arg13 harg13 X2 X3 k).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).1 y = _
    rw [blk_eq (y 1).isLt k h1 h2]

theorem S4_last : S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 8 = harg4.unread (V4 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S4_eq, fill_all]; decide

theorem S5_eq (n : ℕ) : S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 n = harg5.unread (fill 1 n (V5 𝒱 c bd i arg1 harg1 arg2 harg2 arg3 harg3 arg4 harg4 arg5 harg5 arg6 harg6 arg7 harg7 arg8 harg8 arg9 harg9 arg10 harg10 arg11 harg11 arg12 harg12 arg13 harg13 X2 X3) (arg5.view.read (Elt F) G5)) := by
  cases n with
  | zero => rw [fill_zero, harg5.unread_read]; rfl
  | succ n => rfl

theorem S5_succ (k : Fin k0_t1_loop.trips) : arg5.view.writes (Elt F) (S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1 = S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 (k.val + 1) := by
  rw [S5_eq, S5_eq]
  exact writes_fill harg5 1 k.val _ _ _ (block5 𝒱 c bd i arg1 harg1 arg2 harg2 arg3 harg3 arg4 harg4 arg5 harg5 arg6 harg6 arg7 harg7 arg8 harg8 arg9 harg9 arg10 harg10 arg11 harg11 arg12 harg12 arg13 harg13 X2 X3 k).1 (block5 𝒱 c bd i arg1 harg1 arg2 harg2 arg3 harg3 arg4 harg4 arg5 harg5 arg6 harg6 arg7 harg7 arg8 harg8 arg9 harg9 arg10 harg10 arg11 harg11 arg12 harg12 arg13 harg13 X2 X3 k).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).2.1 y = _
    rw [blk_eq (y 1).isLt k h1 h2]

theorem S5_last : S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 8 = harg5.unread (V5 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S5_eq, fill_all]; decide

theorem S6_eq (n : ℕ) : S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 n = harg6.unread (fill 2 n (V6 𝒱 c bd i arg1 harg1 arg2 harg2 arg3 harg3 arg4 harg4 arg5 harg5 arg6 harg6 arg7 harg7 arg8 harg8 arg9 harg9 arg10 harg10 arg11 harg11 arg12 harg12 arg13 harg13 X2 X3) (arg6.view.read (Elt F) G6)) := by
  cases n with
  | zero => rw [fill_zero, harg6.unread_read]; rfl
  | succ n => rfl

theorem S6_succ (k : Fin k0_t1_loop.trips) : arg6.view.writes (Elt F) (S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.1 = S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 (k.val + 1) := by
  rw [S6_eq, S6_eq]
  exact writes_fill harg6 2 k.val _ _ _ (block_lane k (boxes6 𝒱 c bd i arg1 harg1 arg2 harg2 arg3 harg3 arg4 harg4 arg5 harg5 arg6 harg6 arg7 harg7 arg8 harg8 arg9 harg9 arg10 harg10 arg11 harg11 arg12 harg12 arg13 harg13 X2 X3 k)).1 (block_lane k (boxes6 𝒱 c bd i arg1 harg1 arg2 harg2 arg3 harg3 arg4 harg4 arg5 harg5 arg6 harg6 arg7 harg7 arg8 harg8 arg9 harg9 arg10 harg10 arg11 harg11 arg12 harg12 arg13 harg13 X2 X3 k)).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 2).val (y 2).isLt)).2.2.1 y = _
    rw [blk_eq (y 2).isLt k h1 h2]

theorem S6_last : S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 8 = harg6.unread (V6 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S6_eq, fill_all]; decide

theorem S7_eq (n : ℕ) : S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 n = harg7.unread (fill 2 n (V7 𝒱 c bd i arg1 harg1 arg2 harg2 arg3 harg3 arg4 harg4 arg5 harg5 arg6 harg6 arg7 harg7 arg8 harg8 arg9 harg9 arg10 harg10 arg11 harg11 arg12 harg12 arg13 harg13 X2 X3) (arg7.view.read (Elt F) G7)) := by
  cases n with
  | zero => rw [fill_zero, harg7.unread_read]; rfl
  | succ n => rfl

theorem S7_succ (k : Fin k0_t1_loop.trips) : arg7.view.writes (Elt F) (S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.1 = S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 (k.val + 1) := by
  rw [S7_eq, S7_eq]
  exact writes_fill harg7 2 k.val _ _ _ (block_lane k (boxes7 𝒱 c bd i arg1 harg1 arg2 harg2 arg3 harg3 arg4 harg4 arg5 harg5 arg6 harg6 arg7 harg7 arg8 harg8 arg9 harg9 arg10 harg10 arg11 harg11 arg12 harg12 arg13 harg13 X2 X3 k)).1 (block_lane k (boxes7 𝒱 c bd i arg1 harg1 arg2 harg2 arg3 harg3 arg4 harg4 arg5 harg5 arg6 harg6 arg7 harg7 arg8 harg8 arg9 harg9 arg10 harg10 arg11 harg11 arg12 harg12 arg13 harg13 X2 X3 k)).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 2).val (y 2).isLt)).2.2.2.1 y = _
    rw [blk_eq (y 2).isLt k h1 h2]

theorem S7_last : S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 8 = harg7.unread (V7 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S7_eq, fill_all]; decide

theorem S13_eq (n : ℕ) : S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 n = harg13.unread (fill 1 n (V13 𝒱 c bd i arg1 harg1 arg2 harg2 arg3 harg3 arg4 harg4 arg5 harg5 arg6 harg6 arg7 harg7 arg8 harg8 arg9 harg9 arg10 harg10 arg11 harg11 arg12 harg12 arg13 harg13 X2 X3) (arg13.view.read (Elt F) G13)) := by
  cases n with
  | zero => rw [fill_zero, harg13.unread_read]; rfl
  | succ n => rfl

theorem S13_succ (k : Fin k0_t1_loop.trips) : arg13.view.writes (Elt F) (S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 k.val) (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.1 = S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 (k.val + 1) := by
  rw [S13_eq, S13_eq]
  exact writes_fill harg13 1 k.val _ _ _ (block13 𝒱 c bd i arg1 harg1 arg2 harg2 arg3 harg3 arg4 harg4 arg5 harg5 arg6 harg6 arg7 harg7 arg8 harg8 arg9 harg9 arg10 harg10 arg11 harg11 arg12 harg12 arg13 harg13 X2 X3 k).1 (block13 𝒱 c bd i arg1 harg1 arg2 harg2 arg3 harg3 arg4 harg4 arg5 harg5 arg6 harg6 arg7 harg7 arg8 harg8 arg9 harg9 arg10 harg10 arg11 harg11 arg12 harg12 arg13 harg13 X2 X3 k).2 fun y h1 h2 => by
    show View.canon (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 (blk (y 1).val (y 1).isLt)).2.2.2.2.2.1 y = _
    rw [blk_eq (y 1).isLt k h1 h2]

theorem S13_last : S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 8 = harg13.unread (V13 𝒱 c bd i arg1 harg1 arg2 harg2 arg3 harg3 arg4 harg4 arg5 harg5 arg6 harg6 arg7 harg7 arg8 harg8 arg9 harg9 arg10 harg10 arg11 harg11 arg12 harg12 arg13 harg13 X2 X3) := by
  rw [S13_eq, fill_all]; decide

/-- What the loop holds before trip `k`. -/
def Inv (k : ℕ) : sProp 𝕄G := iprop((arg2.view.loc (c : Thread nD τ) ↦[arg2.view.set]{fullShare} X2) ∗ (arg3.view.loc (c : Thread nD τ) ↦[arg3.view.set]{fullShare} X3)
    ∗ (∃ f, (arg4.view.loc (c : Thread nD τ) ↦[arg4.view.set]{fullShare} f) ∗ ⌜f = S4 𝒱 c bd i arg1 harg1 arg2 harg2 arg3 harg3 arg4 harg4 arg5 harg5 arg6 harg6 arg7 harg7 arg8 harg8 arg9 harg9 arg10 harg10 arg11 harg11 arg12 harg12 arg13 harg13 X2 X3 G4 k⌝)
    ∗ (∃ f, (arg5.view.loc (c : Thread nD τ) ↦[arg5.view.set]{fullShare} f) ∗ ⌜f = S5 𝒱 c bd i arg1 harg1 arg2 harg2 arg3 harg3 arg4 harg4 arg5 harg5 arg6 harg6 arg7 harg7 arg8 harg8 arg9 harg9 arg10 harg10 arg11 harg11 arg12 harg12 arg13 harg13 X2 X3 G5 k⌝)
    ∗ (∃ f, (arg6.view.loc (c : Thread nD τ) ↦[arg6.view.set]{fullShare} f) ∗ ⌜f = S6 𝒱 c bd i arg1 harg1 arg2 harg2 arg3 harg3 arg4 harg4 arg5 harg5 arg6 harg6 arg7 harg7 arg8 harg8 arg9 harg9 arg10 harg10 arg11 harg11 arg12 harg12 arg13 harg13 X2 X3 G6 k⌝)
    ∗ (∃ f, (arg7.view.loc (c : Thread nD τ) ↦[arg7.view.set]{fullShare} f) ∗ ⌜f = S7 𝒱 c bd i arg1 harg1 arg2 harg2 arg3 harg3 arg4 harg4 arg5 harg5 arg6 harg6 arg7 harg7 arg8 harg8 arg9 harg9 arg10 harg10 arg11 harg11 arg12 harg12 arg13 harg13 X2 X3 G7 k⌝)
    ∗ (∃ f, (arg11.view.loc (c : Thread nD τ) ↦[arg11.view.set]{fullShare} f) ∗ ⌜f = sums 𝒱 c bd i arg1 harg1 arg2 harg2 arg3 harg3 arg4 harg4 arg5 harg5 arg6 harg6 arg7 harg7 arg8 harg8 arg9 harg9 arg10 harg10 arg11 harg11 arg12 harg12 arg13 harg13 X2 X3 G11 k⌝)
    ∗ (∃ f, (arg13.view.loc (c : Thread nD τ) ↦[arg13.view.set]{fullShare} f) ∗ ⌜f = S13 𝒱 c bd i arg1 harg1 arg2 harg2 arg3 harg3 arg4 harg4 arg5 harg5 arg6 harg6 arg7 harg7 arg8 harg8 arg9 harg9 arg10 harg10 arg11 harg11 arg12 harg12 arg13 harg13 X2 X3 G13 k⌝))

/-- The loop's invariant. -/
@[sl_loop] def loopInv_k0_t1 (E : Set ℕ) : LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 where
  inv k _ := Inv 𝒱 c bd i arg1 harg1 arg2 harg2 arg3 harg3 arg4 harg4 arg5 harg5 arg6 harg6 arg7 harg7 arg8 harg8 arg9 harg9 arg10 harg10 arg11 harg11 arg12 harg12 arg13 harg13 X2 X3 G4 G5 G6 G7 G11 G13 k
  step k acc := by
    unfold Inv
    iintro ⟨H2, H3, ⟨%f4, H4, %h4⟩, ⟨%f5, H5, %h5⟩, ⟨%f6, H6, %h6⟩, ⟨%f7, H7, %h7⟩, ⟨%f11, H11, %h11⟩, ⟨%f13, H13, %h13⟩⟩
    iapply (wp_wand_r Idealize.ShloMosaic.frame (wpE (defs₀ (F := F)) 𝒱 (c : Thread nD τ) bd) E)
    isplitl [H2 H3 H4 H5 H6 H7 H11 H13]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.2 E f4 f5 f6 f7 f11 f13)
      isplitl [H2]; · iexact H2
      isplitl [H3]; · iexact H3
      isplitl [H4]; · iexact H4
      isplitl [H5]; · iexact H5
      isplitl [H6]; · iexact H6
      isplitl [H7]; · iexact H7
      isplitl [H11]; · iexact H11
      iexact H13
    · iintro %_ ⟨H2, H3, H4, H5, H6, H7, H11, H13⟩
      isplitl [H2]; · iexact H2
      isplitl [H3]; · iexact H3
      isplitl [H4]
      · iexists _; isplitl [H4]; · iexact H4
        ipureintro; rw [h4, S4_succ]
      isplitl [H5]
      · iexists _; isplitl [H5]; · iexact H5
        ipureintro; rw [h5, S5_succ]
      isplitl [H6]
      · iexists _; isplitl [H6]; · iexact H6
        ipureintro; rw [h6, S6_succ]
      isplitl [H7]
      · iexists _; isplitl [H7]; · iexact H7
        ipureintro; rw [h7, S7_succ]
      isplitl [H11]
      · iexists _; isplitl [H11]; · iexact H11
        ipureintro; rw [h11, sums_succ]
      iexists _; isplitl [H13]; · iexact H13
      ipureintro; rw [h13, S13_succ]

/-- What the loop leaves: the arrays it fills no longer depend on what they held before. -/
instance loopExit (E : Set ℕ) : LoopExit (loopInv_k0_t1 𝒱 c bd i arg1 harg1 arg2 harg2 arg3 harg3 arg4 harg4 arg5 harg5 arg6 harg6 arg7 harg7 arg8 harg8 arg9 harg9 arg10 harg10 arg11 harg11 arg12 harg12 arg13 harg13 X2 X3 G4 G5 G6 G7 G11 G13 E) where
  post _ := iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} harg4.unread (V4 𝒱 c bd i arg1 harg1 arg2 harg2 arg3 harg3 arg4 harg4 arg5 harg5 arg6 harg6 arg7 harg7 arg8 harg8 arg9 harg9 arg10 harg10 arg11 harg11 arg12 harg12 arg13 harg13 X2 X3))
    ∗ (arg5.view.loc (c : Thread nD τ) ↦[arg5.view.set]{fullShare} harg5.unread (V5 𝒱 c bd i arg1 harg1 arg2 harg2 arg3 harg3 arg4 harg4 arg5 harg5 arg6 harg6 arg7 harg7 arg8 harg8 arg9 harg9 arg10 harg10 arg11 harg11 arg12 harg12 arg13 harg13 X2 X3))
    ∗ (arg6.view.loc (c : Thread nD τ) ↦[arg6.view.set]{fullShare} harg6.unread (V6 𝒱 c bd i arg1 harg1 arg2 harg2 arg3 harg3 arg4 harg4 arg5 harg5 arg6 harg6 arg7 harg7 arg8 harg8 arg9 harg9 arg10 harg10 arg11 harg11 arg12 harg12 arg13 harg13 X2 X3))
    ∗ (arg7.view.loc (c : Thread nD τ) ↦[arg7.view.set]{fullShare} harg7.unread (V7 𝒱 c bd i arg1 harg1 arg2 harg2 arg3 harg3 arg4 harg4 arg5 harg5 arg6 harg6 arg7 harg7 arg8 harg8 arg9 harg9 arg10 harg10 arg11 harg11 arg12 harg12 arg13 harg13 X2 X3))
    ∗ (arg11.view.loc (c : Thread nD τ) ↦[arg11.view.set]{fullShare} sums 𝒱 c bd i arg1 harg1 arg2 harg2 arg3 harg3 arg4 harg4 arg5 harg5 arg6 harg6 arg7 harg7 arg8 harg8 arg9 harg9 arg10 harg10 arg11 harg11 arg12 harg12 arg13 harg13 X2 X3 G11 8)
    ∗ (arg13.view.loc (c : Thread nD τ) ↦[arg13.view.set]{fullShare} harg13.unread (V13 𝒱 c bd i arg1 harg1 arg2 harg2 arg3 harg3 arg4 harg4 arg5 harg5 arg6 harg6 arg7 harg7 arg8 harg8 arg9 harg9 arg10 harg10 arg11 harg11 arg12 harg12 arg13 harg13 X2 X3)))
  exit _ := by
    show Inv 𝒱 c bd i arg1 harg1 arg2 harg2 arg3 harg3 arg4 harg4 arg5 harg5 arg6 harg6 arg7 harg7 arg8 harg8 arg9 harg9 arg10 harg10 arg11 harg11 arg12 harg12 arg13 harg13 X2 X3 G4 G5 G6 G7 G11 G13 k0_t1_loop.trips ⊢ _
    rw [trips_eq]; unfold Inv
    iintro ⟨H2, H3, ⟨%f4, H4, %h4⟩, ⟨%f5, H5, %h5⟩, ⟨%f6, H6, %h6⟩, ⟨%f7, H7, %h7⟩, ⟨%f11, H11, %h11⟩, ⟨%f13, H13, %h13⟩⟩
    rw [S4_last] at h4; rw [S5_last] at h5; rw [S6_last] at h6; rw [S7_last] at h7; rw [S13_last] at h13
    subst h4 h5 h6 h7 h11 h13
    isplitl [H2]; · iexact H2
    isplitl [H3]; · iexact H3
    isplitl [H4]; · iexact H4
    isplitl [H5]; · iexact H5
    isplitl [H6]; · iexact H6
    isplitl [H7]; · iexact H7
    isplitl [H11]; · iexact H11
    iexact H13

end Cert.GramIdeal.Gen

end
-- ==== Proof.GramIdealTiles.lean ====
/- What one trip stores, tile by tile: each list of pieces as one expression in the tile's number. -/
module

public import proofs.«01_k».proof.Proof.GramIdealLoop

@[expose] public section

set_option maxRecDepth 16384

noncomputable section

namespace Cert.GramIdeal.Gen

open Idealize.ShloMosaic Idealize.ShloMosaic.TcCoe Idealize.SL.Sem

variable {F : FTy → Type} [FloatOps F]

theorem sl12_ok : ∀ j : Fin 12, S128x1536.Slices ![0, 128 * j.val] S128x128 := by decide +kernel
theorem sl48_ok : ∀ j : Fin 48, S128x6144.Slices ![0, 128 * j.val] S128x128 := by decide +kernel

/-- Tile `j` of 12. -/
def sl12 (u : FVec F S128x1536 .bf16) (j : Fin 12) : FVec F S128x128 .bf16 := extractStridedSlice S128x128 ![0, 128 * j.val] u (sl12_ok j)
/-- Tile `j` of 48. -/
def sl48 (u : FVec F S128x6144 .bf16) (j : Fin 48) : FVec F S128x128 .bf16 := extractStridedSlice S128x128 ![0, 128 * j.val] u (sl48_ok j)

/-- The running maximum over tiles of the absolute values. -/
def tmax {n : ℕ} (t : Fin (n + 1) → FVec F S128x128 .bf16) : FVec F S128x128 .bf16 :=
  (List.finRange n).foldl (fun m j => maximumf m (absf (t j.succ))) (absf (t 0))

/-- The row maxima, spread over the lanes, times a constant. -/
def rowY (m : FVec F S128x128 .bf16) (b : BitVec 32) : FVec F S128x128 .f32 :=
  mulf (broadcastTo S128x128 (shapeCast S128x1 (shapeCast S128x1 (multiReduction .maximumf [1] S128 (extf .f32 m bitsLt_bf16_f32) 0xFF800000#32 reduces_S128x128_S128 (.inl rfl) rfl) shapeCasts_S128_S128x1) shapeCasts_S128x1_S128x1) broadcasts_S128x1_S128x128)
    (broadcast S128x128 (Scalar.ofBits .f32 b))

/-- One step of the search for the biased exponent. -/
def stepv (y : FVec F S128x128 .f32) (b : BitVec 32) (e : IVec S128x128 32) : IVec S128x128 32 :=
  select (cmpf .oge y (bitcastToFloat .f32 (shli (addi e (broadcast S128x128 b)) (broadcast S128x128 23#32)))) (addi e (broadcast S128x128 b)) e
/-- The search. -/
def searchv (y : FVec F S128x128 .f32) : IVec S128x128 32 :=
  stepv y 1#32 (stepv y 2#32 (stepv y 4#32 (stepv y 8#32 (stepv y 16#32 (stepv y 32#32 (stepv y 64#32 (stepv y 128#32 (broadcast S128x128 0#32))))))))
/-- The exponent of each row's scale. -/
def expov (y : FVec F S128x128 .f32) : IVec S128x128 32 :=
  select (cmpf .oeq y (broadcast S128x128 (Scalar.ofBits .f32 0x00000000#32))) (broadcast S128x128 0#32) (subi (searchv y) (broadcast S128x128 126#32))
/-- Powers of two by their exponents. -/
def pow2v (e : IVec S128x128 32) : FVec F S128x128 .f32 :=
  bitcastToFloat .f32 (shli (minsi (broadcast S128x128 255#32) (maxsi (broadcast S128x128 0#32) (addi e (broadcast S128x128 127#32)))) (broadcast S128x128 23#32))

/-- The rows' scales of a block of `x`, and the inverses. -/
def scX (v : Vec F S1x128x1536 .bf16) : FVec F S128x128 .f32 := pow2v (expov (rowY (tmax (n := 11) (sl12 (k0_pay4 v))) 0x3B124925#32))
def ivX (v : Vec F S1x128x1536 .bf16) : FVec F S128x128 .bf16 :=
  truncf .bf16 (pow2v (F := F) (subi (broadcast S128x128 0#32) (expov (rowY (tmax (n := 11) (sl12 (k0_pay4 v))) 0x3B124925#32)))) bitsLt_bf16_f32
/-- The same of a block of `dy`. -/
def scD (v : Vec F S1x128x6144 .bf16) : FVec F S128x128 .f32 := pow2v (expov (rowY (tmax (n := 47) (sl48 (k0_pay40 v))) 0x37924925#32))
def ivD (v : Vec F S1x128x6144 .bf16) : FVec F S128x128 .bf16 :=
  truncf .bf16 (pow2v (F := F) (subi (broadcast S128x128 0#32) (expov (rowY (tmax (n := 47) (sl48 (k0_pay40 v))) 0x37924925#32)))) bitsLt_bf16_f32

/-- The codes of tile `j`. -/
def cdX (u : FVec F S128x1536 .bf16) (w : FVec F S128x128 .bf16) (j : Fin 12) : FVec F S128x128 .fp8e4m3 :=
  truncf .fp8e4m3 (minimumf (broadcast S128x128 (Scalar.ofBits .bf16 0x43E0#16)) (maximumf (broadcast S128x128 (Scalar.ofBits .bf16 0xC3E0#16)) (mulf (sl12 u j) w))) bitsLt_fp8e4m3_bf16
def cdD (u : FVec F S128x6144 .bf16) (w : FVec F S128x128 .bf16) (j : Fin 48) : FVec F S128x128 .fp8e5m2 :=
  truncf .fp8e5m2 (minimumf (broadcast S128x128 (Scalar.ofBits .bf16 0x4760#16)) (maximumf (broadcast S128x128 (Scalar.ofBits .bf16 0xC760#16)) (mulf (sl48 u j) w))) bitsLt_fp8e5m2_bf16

/-- A tile's row sums, added to what they were. -/
def gAdd (s : FVec F S128x128 .f32) (q : FVec F S128x128 .fp8e5m2) (g : Vec F S1x1x128 .f32) : Vec F S1x1x128 .f32 :=
  shapeCast S1x1x128 (addf (shapeCast S1x128 g shapeCasts_S1x1x128_S1x128) (shapeCast S1x128 (multiReduction .add [0] S128 (mulf (extf .f32 q bitsLt_fp8e5m2_f32) s) 0x00000000#32 reduces_S128x128_S128_2 (.inl rfl) rfl) shapeCasts_S128_S1x128)) shapeCasts_S1x128_S1x1x128

/-- A block's scales as a row. -/
def row (s : FVec F S128x128 .f32) : Vec F S1x1x128 .f32 :=
  shapeCast S1x1x128 (extractStridedSlice S1x128 ![0, 0] (transpose S128x128 [1, 0] s transposes_S128x128_p1_0_S128x128) slices_S128x128_o0_0_S1x128) shapeCasts_S1x128_S1x1x128

def o4 (k : Fin k0_t1_loop.trips) : Fin 12 → Fin 3 → ℕ := ![k0_off2 k, k0_off3 k, k0_off4 k, k0_off5 k, k0_off6 k, k0_off7 k, k0_off8 k, k0_off9 k, k0_off10 k, k0_off11 k, k0_off12 k, k0_off13 k]
def o5 (k : Fin k0_t1_loop.trips) : Fin 48 → Fin 3 → ℕ := ![k0_off15 k, k0_off16 k, k0_off17 k, k0_off18 k, k0_off19 k, k0_off20 k, k0_off21 k, k0_off22 k, k0_off23 k, k0_off24 k, k0_off25 k, k0_off26 k, k0_off27 k, k0_off28 k, k0_off29 k, k0_off30 k, k0_off31 k, k0_off32 k, k0_off33 k, k0_off34 k, k0_off35 k, k0_off36 k, k0_off37 k, k0_off38 k, k0_off39 k, k0_off40 k, k0_off41 k, k0_off42 k, k0_off43 k, k0_off44 k, k0_off45 k, k0_off46 k, k0_off47 k, k0_off48 k, k0_off49 k, k0_off50 k, k0_off51 k, k0_off52 k, k0_off53 k, k0_off54 k, k0_off55 k, k0_off56 k, k0_off57 k, k0_off58 k, k0_off59 k, k0_off60 k, k0_off61 k, k0_off62 k]
def o11 (j : Fin 48) : Fin 3 → ℕ := ![0, 0, 128 * j.val]
theorem o4_eq : ∀ k j, o4 k j = ![0, 128 * k.val, 128 * j.val] := by decide +kernel
theorem o5_eq : ∀ k j, o5 k j = ![0, 128 * k.val, 128 * j.val] := by decide +kernel
theorem o1_eq : ∀ k, k0_off1 k = ![0, 128 * k.val, 0] := by decide +kernel
theorem o14_eq : ∀ k, k0_off14 k = ![0, 128 * k.val, 0] := by decide +kernel
theorem o4_inb : ∀ k j a, o4 k j a + S1x128x128.size a ≤ S1x1024x1536.size a := by decide +kernel
theorem o5_inb : ∀ k j a, o5 k j a + S1x128x128.size a ≤ S1x1024x6144.size a := by decide +kernel
theorem o11_inb : ∀ j a, o11 j a + S1x1x128.size a ≤ S1x1x6144.size a := by decide +kernel

variable (𝒱 : Variants) (c : Dev nD) (bd : Option 𝒱.V) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)
  (X2 : BufTy.Contents (Elt F) arg2.view.ty) (X3 : BufTy.Contents (Elt F) arg3.view.ty)

/-- The block of `x` a trip loads, and of `dy`. -/
abbrev bX (k : Fin k0_t1_loop.trips) : Vec F S1x128x1536 .bf16 := View.readAt (Elt F) arg2.view (Rect.unit (s := S1x1024x1536) (k0_off1 k) S1x128x1536.size (k0_off1_inb k)).toLoadRect X2
abbrev bD (k : Fin k0_t1_loop.trips) : Vec F S1x128x6144 .bf16 := View.readAt (Elt F) arg3.view (Rect.unit (s := S1x1024x6144) (k0_off14 k) S1x128x6144.size (k0_off14_inb k)).toLoadRect X3

set_option maxHeartbeats 4000000

theorem pay5_eq (v : Vec F S1x128x1536 .bf16) : k0_pay5 v = rowY (tmax (n := 11) (sl12 (k0_pay4 v))) 0x3B124925#32 := rfl
theorem pay43_eq (v : Vec F S1x128x6144 .bf16) : k0_pay43 (k0_pay40 v) (k0_pay42 (k0_pay40 v) (k0_pay41 v)) = rowY (tmax (n := 47) (sl48 (k0_pay40 v))) 0x37924925#32 := rfl
theorem pay11_eq (y : FVec F S128x128 .f32) : k0_pay11 y (k0_pay7 y k0_pay6 128#32) (k0_pay8 y k0_pay6 128#32) (k0_pay9 y k0_pay6 128#32) = pow2v (expov y) := rfl
theorem pay12_eq (y : FVec F S128x128 .f32) : k0_pay12 y (k0_pay7 y k0_pay6 128#32) (k0_pay8 y k0_pay6 128#32) (k0_pay9 y k0_pay6 128#32)
    = truncf .bf16 (pow2v (F := F) (subi (broadcast S128x128 0#32) (expov y))) bitsLt_bf16_f32 := rfl

theorem r5_eq (k : Fin k0_t1_loop.trips) : trip.sl.r_5 arg2 X2 k = scX (bX arg2 X2 k) := by
  have h : trip.sl.r_1 arg2 X2 k = rowY (tmax (n := 11) (sl12 (k0_pay4 (bX arg2 X2 k)))) 0x3B124925#32 := pay5_eq _
  unfold trip.sl.r_5 trip.sl.r_2 trip.sl.r_3 trip.sl.r_4
  rw [h, pay11_eq]; rfl

theorem r6_eq (k : Fin k0_t1_loop.trips) : trip.sl.r_6 arg2 X2 k = ivX (bX arg2 X2 k) := by
  have h : trip.sl.r_1 arg2 X2 k = rowY (tmax (n := 11) (sl12 (k0_pay4 (bX arg2 X2 k)))) 0x3B124925#32 := pay5_eq _
  unfold trip.sl.r_6 trip.sl.r_2 trip.sl.r_3 trip.sl.r_4
  rw [h, pay12_eq]; rfl

theorem r24_eq (k : Fin k0_t1_loop.trips) : trip.sl.r_24 arg3 X3 k = rowY (tmax (n := 47) (sl48 (k0_pay40 (bD arg3 X3 k)))) 0x37924925#32 := pay43_eq _

theorem pay45_eq (u : FVec F S128x6144 .bf16) (m : FVec F S128x128 .bf16) : k0_pay45 (k0_pay43 u m) (k0_pay44 u m) 32#32
    = subi (searchv (k0_pay43 u m)) (broadcast S128x128 126#32) := rfl
theorem pay48_eq (y : FVec F S128x128 .f32) : k0_pay48 (F := F) (subi (searchv y) (broadcast S128x128 126#32)) (k0_pay46 y) 0#32 = pow2v (expov y) := rfl
theorem pay49_eq (y : FVec F S128x128 .f32) : k0_pay49 (F := F) (subi (searchv y) (broadcast S128x128 126#32)) (k0_pay46 y) 0#32
    = truncf .bf16 (pow2v (F := F) (subi (broadcast S128x128 0#32) (expov y))) bitsLt_bf16_f32 := rfl

theorem r28_eq (k : Fin k0_t1_loop.trips) : trip.sl.r_28 arg3 X3 k = scD (bD arg3 X3 k) := by
  have h26 : trip.sl.r_26 arg3 X3 k = subi (searchv (trip.sl.r_24 arg3 X3 k)) (broadcast S128x128 126#32) := pay45_eq _ _
  unfold trip.sl.r_28 trip.sl.r_27
  rw [h26, pay48_eq, r24_eq]; rfl

theorem r29_eq (k : Fin k0_t1_loop.trips) : trip.sl.r_29 arg3 X3 k = ivD (bD arg3 X3 k) := by
  have h26 : trip.sl.r_26 arg3 X3 k = subi (searchv (trip.sl.r_24 arg3 X3 k)) (broadcast S128x128 126#32) := pay45_eq _ _
  unfold trip.sl.r_29 trip.sl.r_27
  rw [h26, pay49_eq, r24_eq]; rfl

theorem L4_eq (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).1
    = (List.finRange 12).reverse.map fun j => (⟨Rect.unit (o4 k j) S1x128x128.size (o4_inb k j), shapeCast S1x128x128 (cdX (trip.sl.r arg2 X2 k) (trip.sl.r_6 arg2 X2 k) j) shapeCasts_S128x128_S1x128x128⟩ : View.Piece (Elt F) S1x1024x1536 .fp8e4m3) := rfl

theorem L5_eq (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.1
    = (List.finRange 48).reverse.map fun j => (⟨Rect.unit (o5 k j) S1x128x128.size (o5_inb k j), shapeCast S1x128x128 (cdD (trip.sl.r_21 arg3 X3 k) (trip.sl.r_29 arg3 X3 k) j) shapeCasts_S128x128_S1x128x128⟩ : View.Piece (Elt F) S1x1024x6144 .fp8e5m2) := rfl

theorem L6_eq (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.1
    = [⟨Rect.unit (k0_off65 k) S1x1x128.size (k0_off65_inb k), row (trip.sl.r_5 arg2 X2 k)⟩] := rfl

theorem L7_eq (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.1
    = [⟨Rect.unit (k0_off65 k) S1x1x128.size (k0_off65_inb k), row (trip.sl.r_28 arg3 X3 k)⟩] := rfl

theorem L11_eq (k : Fin k0_t1_loop.trips) (f : BufTy.Contents (Elt F) arg11.view.ty) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.1 f
    = (List.finRange 48).reverse.map fun j => (⟨Rect.unit (o11 j) S1x1x128.size (o11_inb j),
        gAdd (trip.sl.r_28 arg3 X3 k) (cdD (trip.sl.r_21 arg3 X3 k) (trip.sl.r_29 arg3 X3 k) j) (View.readAt (Elt F) arg11.view (Rect.unit (s := S1x1x6144) (o11 j) S1x1x128.size (o11_inb j)).toLoadRect f)⟩ : View.Piece (Elt F) S1x1x6144 .f32) := rfl

theorem L13_eq (k : Fin k0_t1_loop.trips) : (trip (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 k).2.2.2.2.2.1
    = [⟨Rect.unit (k0_off64 k) S1x128x128.size (k0_off64_inb k), shapeCast S1x128x128 (trip.sl.r_28 arg3 X3 k) shapeCasts_S128x128_S1x128x128⟩,
       ⟨Rect.unit (k0_off63 k) S1x128x128.size (k0_off63_inb k), shapeCast S1x128x128 (trip.sl.r_5 arg2 X2 k) shapeCasts_S128x128_S1x128x128⟩] := rfl

end Cert.GramIdeal.Gen

end
-- ==== Proof.Scale.lean ====
/- The quantiser's powers of two, on the extended reals: the exponent a binary search over bit patterns finds is the place of `y` among them. -/
module

public import Idealize.ShloMosaic.PureOps.Ideal

@[expose] public section

set_option maxRecDepth 16384

noncomputable section

namespace Cert.Scale

open Idealize.ShloMosaic

/-- The f32 whose biased exponent is `n`, its other bits zero. -/
def pat (n : BitVec 32) : EReal := (Ideal.ofBits .f32 (n <<< 23#32) : EReal)

/-- The same at a natural number. -/
def P (n : ℕ) : EReal := pat (BitVec.ofNat 32 n)

theorem bits_ok : ∀ n : Fin 256, ((BitVec.ofNat 32 n.val <<< 23#32).extractLsb' 31 1 == 1#1) = false
    ∧ ((BitVec.ofNat 32 n.val <<< 23#32).extractLsb' 23 8).toNat = n.val ∧ ((BitVec.ofNat 32 n.val <<< 23#32).extractLsb' 0 23).toNat = 0 := by
  decide +kernel

theorem ieee_pow (n : ℕ) (h : n < 256) (x : BitVec 32) (h1 : (x.extractLsb' (8 + 23) 1 == 1#1) = false) (h2 : (x.extractLsb' 23 8).toNat = n)
    (h3 : (x.extractLsb' 0 23).toNat = 0) : Ideal.ieee 8 23 x = if n = 255 then ⊤ else if n = 0 then 0 else (((2 : ℝ) ^ ((n : ℤ) - 127) : ℝ) : EReal) := by
  unfold Ideal.ieee
  rw [h1, h2, h3]
  have e : (2 ^ 8 - 1 : ℕ) = 255 := by norm_num
  rw [e]
  by_cases h : n = 255
  · simp [h]
  by_cases h0 : n = 0
  · simp [h0]
  · simp only [h, h0, if_false, Bool.false_eq_true]
    congr 1
    rw [show ((n : ℤ) - 127) = 23 + ((n : ℤ) - (2 ^ (8 - 1) - 1) - 23) by norm_num, zpow_add₀ (by norm_num)]
    norm_num

theorem P_eq (n : ℕ) (h : n < 256) : P n = if n = 255 then ⊤ else if n = 0 then 0 else (((2 : ℝ) ^ ((n : ℤ) - 127) : ℝ) : EReal) :=
  have hb := bits_ok ⟨n, h⟩
  ieee_pow n h _ hb.1 hb.2.1 hb.2.2

theorem P_zero : P 0 = 0 := by rw [P_eq 0 (by decide)]; simp
theorem P_top : P 255 = ⊤ := by rw [P_eq 255 (by decide)]; simp
theorem P_mid (n : ℕ) (h0 : 0 < n) (h : n < 255) : P n = (((2 : ℝ) ^ ((n : ℤ) - 127) : ℝ) : EReal) := by
  rw [P_eq n (by omega), if_neg (by omega), if_neg (by omega)]

theorem P_lt {a b : ℕ} (hab : a < b) (hb : b < 256) : P a < P b := by
  by_cases h : b = 255
  · subst h
    by_cases h0 : a = 0
    · subst h0; rw [P_zero, P_top]; exact EReal.zero_lt_top
    · rw [P_top, P_mid a (by omega) hab]; exact EReal.coe_lt_top _
  · rw [P_mid b (by omega) (by omega)]
    by_cases h0 : a = 0
    · subst h0; rw [P_zero]; exact_mod_cast (by positivity : (0 : ℝ) < 2 ^ ((b : ℤ) - 127))
    · rw [P_mid a (by omega) (by omega)]
      exact_mod_cast zpow_lt_zpow_right₀ (by norm_num : (1 : ℝ) < 2) (by omega : (a : ℤ) - 127 < (b : ℤ) - 127)

theorem P_le_iff {a b : ℕ} (ha : a < 256) (hb : b < 256) : P a ≤ P b ↔ a ≤ b := by
  constructor
  · intro h; by_contra hn; exact absurd h (not_le.mpr (P_lt (by omega) ha))
  · intro h; rcases Nat.lt_or_eq_of_le h with h | rfl
    · exact (P_lt h hb).le
    · exact le_rfl

/-- One step of the search: take the bit if the pattern stays at or below `y`. -/
def stepS (y : EReal) (b e : BitVec 32) : BitVec 32 := if pat (e + b) ≤ y then e + b else e

/-- The search. -/
def search (y : EReal) : BitVec 32 :=
  stepS y 1#32 (stepS y 2#32 (stepS y 4#32 (stepS y 8#32 (stepS y 16#32 (stepS y 32#32 (stepS y 64#32 (stepS y 128#32 0#32)))))))

/-- After the bits above `2 b` the best candidate is less than `2 b` away. -/
def Near (y : EReal) (w : ℕ) (e : BitVec 32) : Prop :=
  ∃ n, e = BitVec.ofNat 32 n ∧ n + w ≤ 256 ∧ P n ≤ y ∧ ∀ m, m < 256 → P m ≤ y → m < n + w

theorem near_step {y : EReal} (w : ℕ) {e : BitVec 32} (hw : 0 < w) (h : Near y (2 * w) e) : Near y w (stepS y (BitVec.ofNat 32 w) e) := by
  obtain ⟨n, rfl, hn, hP, hm⟩ := h
  have he : (BitVec.ofNat 32 n + BitVec.ofNat 32 w : BitVec 32) = BitVec.ofNat 32 (n + w) := by rw [BitVec.ofNat_add]
  unfold stepS
  rw [he]
  split
  · next h => exact ⟨n + w, rfl, by omega, h, fun m h1 h2 => by have := hm m h1 h2; omega⟩
  · next h =>
    refine ⟨n, rfl, by omega, hP, fun m h1 h2 => ?_⟩
    by_contra hc
    exact h (le_trans ((P_le_iff (by omega) h1).mpr (by omega)) h2)

/-- What the search finds: the last pattern at or below `y`. -/
theorem search_spec {y : EReal} (hy : 0 ≤ y) : ∃ n, n < 256 ∧ search y = BitVec.ofNat 32 n ∧ ∀ m, m < 256 → (P m ≤ y ↔ m ≤ n) := by
  have h0 : Near y 256 0#32 := ⟨0, rfl, by omega, by rw [P_zero]; exact hy, fun m h _ => by omega⟩
  have h := near_step 1 (by omega) (near_step 2 (by omega) (near_step 4 (by omega) (near_step 8 (by omega) (near_step 16 (by omega)
    (near_step 32 (by omega) (near_step 64 (by omega) (near_step 128 (by omega) h0)))))))
  obtain ⟨n, he, hn, hP, hm⟩ := h
  refine ⟨n, by omega, he, fun m h => ⟨fun h' => by have := hm m h h'; omega, fun h' => le_trans ((P_le_iff h (by omega)).mpr h') hP⟩⟩

/-- The exponent the kernel works with. -/
def expo (y : EReal) : BitVec 32 := if y = 0 then 0#32 else search y - 126#32

/-- A power of two by its exponent, held to f32's range. -/
def pow2 (e : BitVec 32) : EReal := pat (if (255#32).slt (if (0#32).slt (e + 127#32) then e + 127#32 else 0#32) then 255#32 else (if (0#32).slt (e + 127#32) then e + 127#32 else 0#32))

/-- The kernel's scale and its inverse. -/
def kscale (y : EReal) : EReal := pow2 (expo y)
def kinv (y : EReal) : EReal := pow2 (0#32 - expo y)

/-- The clamp of a biased exponent. -/
def clampB (e : BitVec 32) : BitVec 32 := if (255#32).slt (if (0#32).slt (e + 127#32) then e + 127#32 else 0#32) then 255#32 else (if (0#32).slt (e + 127#32) then e + 127#32 else 0#32)

theorem clamp_ok : ∀ n : Fin 256, clampB (BitVec.ofNat 32 n.val - 126#32) = BitVec.ofNat 32 (min (n.val + 1) 255)
    ∧ clampB (0#32 - (BitVec.ofNat 32 n.val - 126#32)) = BitVec.ofNat 32 (253 - n.val) := by
  decide +kernel

/-- The reference's scale: the least power of two above `y`, one where `a` is zero. -/
def rscale (a y : EReal) : EReal :=
  if a = 0 then 1 else Finset.univ.fold min ⊤ fun k : Fin 254 => if y < P (k.val + 1) then P (k.val + 1) else ⊤

/-- The reference's inverse of a scale. -/
def rinv (s : EReal) : EReal := if P 253 < s then 0 else 1 / s

theorem P_127 : P 127 = 1 := by rw [P_mid 127 (by omega) (by omega)]; norm_num

theorem fold_min_above {y : EReal} {n : ℕ} (hn : n < 256) (h : ∀ m, m < 256 → (P m ≤ y ↔ m ≤ n)) :
    (Finset.univ.fold min ⊤ fun k : Fin 254 => if y < P (k.val + 1) then P (k.val + 1) else (⊤ : EReal)) = P (min (n + 1) 255) := by
  apply le_antisymm
  · by_cases h1 : n < 254
    · rw [Finset.fold_min_le]
      refine Or.inr ⟨⟨n, h1⟩, Finset.mem_univ _, ?_⟩
      have : y < P (n + 1) := by rw [← not_le, h (n + 1) (by omega)]; omega
      rw [if_pos this, show min (n + 1) 255 = n + 1 by omega]
    · rw [show min (n + 1) 255 = 255 by omega, P_top]; exact le_top
  · rw [Finset.le_fold_min]
    refine ⟨le_top, fun k _ => ?_⟩
    split
    · next hk =>
      rw [← not_le, h (k.val + 1) (by omega)] at hk
      rw [P_le_iff (by omega) (by omega)]; omega
    · exact le_top

theorem kscale_eq {a y : EReal} (hy : 0 ≤ y) (ha : a = 0 ↔ y = 0) : kscale y = rscale a y := by
  unfold kscale rscale expo
  by_cases h0 : y = 0
  · rw [if_pos h0, if_pos (ha.mpr h0), ← P_127]; exact congrArg pat (by decide)
  · rw [if_neg h0, if_neg (fun h => h0 (ha.mp h))]
    obtain ⟨n, hn, he, h⟩ := search_spec hy
    rw [fold_min_above hn h, he]
    exact congrArg pat (clamp_ok ⟨n, hn⟩).1

theorem one_div_P {n : ℕ} (h0 : 0 < n) (h : n < 254) : 1 / P n = P (254 - n) := by
  rw [P_mid n h0 (by omega), P_mid _ (by omega) (by omega), show ((254 - n : ℕ) : ℤ) - 127 = -((n : ℤ) - 127) by omega, zpow_neg, one_div, ← EReal.coe_inv]

theorem kinv_eq {a y : EReal} (hy : 0 ≤ y) (ha : a = 0 ↔ y = 0) : kinv y = rinv (rscale a y) := by
  unfold kinv rinv rscale expo
  by_cases h0 : y = 0
  · rw [if_pos h0, if_pos (ha.mpr h0)]
    have h1 : (1 : EReal) / 1 = P 127 := by
      have := one_div_P (n := 127) (by omega) (by omega)
      rwa [P_127] at this ⊢
    rw [if_neg (by rw [← P_127, not_lt, P_le_iff (by omega) (by omega)]; omega), h1]
    exact congrArg pat (by decide)
  · rw [if_neg h0, if_neg (fun h => h0 (ha.mp h))]
    obtain ⟨n, hn, he, h⟩ := search_spec hy
    rw [fold_min_above hn h, he]
    refine (congrArg pat (clamp_ok ⟨n, hn⟩).2).trans ?_
    change P (253 - n) = _
    by_cases h1 : n < 253
    · rw [if_neg (by rw [not_lt, P_le_iff (by omega) (by omega)]; omega), one_div_P (by omega) (by omega)]
      congr 1; omega
    · rw [if_pos (P_lt (by omega) (by omega)), show 253 - n = 0 by omega, P_zero]

end Cert.Scale

end
-- ==== Proof.GramIdealRows.lean ====
/- What the quantising loop leaves, element by element, on the extended reals. -/
module

public import proofs.«01_k».proof.Proof.GramIdealTiles
public import proofs.«01_k».proof.Proof.Scale
public import Idealize.ShloMosaic.Lib.Pipeline.ValueKit
public import Idealize.ShloMosaic.Lib.Pointwise
public import Idealize.ShloMosaic.Lib.WholeRead

@[expose] public section

set_option maxRecDepth 16384

noncomputable section

namespace Cert.GramIdeal.Gen

open Idealize.ShloMosaic Idealize.ShloMosaic.TcCoe Idealize.SL.Sem

theorem stepv_apply (y : FVec Ideal S128x128 .f32) (b : BitVec 32) (e : IVec S128x128 32) (i : S128x128.Idx) : stepv y b e i = Cert.Scale.stepS (y i) b (e i) := by
  pointwise [stepv]
  rfl

theorem max_zero (x : BitVec 32) : (if x.slt 0#32 = true then 0#32 else x) = if (0#32).slt x = true then x else 0#32 := by
  simp only [BitVec.slt_iff_toInt_lt]
  have h0 : (0#32).toInt = 0 := by decide
  rw [h0]
  by_cases h : x.toInt < 0
  · rw [if_pos h, if_neg (by omega)]
  · by_cases h' : 0 < x.toInt
    · rw [if_neg h, if_pos h']
    · rw [if_neg h, if_neg h']
      exact BitVec.eq_of_toInt_eq (by rw [h0]; omega)

theorem pow2v_apply (e : IVec S128x128 32) (i : S128x128.Idx) : pow2v (F := Ideal) e i = Cert.Scale.pow2 (e i) := by
  pointwise [pow2v]
  unfold Cert.Scale.pow2 Cert.Scale.pat
  refine congrArg (Ideal.ofBits .f32) ?_
  unfold IntOp.shli IntOp.minsi IntOp.maxsi IntOp.addi
  rw [if_pos (by decide), max_zero]

theorem expov_apply (y : FVec Ideal S128x128 .f32) (i : S128x128.Idx) : expov y i = Cert.Scale.expo (y i) := by
  have h : searchv y i = Cert.Scale.search (y i) := by
    simp only [searchv, stepv_apply]; rfl
  pointwise [expov]
  rw [h]
  rfl

theorem scale_apply (y : FVec Ideal S128x128 .f32) (i : S128x128.Idx) : pow2v (F := Ideal) (expov y) i = Cert.Scale.kscale (y i) := by
  rw [pow2v_apply, expov_apply]; rfl

theorem inv_apply (y : FVec Ideal S128x128 .f32) (i : S128x128.Idx) :
    truncf (F := Ideal) .bf16 (pow2v (F := Ideal) (subi (broadcast S128x128 0#32) (expov y))) bitsLt_bf16_f32 i = Cert.Scale.kinv (y i) := by
  refine (pow2v_apply _ i).trans ?_
  show Cert.Scale.pow2 (0#32 - expov y i) = _
  rw [expov_apply]; rfl

/-- The running maximum of the absolute values bounds each of them, and is the least to do so. -/
theorem tmax_le {n : ℕ} (t : Fin (n + 1) → FVec Ideal S128x128 .bf16) (i : S128x128.Idx) (z : EReal) :
    (tmax t i : EReal) ≤ z ↔ ∀ j, max (t j i : EReal) (-(t j i : EReal)) ≤ z := by
  have h : ∀ (L : List (Fin n)) (m : FVec Ideal S128x128 .bf16), ((L.foldl (fun m j => maximumf m (absf (t j.succ))) m) i : EReal) ≤ z
      ↔ (m i : EReal) ≤ z ∧ ∀ j ∈ L, max (t j.succ i : EReal) (-(t j.succ i : EReal)) ≤ z := by
    intro L
    induction L with
    | nil => simp
    | cons a L ih =>
      intro m
      rw [List.foldl_cons, ih]
      have : (maximumf m (absf (t a.succ)) i : EReal) = max (m i : EReal) (max (t a.succ i : EReal) (-(t a.succ i : EReal))) := rfl
      rw [this, max_le_iff, and_assoc, List.forall_mem_cons]
  rw [tmax, h, Fin.forall_fin_succ]
  refine and_congr Iff.rfl ⟨fun H j => H j (List.mem_finRange j), fun H j _ => H j⟩

theorem bot_eq : Ideal.ofBits FTy.f32 4286578688#32 = (⊥ : EReal) := by
  simp [Ideal.ofBits, Ideal.ieee]

theorem rowY_apply (m : FVec Ideal S128x128 .bf16) (b : BitVec 32) (p q : Fin 128) :
    rowY m b (ix2 p q) = Finset.univ.fold max (⊥ : EReal) (fun x => (m (ix2 p x) : EReal)) * Ideal.ofBits .f32 b := by
  pointwise [rowY]
  rw [← bot_eq]

/-- The greatest absolute value of a function, zero terms aside. -/
def amax {n : ℕ} (f : Fin n → EReal) : EReal := Finset.univ.fold max ⊥ fun c => max (f c) (-f c)

theorem amax_le {n : ℕ} (f : Fin n → EReal) (z : EReal) : amax f ≤ z ↔ ∀ c, max (f c) (-f c) ≤ z := by
  unfold amax; rw [Finset.fold_max_le]; simp

theorem sl12_apply (v : Vec Ideal S1x128x1536 .bf16) (j : Fin 12) (p q : Fin 128) : sl12 (k0_pay4 v) j (ix2 p q) = v (ix3 0 p ⟨128 * j.val + q.val, by omega⟩) := by
  pointwise [sl12, k0_pay4]

theorem sl48_apply (v : Vec Ideal S1x128x6144 .bf16) (j : Fin 48) (p q : Fin 128) : sl48 (k0_pay40 v) j (ix2 p q) = v (ix3 0 p ⟨128 * j.val + q.val, by omega⟩) := by
  pointwise [sl48, k0_pay40]

/-- The row maxima of the tiles together are the row's maximum. -/
theorem rows_amax {n N : ℕ} (hN : N = 128 * (n + 1)) (t : Fin (n + 1) → FVec Ideal S128x128 .bf16) (f : Fin N → EReal) (p : Fin 128)
    (h : ∀ (j : Fin (n + 1)) (q : Fin 128), (t j (ix2 p q) : EReal) = f ⟨128 * j.val + q.val, by omega⟩) :
    Finset.univ.fold max (⊥ : EReal) (fun x : Fin 128 => (tmax t (ix2 p x) : EReal)) = amax f := by
  apply eq_of_forall_ge_iff
  intro z
  rw [Finset.fold_max_le, amax_le]
  constructor
  · rintro ⟨-, H⟩ c
    have := (tmax_le t _ z).mp (H ⟨c.val % 128, Nat.mod_lt _ (by decide)⟩ (Finset.mem_univ _)) ⟨c.val / 128, by omega⟩
    rw [h] at this
    have e : (⟨128 * (c.val / 128) + c.val % 128, by omega⟩ : Fin N) = c := Fin.ext (by show 128 * (c.val / 128) + c.val % 128 = c.val; omega)
    exact e ▸ this
  · intro H
    refine ⟨bot_le, fun x _ => (tmax_le t _ z).mpr fun j => ?_⟩
    rw [h]; exact H _

theorem scX_apply (v : Vec Ideal S1x128x1536 .bf16) (p q : Fin 128) : scX v (ix2 p q) = Cert.Scale.kscale (amax (fun c : Fin 1536 => (v (ix3 0 p c) : EReal)) * Ideal.ofBits .f32 0x3B124925#32) := by
  rw [scX, scale_apply, rowY_apply, rows_amax (N := 1536) (by decide) _ (fun c => (v (ix3 0 p c) : EReal)) p (fun j q => sl12_apply v j p q)]

theorem ivX_apply (v : Vec Ideal S1x128x1536 .bf16) (p q : Fin 128) : ivX v (ix2 p q) = Cert.Scale.kinv (amax (fun c : Fin 1536 => (v (ix3 0 p c) : EReal)) * Ideal.ofBits .f32 0x3B124925#32) := by
  rw [ivX, inv_apply, rowY_apply, rows_amax (N := 1536) (by decide) _ (fun c => (v (ix3 0 p c) : EReal)) p (fun j q => sl12_apply v j p q)]

theorem scD_apply (v : Vec Ideal S1x128x6144 .bf16) (p q : Fin 128) : scD v (ix2 p q) = Cert.Scale.kscale (amax (fun c : Fin 6144 => (v (ix3 0 p c) : EReal)) * Ideal.ofBits .f32 0x37924925#32) := by
  rw [scD, scale_apply, rowY_apply, rows_amax (N := 6144) (by decide) _ (fun c => (v (ix3 0 p c) : EReal)) p (fun j q => sl48_apply v j p q)]

theorem ivD_apply (v : Vec Ideal S1x128x6144 .bf16) (p q : Fin 128) : ivD v (ix2 p q) = Cert.Scale.kinv (amax (fun c : Fin 6144 => (v (ix3 0 p c) : EReal)) * Ideal.ofBits .f32 0x37924925#32) := by
  rw [ivD, inv_apply, rowY_apply, rows_amax (N := 6144) (by decide) _ (fun c => (v (ix3 0 p c) : EReal)) p (fun j q => sl48_apply v j p q)]

theorem cdX_apply (v : Vec Ideal S1x128x1536 .bf16) (j : Fin 12) (p q : Fin 128) : cdX (k0_pay4 v) (ivX v) j (ix2 p q)
    = min (Ideal.ofBits .bf16 0x43E0#16) (max (Ideal.ofBits .bf16 0xC3E0#16) ((v (ix3 0 p ⟨128 * j.val + q.val, by omega⟩) : EReal)
        * Cert.Scale.kinv (amax (fun c : Fin 1536 => (v (ix3 0 p c) : EReal)) * Ideal.ofBits .f32 0x3B124925#32))) := by
  pointwise [cdX]
  rw [ivX_apply, sl12_apply]

theorem cdD_apply (v : Vec Ideal S1x128x6144 .bf16) (j : Fin 48) (p q : Fin 128) : cdD (k0_pay40 v) (ivD v) j (ix2 p q)
    = min (Ideal.ofBits .bf16 0x4760#16) (max (Ideal.ofBits .bf16 0xC760#16) ((v (ix3 0 p ⟨128 * j.val + q.val, by omega⟩) : EReal)
        * Cert.Scale.kinv (amax (fun c : Fin 6144 => (v (ix3 0 p c) : EReal)) * Ideal.ofBits .f32 0x37924925#32))) := by
  pointwise [cdD]
  rw [ivD_apply, sl48_apply]

theorem gAdd_apply (s : FVec Ideal S128x128 .f32) (q : FVec Ideal S128x128 .fp8e5m2) (g : Vec Ideal S1x1x128 .f32) (l : Fin 128) :
    gAdd s q g (ix3 0 0 l) = (g (ix3 0 0 l) : EReal) + ∑ x : Fin 128, (q (ix2 x l) : EReal) * s (ix2 x l) := by
  pointwise [gAdd]

theorem row_apply (s : FVec Ideal S128x128 .f32) (l : Fin 128) : row s (ix3 0 0 l) = s (ix2 l 0) := by
  pointwise [row]

theorem cast3_apply {e : EltTy} (s : S128x128.Idx → Elt Ideal e) (a : Fin 1) (p q : Fin 128) : shapeCast S1x128x128 s shapeCasts_S128x128_S1x128x128 (ix3 a p q) = s (ix2 p q) := by
  pointwise []

/-- A batch's block of `x`: a row's scale, its inverse, an element's code. -/
def sX (X : Vec Ideal S1x1024x1536 .bf16) (r : Fin 1024) : EReal := Cert.Scale.kscale (amax (fun c : Fin 1536 => (X (ix3 0 r c) : EReal)) * Ideal.ofBits .f32 0x3B124925#32)
def iX (X : Vec Ideal S1x1024x1536 .bf16) (r : Fin 1024) : EReal := Cert.Scale.kinv (amax (fun c : Fin 1536 => (X (ix3 0 r c) : EReal)) * Ideal.ofBits .f32 0x3B124925#32)
def qX (X : Vec Ideal S1x1024x1536 .bf16) (r : Fin 1024) (c : Fin 1536) : EReal :=
  min (Ideal.ofBits .bf16 0x43E0#16) (max (Ideal.ofBits .bf16 0xC3E0#16) ((X (ix3 0 r c) : EReal) * iX X r))
/-- The same of a block of `dy`. -/
def sD (X : Vec Ideal S1x1024x6144 .bf16) (r : Fin 1024) : EReal := Cert.Scale.kscale (amax (fun c : Fin 6144 => (X (ix3 0 r c) : EReal)) * Ideal.ofBits .f32 0x37924925#32)
def iD (X : Vec Ideal S1x1024x6144 .bf16) (r : Fin 1024) : EReal := Cert.Scale.kinv (amax (fun c : Fin 6144 => (X (ix3 0 r c) : EReal)) * Ideal.ofBits .f32 0x37924925#32)
def qD (X : Vec Ideal S1x1024x6144 .bf16) (r : Fin 1024) (c : Fin 6144) : EReal :=
  min (Ideal.ofBits .bf16 0x4760#16) (max (Ideal.ofBits .bf16 0xC760#16) ((X (ix3 0 r c) : EReal) * iD X r))

variable (𝒱 : Variants) (c : Dev nD) (bd : Option 𝒱.V) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)
  (X : Vec Ideal S1x1024x1536 .bf16) (D : Vec Ideal S1x1024x6144 .bf16)

theorem bX_apply (k : Fin k0_t1_loop.trips) (p : Fin 128) (q : Fin 1536) (h : 128 * k.val + p.val < 1024) :
    bX (F := Ideal) arg2 (harg2.unread X) k (ix3 0 p q) = X (ix3 0 ⟨128 * k.val + p.val, h⟩ q) := by
  unfold bX
  refine (harg2.readAt_unread _ _ _).trans (congrArg X (funext fun a => Fin.ext ?_))
  show k0_off1 k a + 1 * _ = _
  rw [congrFun (o1_eq k) a]
  match a with
  | 0 => rfl
  | 1 => show 128 * k.val + 1 * p.val = _; rw [one_mul]; rfl
  | 2 => show 0 + 1 * q.val = _; rw [zero_add, one_mul]; rfl

theorem bD_apply (k : Fin k0_t1_loop.trips) (p : Fin 128) (q : Fin 6144) (h : 128 * k.val + p.val < 1024) :
    bD (F := Ideal) arg3 (harg3.unread D) k (ix3 0 p q) = D (ix3 0 ⟨128 * k.val + p.val, h⟩ q) := by
  unfold bD
  refine (harg3.readAt_unread _ _ _).trans (congrArg D (funext fun a => Fin.ext ?_))
  show k0_off14 k a + 1 * _ = _
  rw [congrFun (o14_eq k) a]
  match a with
  | 0 => rfl
  | 1 => show 128 * k.val + 1 * p.val = _; rw [one_mul]; rfl
  | 2 => show 0 + 1 * q.val = _; rw [zero_add, one_mul]; rfl

end Cert.GramIdeal.Gen

end
-- ==== Proof.GramIdealVals.lean ====
/- What the quantising loop leaves in each array, element by element, on the extended reals. -/
module

public import proofs.«01_k».proof.Proof.GramIdealRows

@[expose] public section

set_option maxRecDepth 16384

noncomputable section

namespace Cert.GramIdeal.Gen

open Idealize.ShloMosaic Idealize.ShloMosaic.TcCoe Idealize.SL.Sem

variable (𝒱 : Variants) (c : Dev nD) (bd : Option 𝒱.V) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)
  (X : Vec Ideal S1x1024x1536 .bf16) (D : Vec Ideal S1x1024x6144 .bf16)

theorem row_lt (k : Fin k0_t1_loop.trips) (p : Fin 128) : 128 * k.val + p.val < 1024 := by
  have := k.isLt
  have := p.isLt
  have := trips_eq
  omega

/-- Row `p` of trip `k`. -/
def rw_ (k : Fin k0_t1_loop.trips) (p : Fin 128) : Fin 1024 := ⟨128 * k.val + p.val, row_lt k p⟩

theorem bX_row (k : Fin k0_t1_loop.trips) (p : Fin 128) (q : Fin 1536) : (bX (F := Ideal) arg2 (harg2.unread X) k (ix3 0 p q) : EReal) = X (ix3 0 (rw_ k p) q) :=
  bX_apply arg2 harg2 X k p q _
theorem bD_row (k : Fin k0_t1_loop.trips) (p : Fin 128) (q : Fin 6144) : (bD (F := Ideal) arg3 (harg3.unread D) k (ix3 0 p q) : EReal) = D (ix3 0 (rw_ k p) q) :=
  bD_apply arg3 harg3 D k p q _

theorem scX_row (k : Fin k0_t1_loop.trips) (p l : Fin 128) : (scX (bX (F := Ideal) arg2 (harg2.unread X) k) (ix2 p l) : EReal) = sX X (rw_ k p) := by
  rw [scX_apply]; unfold sX; simp only [bX_row arg2 harg2 X]
theorem scD_row (k : Fin k0_t1_loop.trips) (p l : Fin 128) : (scD (bD (F := Ideal) arg3 (harg3.unread D) k) (ix2 p l) : EReal) = sD D (rw_ k p) := by
  rw [scD_apply]; unfold sD; simp only [bD_row arg3 harg3 D]
theorem cdX_row (k : Fin k0_t1_loop.trips) (j : Fin 12) (p q : Fin 128) :
    (cdX (k0_pay4 (bX (F := Ideal) arg2 (harg2.unread X) k)) (ivX (bX (F := Ideal) arg2 (harg2.unread X) k)) j (ix2 p q) : EReal) = qX X (rw_ k p) ⟨128 * j.val + q.val, by omega⟩ := by
  rw [cdX_apply]; unfold qX iX; simp only [bX_row arg2 harg2 X]
theorem cdD_row (k : Fin k0_t1_loop.trips) (j : Fin 48) (p q : Fin 128) :
    (cdD (k0_pay40 (bD (F := Ideal) arg3 (harg3.unread D) k)) (ivD (bD (F := Ideal) arg3 (harg3.unread D) k)) j (ix2 p q) : EReal) = qD D (rw_ k p) ⟨128 * j.val + q.val, by omega⟩ := by
  rw [cdD_apply]; unfold qD iD; simp only [bD_row arg3 harg3 D]

theorem V4_apply (y : S1x1024x1536.Idx) : (V4 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) y : EReal) = qX X (y 1) (y 2) := by
  have h1 : (y 1).val < 1024 := (y 1).isLt
  unfold V4
  refine View.canon_apply_of_pieces (fun y : S1x1024x1536.Idx => (qX X (y 1) (y 2) : EReal)) _ (fun p hp x => ?_) y
    ((block4 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) (blk (y 1).val h1)).2 y (by show 128 * ((y 1).val / 128) ≤ _; omega) (by show _ < 128 * ((y 1).val / 128 + 1); omega))
  rw [L4_eq] at hp
  generalize blk (y 1).val _ = k at hp
  obtain ⟨j, -, rfl⟩ := List.mem_map.mp hp
  rw [r6_eq]
  obtain ⟨a, p, q, rfl⟩ : ∃ (a : Fin 1) (p q : Fin 128), x = ix3 a p q := ⟨x 0, x 1, x 2, by funext t; match t with | 0 => rfl | 1 => rfl | 2 => rfl⟩
  refine (cast3_apply (e := .fp8e4m3) (cdX (k0_pay4 (bX (F := Ideal) arg2 (harg2.unread X) k)) (ivX (bX (F := Ideal) arg2 (harg2.unread X) k)) j) a p q).trans ((cdX_row arg2 harg2 X k j p q).trans ?_)
  refine congrArg₂ (qX X) (Fin.ext ?_) (Fin.ext ?_)
  · show 128 * k.val + p.val = o4 k j 1 + 1 * p.val
    rw [congrFun (o4_eq k j) 1, one_mul]; rfl
  · show 128 * j.val + q.val = o4 k j 2 + 1 * q.val
    rw [congrFun (o4_eq k j) 2, one_mul]; rfl

theorem V5_apply (y : S1x1024x6144.Idx) : (V5 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) y : EReal) = qD D (y 1) (y 2) := by
  have h1 : (y 1).val < 1024 := (y 1).isLt
  unfold V5
  refine View.canon_apply_of_pieces (fun y : S1x1024x6144.Idx => (qD D (y 1) (y 2) : EReal)) _ (fun p hp x => ?_) y
    ((block5 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) (blk (y 1).val h1)).2 y (by show 128 * ((y 1).val / 128) ≤ _; omega) (by show _ < 128 * ((y 1).val / 128 + 1); omega))
  rw [L5_eq] at hp
  generalize blk (y 1).val _ = k at hp
  obtain ⟨j, -, rfl⟩ := List.mem_map.mp hp
  rw [r29_eq]
  obtain ⟨a, p, q, rfl⟩ : ∃ (a : Fin 1) (p q : Fin 128), x = ix3 a p q := ⟨x 0, x 1, x 2, by funext t; match t with | 0 => rfl | 1 => rfl | 2 => rfl⟩
  refine (cast3_apply (e := .fp8e5m2) (cdD (k0_pay40 (bD (F := Ideal) arg3 (harg3.unread D) k)) (ivD (bD (F := Ideal) arg3 (harg3.unread D) k)) j) a p q).trans ((cdD_row arg3 harg3 D k j p q).trans ?_)
  refine congrArg₂ (qD D) (Fin.ext ?_) (Fin.ext ?_)
  · show 128 * k.val + p.val = o5 k j 1 + 1 * p.val
    rw [congrFun (o5_eq k j) 1, one_mul]; rfl
  · show 128 * j.val + q.val = o5 k j 2 + 1 * q.val
    rw [congrFun (o5_eq k j) 2, one_mul]; rfl

theorem V6_apply (y : S1x1x1024.Idx) : (V6 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) y : EReal) = sX X (y 2) := by
  have h1 : (y 2).val < 1024 := (y 2).isLt
  unfold V6
  refine View.canon_apply_of_pieces (fun y : S1x1x1024.Idx => (sX X (y 2) : EReal)) _ (fun p hp x => ?_) y
    ((block_lane _ (boxes6 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) (blk (y 2).val h1))).2 y (by show 128 * ((y 2).val / 128) ≤ _; omega) (by show _ < 128 * ((y 2).val / 128 + 1); omega))
  rw [L6_eq] at hp
  generalize blk (y 2).val _ = k at hp
  obtain rfl := List.mem_singleton.mp hp
  rw [r5_eq]
  obtain ⟨l, rfl⟩ : ∃ l : Fin 128, x = ix3 0 0 l := ⟨x 2, by funext t; match t with | 0 => exact Fin.ext (by have : (x 0).val < 1 := (x 0).isLt; show (x 0).val = 0; omega) | 1 => exact Fin.ext (by have : (x 1).val < 1 := (x 1).isLt; show (x 1).val = 0; omega) | 2 => rfl⟩
  refine (row_apply _ l).trans ((scX_row arg2 harg2 X k l 0).trans ?_)
  refine congrArg (sX X) (Fin.ext ?_)
  show 128 * k.val + l.val = k0_off65 k 2 + 1 * l.val
  rw [congrFun (off65_eq k) 2, one_mul]; rfl

theorem V7_apply (y : S1x1x1024.Idx) : (V7 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) y : EReal) = sD D (y 2) := by
  have h1 : (y 2).val < 1024 := (y 2).isLt
  unfold V7
  refine View.canon_apply_of_pieces (fun y : S1x1x1024.Idx => (sD D (y 2) : EReal)) _ (fun p hp x => ?_) y
    ((block_lane _ (boxes7 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) (blk (y 2).val h1))).2 y (by show 128 * ((y 2).val / 128) ≤ _; omega) (by show _ < 128 * ((y 2).val / 128 + 1); omega))
  rw [L7_eq] at hp
  generalize blk (y 2).val _ = k at hp
  obtain rfl := List.mem_singleton.mp hp
  rw [r28_eq]
  obtain ⟨l, rfl⟩ : ∃ l : Fin 128, x = ix3 0 0 l := ⟨x 2, by funext t; match t with | 0 => exact Fin.ext (by have : (x 0).val < 1 := (x 0).isLt; show (x 0).val = 0; omega) | 1 => exact Fin.ext (by have : (x 1).val < 1 := (x 1).isLt; show (x 1).val = 0; omega) | 2 => rfl⟩
  refine (row_apply _ l).trans ((scD_row arg3 harg3 D k l 0).trans ?_)
  refine congrArg (sD D) (Fin.ext ?_)
  show 128 * k.val + l.val = k0_off65 k 2 + 1 * l.val
  rw [congrFun (off65_eq k) 2, one_mul]; rfl

/-- The scratch: the scales of `x` in plane 0, of `dy` in plane 1. -/
def sXD (X : Vec Ideal S1x1024x1536 .bf16) (D : Vec Ideal S1x1024x6144 .bf16) (y : S2x1024x128.Idx) : EReal := if (y 0).val = 0 then sX X (y 1) else sD D (y 1)

theorem V13_apply (y : S2x1024x128.Idx) : (V13 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) y : EReal) = sXD X D y := by
  have h1 : (y 1).val < 1024 := (y 1).isLt
  unfold V13
  refine View.canon_apply_of_pieces (fun y : S2x1024x128.Idx => (sXD X D y : EReal)) _ (fun p hp x => ?_) y
    ((block13 (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) (blk (y 1).val h1)).2 y (by show 128 * ((y 1).val / 128) ≤ _; omega) (by show _ < 128 * ((y 1).val / 128 + 1); omega))
  rw [L13_eq] at hp
  generalize blk (y 1).val _ = k at hp
  rw [r5_eq, r28_eq] at hp
  rcases List.mem_pair.mp hp with rfl | rfl
  · obtain ⟨a, p, q, rfl⟩ : ∃ (a : Fin 1) (p q : Fin 128), x = ix3 a p q := ⟨x 0, x 1, x 2, by funext t; match t with | 0 => rfl | 1 => rfl | 2 => rfl⟩
    refine (cast3_apply (e := .f32) (scD (bD (F := Ideal) arg3 (harg3.unread D) k)) a p q).trans ((scD_row arg3 harg3 D k p q).trans ?_)
    have e0 : k0_off64 k 0 = 1 := congrFun (off64_eq k) 0
    have hne : ¬ k0_off64 k 0 + 1 * a.val = 0 := by rw [e0]; omega
    refine Eq.trans (congrArg (sD D) (Fin.ext ?_)) (if_neg hne).symm
    show 128 * k.val + p.val = k0_off64 k 1 + 1 * p.val
    rw [congrFun (off64_eq k) 1, one_mul]; rfl
  · obtain ⟨a, p, q, rfl⟩ : ∃ (a : Fin 1) (p q : Fin 128), x = ix3 a p q := ⟨x 0, x 1, x 2, by funext t; match t with | 0 => rfl | 1 => rfl | 2 => rfl⟩
    refine (cast3_apply (e := .f32) (scX (bX (F := Ideal) arg2 (harg2.unread X) k)) a p q).trans ((scX_row arg2 harg2 X k p q).trans ?_)
    have e0 : k0_off63 k 0 = 0 := congrFun (off63_eq k) 0
    have hne : k0_off63 k 0 + 1 * a.val = 0 := by rw [e0]; omega
    refine Eq.trans (congrArg (sX X) (Fin.ext ?_)) (if_pos hne).symm
    show 128 * k.val + p.val = k0_off63 k 1 + 1 * p.val
    rw [congrFun (off63_eq k) 1, one_mul]; rfl

theorem o11_eq : ∀ j : Fin 48, o11 j = ![0, 0, 128 * j.val] := by decide +kernel

/-- One trip adds its rows' share to every sum. -/
theorem sums_step (k : Fin k0_t1_loop.trips) (f : BufTy.Contents (Elt Ideal) arg11.view.ty) (y : S1x1x6144.Idx) :
    (arg11.view.read (Elt Ideal) (arg11.view.writes (Elt Ideal) f ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) k).2.2.2.2.1 f)) y : EReal)
      = (arg11.view.read (Elt Ideal) f y : EReal) + ∑ p : Fin 128, qD D (rw_ k p) (y 2) * sD D (rw_ k p) := by
  have h2 : (y 2).val < 6144 := (y 2).isLt
  rw [L11_eq, r28_eq, r29_eq]
  have hm : ∃ p ∈ (List.finRange 48).reverse.map fun j => (⟨Rect.unit (s := S1x1x6144) (o11 j) S1x1x128.size (o11_inb j), gAdd (scD (bD (F := Ideal) arg3 (harg3.unread D) k)) (cdD (k0_pay40 (bD (F := Ideal) arg3 (harg3.unread D) k)) (ivD (bD (F := Ideal) arg3 (harg3.unread D) k)) j) (View.readAt (Elt Ideal) arg11.view (Rect.unit (s := S1x1x6144) (o11 j) S1x1x128.size (o11_inb j)).toLoadRect f)⟩ : View.Piece (Elt Ideal) S1x1x6144 .f32), y ∈ p.1.set := by
    refine ⟨_, List.mem_map_of_mem (a := (⟨(y 2).val / 128, by omega⟩ : Fin 48)) (by simp), ?_⟩
    rw [Rect.mem_set_unit]
    intro a
    have h0 : (y 0).val < 1 := (y 0).isLt
    have h1 : (y 1).val < 1 := (y 1).isLt
    rw [o11_eq]
    match a with
    | 0 => show 0 ≤ (y 0).val ∧ (y 0).val < 0 + 1; omega
    | 1 => show 0 ≤ (y 1).val ∧ (y 1).val < 0 + 1; omega
    | 2 => show 128 * ((y 2).val / 128) ≤ (y 2).val ∧ (y 2).val < 128 * ((y 2).val / 128) + 128; omega
  refine (View.read_writes_apply_eq_canon _ _ _ _ hm).trans ?_
  refine View.canon_apply_of_pieces (fun y : S1x1x6144.Idx => ((arg11.view.read (Elt Ideal) f y : EReal) + ∑ p : Fin 128, qD D (rw_ k p) (y 2) * sD D (rw_ k p) : EReal)) _ (fun p hp x => ?_) y hm
  obtain ⟨j, -, rfl⟩ := List.mem_map.mp hp
  obtain ⟨l, rfl⟩ : ∃ l : Fin 128, x = ix3 0 0 l := ⟨x 2, by funext t; match t with | 0 => exact Fin.ext (by have : (x 0).val < 1 := (x 0).isLt; show (x 0).val = 0; omega) | 1 => exact Fin.ext (by have : (x 1).val < 1 := (x 1).isLt; show (x 1).val = 0; omega) | 2 => rfl⟩
  refine (gAdd_apply _ _ _ l).trans ?_
  refine congrArg₂ (· + ·) rfl (Finset.sum_congr rfl fun p _ => ?_)
  rw [cdD_row, scD_row]
  refine congrArg (fun t => qD D (rw_ k p) t * sD D (rw_ k p)) (Fin.ext ?_)
  show 128 * j.val + l.val = o11 j 2 + 1 * l.val
  rw [congrFun (o11_eq j) 2, one_mul]; rfl

/-- After all eight trips every sum has gained all of its 1024 rows' shares. -/
theorem sums_last (f : BufTy.Contents (Elt Ideal) arg11.view.ty) (y : S1x1x6144.Idx) :
    (arg11.view.read (Elt Ideal) (sums 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) f 8) y : EReal)
      = (arg11.view.read (Elt Ideal) f y : EReal) + ∑ r : Fin 1024, qD D r (y 2) * sD D r := by
  have h : ∀ (n : ℕ) (hn : n ≤ 8), (arg11.view.read (Elt Ideal) (sums 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) f n) y : EReal)
      = (arg11.view.read (Elt Ideal) f y : EReal) + ∑ k : Fin n, ∑ p : Fin 128, qD D (rw_ ⟨k.val, by rw [trips_eq]; omega⟩ p) (y 2) * sD D (rw_ ⟨k.val, by rw [trips_eq]; omega⟩ p) := by
    intro n
    induction n with
    | zero => intro _; rw [Fin.sum_univ_zero, add_zero]; rfl
    | succ n ih =>
      intro hn
      rw [sums_succ 𝒱 c bd i arg1 harg1 arg2 harg2 arg3 harg3 arg4 harg4 arg5 harg5 arg6 harg6 arg7 harg7 arg8 harg8 arg9 harg9 arg10 harg10 arg11 harg11 arg12 harg12 arg13 harg13 (harg2.unread X) (harg3.unread D) f ⟨n, by rw [trips_eq]; omega⟩, sums_step, ih (by omega), Fin.sum_univ_castSucc (n := n), add_assoc]
      rfl
  rw [h 8 le_rfl]
  refine congrArg (fun z : EReal => (arg11.view.read (Elt Ideal) f y : EReal) + z) (Fin.sum_mul_add_congr (S := 8) (n := 128) (fun k p hl => ?_))
  have e : rw_ ⟨k.val, by rw [trips_eq]; omega⟩ p = ⟨k.val * 128 + p.val, hl⟩ := Fin.ext (by show 128 * k.val + p.val = k.val * 128 + p.val; omega)
  rw [e]

end Cert.GramIdeal.Gen

end
-- ==== Proof.GramIdealRun.lean ====
/- The body of the quantising call, run: what it leaves in each of its output blocks. -/
module

public import proofs.«01_k».proof.Proof.GramIdealLoop

@[expose] public section

set_option maxRecDepth 16384
set_option maxHeartbeats 8000000

noncomputable section

namespace Cert.GramIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body on blocks `x0`, `x1`, `x2` of its inputs: the codes and scales as the loop leaves them, the rest as pieces. -/
def kernelRun (c : Dev nD) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)
    (x0 : Vec F S1 .f32) (x1 : Vec F S1x1024x1536 .bf16) (x2 : Vec F S1x1024x6144 .bf16) :
    Σ' (L8 : List (View.Piece (Elt F) S1x1x1024 .f32)) (L9 : List (View.Piece (Elt F) S1x1024x128 .bf16))
      (L10 : List (View.Piece (Elt F) S1x1024x128 .bf16)) (C11 : BufTy.Contents (Elt F) arg11.view.ty),
      { L12 : List (View.Piece (Elt F) S1x1x128 .f32) //
        ∀ (E : Set ℕ) (K : PUnit → sProp 𝕄G),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (arg4.view.loc (c : Thread nD τ) ↦[arg4.view.set]{fullShare} harg4.unread (V4 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))) ∗ (arg5.view.loc (c : Thread nD τ) ↦[arg5.view.set]{fullShare} harg5.unread (V5 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))) ∗ (arg6.view.loc (c : Thread nD τ) ↦[arg6.view.set]{fullShare} harg6.unread (V6 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))) ∗ (arg7.view.loc (c : Thread nD τ) ↦[arg7.view.set]{fullShare} harg7.unread (V7 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (arg11.view.loc (c : Thread nD τ) ↦[arg11.view.set]{fullShare} C11) ∗ (∃ f, arg12.view.loc (c : Thread nD τ) ↦[arg12.view.set]{fullShare} arg12.view.writes (Elt F) f L12) ∗ (∃ d, owns (c : Thread nD τ) arg13 fullShare d)) -∗ K ⟨⟩))
        ⊢ wp frame (wpE (defs₀ (F := F)) Variants.none (c : Thread nD τ) none) E (cc0_quant_gram (F := F) i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_quant_gram_eq_skeleton]; unfold cc0_quant_gram_skel
    simp only [k0_part39_eq_skeleton, k0_part40_eq_skeleton, k0_part41_eq_skeleton, k0_part42_eq_skeleton, k0_part43_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf1; obtain rfl := harg2.eq_unread hf2; obtain rfl := harg3.eq_unread hf3
    sl_exec
    sl_step
    iapply Hk
    sl_close

end Cert.GramIdeal.Gen

end
-- ==== Proof.GramIdealAfter.lean ====
/- What the body leaves after its loop: the squared sums of the rows, the norm, and the factors. -/
module

public import proofs.«01_k».proof.Proof.GramIdealVals
public import proofs.«01_k».proof.Proof.GramIdealRun

@[expose] public section

set_option maxRecDepth 16384

noncomputable section

namespace Cert.GramIdeal.Gen

open Idealize.ShloMosaic Idealize.ShloMosaic.TcCoe Idealize.SL.Sem

section

variable {F : FTy → Type} [FloatOps F]

/-- The row sums of one block of 256 rows: the product of the two scaled matrices of inner products. -/
def sqB (v3 v5 : Vec F S1x1x1024 .f32) (xb : Vec F S1x256x1536 .fp8e4m3) (xw : Vec F S1x1024x1536 .fp8e4m3) (db : Vec F S1x256x6144 .fp8e5m2)
    (dw : Vec F S1x1024x6144 .fp8e5m2) (s t : Vec F S1x256x1 .f32) : FVec F S256x1 .f32 :=
  k0_pay226 (k0_pay222 v5) (k0_pay224 db dw) (k0_pay225 v3 xb xw s) t

/-- A column laid out as a row. -/
def row8 (v : FVec F S256x1 .f32) : FVec F S1x1x256 .f32 :=
  shapeCast S1x1x256 (extractStridedSlice S1x256 ![0, 0] (transpose S128x256 [1, 0] (broadcastTo S256x128 (shapeCast S256x1 v shapeCasts_S256x1_S256x1) broadcasts_S256x1_S256x128) transposes_S256x128_p1_0_S128x256) slices_S128x256_o0_0_S1x256) shapeCasts_S1x256_S1x1x256

/-- A block's sum added to the running one. -/
def accB (s : FVec F S1x1 .f32) (v : FVec F S256x1 .f32) : FVec F S1x1 .f32 :=
  addf s (shapeCast S1x1 (multiReduction .add [0] S1 v 0x00000000#32 reduces_S256x1_S1 (.inl rfl) rfl) shapeCasts_S1_S1x1)

/-- The norm, from the two sums. -/
def nrmB (s g : FVec F S1x1 .f32) : FVec F S1x1 .f32 :=
  sqrt (maximumf (addf s g) (broadcast S1x1 (Scalar.ofBits .f32 0x00000000#32 : F .f32)))

/-- The coefficient. -/
def coefB (n : FVec F S1x1 .f32) (z : F .f32) : FVec F S1x1 .f32 :=
  minimumf (broadcast S1x1 (Scalar.ofBits .f32 0x3F800000#32 : F .f32)) (divf (broadcast S1x1 z) (addf n (broadcast S1x1 (Scalar.ofBits .f32 0x358637BD#32 : F .f32))))

def o8 (b : Fin 4) : Fin 3 → ℕ := ![0, 0, 256 * b.val]
def o256 (b : Fin 4) : Fin 3 → ℕ := ![0, 256 * b.val, 0]
def oT (b : Fin 4) : Fin 3 → ℕ := ![1, 256 * b.val, 0]
theorem o8_inb : ∀ b a, o8 b a + S1x1x256.size a ≤ S1x1x1024.size a := by decide +kernel
theorem oX_inb : ∀ b a, o256 b a + S1x256x1536.size a ≤ S1x1024x1536.size a := by decide +kernel
theorem oD_inb : ∀ b a, o256 b a + S1x256x6144.size a ≤ S1x1024x6144.size a := by decide +kernel
theorem oS_inb : ∀ b a, o256 b a + S1x256x1.size a ≤ S2x1024x128.size a := by decide +kernel
theorem oT_inb : ∀ b a, oT b a + S1x256x1.size a ≤ S2x1024x128.size a := by decide +kernel

variable (c : Dev nD) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)
  (x0 : Vec F S1 .f32) (x1 : Vec F S1x1024x1536 .bf16) (x2 : Vec F S1x1024x6144 .bf16)

/-- The row sums of block `b`. -/
def bsq (b : Fin 4) : FVec F S256x1 .f32 :=
  sqB (View.readAt (Elt F) arg6.view (Rect.unit (s := S1x1x1024) ![0, 0, 0] S1x1x1024.size inb_S1x1x1024_S1x1x1024_0_0_0).toLoadRect (harg6.unread (V6 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))
    (View.readAt (Elt F) arg7.view (Rect.unit (s := S1x1x1024) ![0, 0, 0] S1x1x1024.size inb_S1x1x1024_S1x1x1024_0_0_0).toLoadRect (harg7.unread (V7 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))
    (View.readAt (Elt F) arg4.view (Rect.unit (s := S1x1024x1536) (o256 b) S1x256x1536.size (oX_inb b)).toLoadRect (harg4.unread (V4 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))
    (View.readAt (Elt F) arg4.view (Rect.unit (s := S1x1024x1536) ![0, 0, 0] S1x1024x1536.size inb_S1x1024x1536_S1x1024x1536_0_0_0).toLoadRect (harg4.unread (V4 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))
    (View.readAt (Elt F) arg5.view (Rect.unit (s := S1x1024x6144) (o256 b) S1x256x6144.size (oD_inb b)).toLoadRect (harg5.unread (V5 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))
    (View.readAt (Elt F) arg5.view (Rect.unit (s := S1x1024x6144) ![0, 0, 0] S1x1024x6144.size inb_S1x1024x6144_S1x1024x6144_0_0_0).toLoadRect (harg5.unread (V5 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))
    (View.readAt (Elt F) arg13.view (Rect.unit (s := S2x1024x128) (o256 b) S1x256x1.size (oS_inb b)).toLoadRect (harg13.unread (V13 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))
    (View.readAt (Elt F) arg13.view (Rect.unit (s := S2x1024x128) (oT b) S1x256x1.size (oT_inb b)).toLoadRect (harg13.unread (V13 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))

/-- The vector of sums the body squares. -/
def gv : Vec F S1x1x6144 .f32 := kernelRun.sl.v148 (F := F) c i arg1 harg1 arg2 harg2 arg3 harg3 arg4 harg4 arg5 harg5 arg6 harg6 arg7 harg7 arg8 harg8 arg9 harg9 arg10 harg10 arg11 harg11 arg12 harg12 arg13 harg13 x1 x2

def nrm : FVec F S1x1 .f32 :=
  nrmB (accB (accB (accB (accB k0_pay223 (bsq c i arg1 harg1 arg2 harg2 arg3 harg3 arg4 harg4 arg5 harg5 arg6 harg6 arg7 harg7 arg8 harg8 arg9 harg9 arg10 harg10 arg11 harg11 arg12 harg12 arg13 harg13 x1 x2 0)) (bsq c i arg1 harg1 arg2 harg2 arg3 harg3 arg4 harg4 arg5 harg5 arg6 harg6 arg7 harg7 arg8 harg8 arg9 harg9 arg10 harg10 arg11 harg11 arg12 harg12 arg13 harg13 x1 x2 1)) (bsq c i arg1 harg1 arg2 harg2 arg3 harg3 arg4 harg4 arg5 harg5 arg6 harg6 arg7 harg7 arg8 harg8 arg9 harg9 arg10 harg10 arg11 harg11 arg12 harg12 arg13 harg13 x1 x2 2)) (bsq c i arg1 harg1 arg2 harg2 arg3 harg3 arg4 harg4 arg5 harg5 arg6 harg6 arg7 harg7 arg8 harg8 arg9 harg9 arg10 harg10 arg11 harg11 arg12 harg12 arg13 harg13 x1 x2 3)) (k0_pay246 (gv c i arg1 harg1 arg2 harg2 arg3 harg3 arg4 harg4 arg5 harg5 arg6 harg6 arg7 harg7 arg8 harg8 arg9 harg9 arg10 harg10 arg11 harg11 arg12 harg12 arg13 harg13 x1 x2))

def coef : FVec F S1x1 .f32 :=
  coefB (nrm c i arg1 harg1 arg2 harg2 arg3 harg3 arg4 harg4 arg5 harg5 arg6 harg6 arg7 harg7 arg8 harg8 arg9 harg9 arg10 harg10 arg11 harg11 arg12 harg12 arg13 harg13 x1 x2) (View.readAt (Elt F) arg1.view (Rect.unit (s := S1) ![0] S1.size inb_S1_S1_0).toLoadRect (harg1.unread x0) (Shape.Idx.first (by decide)))

theorem L8_eq : (kernelRun (F := F) c i arg1 harg1 arg2 harg2 arg3 harg3 arg4 harg4 arg5 harg5 arg6 harg6 arg7 harg7 arg8 harg8 arg9 harg9 arg10 harg10 arg11 harg11 arg12 harg12 arg13 harg13 x0 x1 x2).1 = (List.finRange 4).reverse.map fun b => (⟨Rect.unit (s := S1x1x1024) (o8 b) S1x1x256.size (o8_inb b), row8 (bsq c i arg1 harg1 arg2 harg2 arg3 harg3 arg4 harg4 arg5 harg5 arg6 harg6 arg7 harg7 arg8 harg8 arg9 harg9 arg10 harg10 arg11 harg11 arg12 harg12 arg13 harg13 x1 x2 b)⟩ : View.Piece (Elt F) S1x1x1024 .f32) := rfl

theorem L9_eq : (kernelRun (F := F) c i arg1 harg1 arg2 harg2 arg3 harg3 arg4 harg4 arg5 harg5 arg6 harg6 arg7 harg7 arg8 harg8 arg9 harg9 arg10 harg10 arg11 harg11 arg12 harg12 arg13 harg13 x0 x1 x2).2.1 = [⟨Rect.unit (s := S1x1024x128) ![0, 0, 0] S1x1024x128.size inb_S1x1024x128_S1x1024x128_0_0_0,
    k0_pay2 (View.readAt (Elt F) arg13.view (Rect.unit (s := S2x1024x128) ![0, 0, 0] S1x1024x128.size inb_S2x1024x128_S1x1024x128_0_0_0).toLoadRect (harg13.unread (V13 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))⟩] := rfl

theorem r11_eq : kernelRun.sl.r_11 (F := F) c i arg1 harg1 arg2 harg2 arg3 harg3 arg4 harg4 arg5 harg5 arg6 harg6 arg7 harg7 arg8 harg8 arg9 harg9 arg10 harg10 arg11 harg11 arg12 harg12 arg13 harg13 x1 x2 = accB (accB (accB k0_pay223 (bsq c i arg1 harg1 arg2 harg2 arg3 harg3 arg4 harg4 arg5 harg5 arg6 harg6 arg7 harg7 arg8 harg8 arg9 harg9 arg10 harg10 arg11 harg11 arg12 harg12 arg13 harg13 x1 x2 0)) (bsq c i arg1 harg1 arg2 harg2 arg3 harg3 arg4 harg4 arg5 harg5 arg6 harg6 arg7 harg7 arg8 harg8 arg9 harg9 arg10 harg10 arg11 harg11 arg12 harg12 arg13 harg13 x1 x2 1)) (bsq c i arg1 harg1 arg2 harg2 arg3 harg3 arg4 harg4 arg5 harg5 arg6 harg6 arg7 harg7 arg8 harg8 arg9 harg9 arg10 harg10 arg11 harg11 arg12 harg12 arg13 harg13 x1 x2 2) := rfl

theorem r18_eq : kernelRun.sl.r_18 (F := F) c i arg1 harg1 arg2 harg2 arg3 harg3 arg4 harg4 arg5 harg5 arg6 harg6 arg7 harg7 arg8 harg8 arg9 harg9 arg10 harg10 arg11 harg11 arg12 harg12 arg13 harg13 x1 x2 = nrm c i arg1 harg1 arg2 harg2 arg3 harg3 arg4 harg4 arg5 harg5 arg6 harg6 arg7 harg7 arg8 harg8 arg9 harg9 arg10 harg10 arg11 harg11 arg12 harg12 arg13 harg13 x1 x2 := by
  unfold kernelRun.sl.r_18 nrm
  rw [r11_eq]
  rfl

theorem r19_eq : kernelRun.sl.r_19 (F := F) c i arg1 harg1 arg2 harg2 arg3 harg3 arg4 harg4 arg5 harg5 arg6 harg6 arg7 harg7 arg8 harg8 arg9 harg9 arg10 harg10 arg11 harg11 arg12 harg12 arg13 harg13 x0 x1 x2 = coef c i arg1 harg1 arg2 harg2 arg3 harg3 arg4 harg4 arg5 harg5 arg6 harg6 arg7 harg7 arg8 harg8 arg9 harg9 arg10 harg10 arg11 harg11 arg12 harg12 arg13 harg13 x0 x1 x2 := by
  unfold coef
  rw [← r18_eq]
  rfl

theorem gv_eq : ∃ f, gv (F := F) c i arg1 harg1 arg2 harg2 arg3 harg3 arg4 harg4 arg5 harg5 arg6 harg6 arg7 harg7 arg8 harg8 arg9 harg9 arg10 harg10 arg11 harg11 arg12 harg12 arg13 harg13 x1 x2 = View.readAt (Elt F) arg11.view (Rect.unit (s := S1x1x6144) ![0, 0, 0] S1x1x6144.size inb_S1x1x6144_S1x1x6144_0_0_0).toLoadRect
    (sums Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2) (View.write (Elt F) (arg11.view.slice (Rect.unit (s := S1x1x6144) ![0, 0, 0] S1x1x6144.size inb_S1x1x6144_S1x1x6144_0_0_0)) f k0_pay218 Finset.univ) 8) := ⟨_, rfl⟩

theorem L10_eq : (kernelRun (F := F) c i arg1 harg1 arg2 harg2 arg3 harg3 arg4 harg4 arg5 harg5 arg6 harg6 arg7 harg7 arg8 harg8 arg9 harg9 arg10 harg10 arg11 harg11 arg12 harg12 arg13 harg13 x0 x1 x2).2.2.1 = [⟨Rect.unit (s := S1x1024x128) ![0, 0, 0] S1x1024x128.size inb_S1x1024x128_S1x1024x128_0_0_0,
    k0_pay3 (coef c i arg1 harg1 arg2 harg2 arg3 harg3 arg4 harg4 arg5 harg5 arg6 harg6 arg7 harg7 arg8 harg8 arg9 harg9 arg10 harg10 arg11 harg11 arg12 harg12 arg13 harg13 x0 x1 x2) (View.readAt (Elt F) arg13.view (Rect.unit (s := S2x1024x128) ![1, 0, 0] S1x1024x128.size inb_S2x1024x128_S1x1024x128_1_0_0).toLoadRect (harg13.unread (V13 Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2))))⟩] := by
  rw [← r19_eq]
  rfl

theorem C11_eq : ∃ f, (kernelRun (F := F) c i arg1 harg1 arg2 harg2 arg3 harg3 arg4 harg4 arg5 harg5 arg6 harg6 arg7 harg7 arg8 harg8 arg9 harg9 arg10 harg10 arg11 harg11 arg12 harg12 arg13 harg13 x0 x1 x2).2.2.2.1 = sums Variants.none c none i arg1 harg1 arg2 harg2 arg3 harg3 arg4 harg4 arg5 harg5 arg6 harg6 arg7 harg7 arg8 harg8 arg9 harg9 arg10 harg10 arg11 harg11 arg12 harg12 arg13 harg13 (harg2.unread x1) (harg3.unread x2) (View.write (Elt F) (arg11.view.slice (Rect.unit (s := S1x1x6144) ![0, 0, 0] S1x1x6144.size inb_S1x1x6144_S1x1x6144_0_0_0)) f k0_pay218 Finset.univ) 8 := by
  refine ⟨arg11.view.writes (Elt F) arg11.view.junk [], ?_⟩
  unfold kernelRun
  rfl

theorem L12_eq : (kernelRun (F := F) c i arg1 harg1 arg2 harg2 arg3 harg3 arg4 harg4 arg5 harg5 arg6 harg6 arg7 harg7 arg8 harg8 arg9 harg9 arg10 harg10 arg11 harg11 arg12 harg12 arg13 harg13 x0 x1 x2).2.2.2.2.1 = [⟨Rect.unit (s := S1x1x128) ![0, 0, 0] S1x1x128.size inb_S1x1x128_S1x1x128_0_0_0,
    k0_pay1 (k0_pay246 (gv c i arg1 harg1 arg2 harg2 arg3 harg3 arg4 harg4 arg5 harg5 arg6 harg6 arg7 harg7 arg8 harg8 arg9 harg9 arg10 harg10 arg11 harg11 arg12 harg12 arg13 harg13 x1 x2)) (nrm c i arg1 harg1 arg2 harg2 arg3 harg3 arg4 harg4 arg5 harg5 arg6 harg6 arg7 harg7 arg8 harg8 arg9 harg9 arg10 harg10 arg11 harg11 arg12 harg12 arg13 harg13 x1 x2) (coef c i arg1 harg1 arg2 harg2 arg3 harg3 arg4 harg4 arg5 harg5 arg6 harg6 arg7 harg7 arg8 harg8 arg9 harg9 arg10 harg10 arg11 harg11 arg12 harg12 arg13 harg13 x0 x1 x2) (iota .tc S1x128 32 [1] iota_S1x128_d1_w32) k0_pay249 k0_pay250⟩] := by
  refine Eq.trans (b := [⟨Rect.unit (s := S1x1x128) ![0, 0, 0] S1x1x128.size inb_S1x1x128_S1x1x128_0_0_0,
    k0_pay1 (k0_pay246 (gv c i arg1 harg1 arg2 harg2 arg3 harg3 arg4 harg4 arg5 harg5 arg6 harg6 arg7 harg7 arg8 harg8 arg9 harg9 arg10 harg10 arg11 harg11 arg12 harg12 arg13 harg13 x1 x2)) (kernelRun.sl.r_18 c i arg1 harg1 arg2 harg2 arg3 harg3 arg4 harg4 arg5 harg5 arg6 harg6 arg7 harg7 arg8 harg8 arg9 harg9 arg10 harg10 arg11 harg11 arg12 harg12 arg13 harg13 x1 x2) (kernelRun.sl.r_19 c i arg1 harg1 arg2 harg2 arg3 harg3 arg4 harg4 arg5 harg5 arg6 harg6 arg7 harg7 arg8 harg8 arg9 harg9 arg10 harg10 arg11 harg11 arg12 harg12 arg13 harg13 x0 x1 x2) (iota .tc S1x128 32 [1] iota_S1x128_d1_w32) k0_pay249 k0_pay250⟩]) rfl ?_
  exact congrArg₂ (fun n z => ([⟨Rect.unit (s := S1x1x128) ![0, 0, 0] S1x1x128.size inb_S1x1x128_S1x1x128_0_0_0,
    k0_pay1 (k0_pay246 (gv c i arg1 harg1 arg2 harg2 arg3 harg3 arg4 harg4 arg5 harg5 arg6 harg6 arg7 harg7 arg8 harg8 arg9 harg9 arg10 harg10 arg11 harg11 arg12 harg12 arg13 harg13 x1 x2)) n z (iota .tc S1x128 32 [1] iota_S1x128_d1_w32) k0_pay249 k0_pay250⟩] : List (View.Piece (Elt F) S1x1x128 .f32))) (r18_eq c i arg1 harg1 arg2 harg2 arg3 harg3 arg4 harg4 arg5 harg5 arg6 harg6 arg7 harg7 arg8 harg8 arg9 harg9 arg10 harg10 arg11 harg11 arg12 harg12 arg13 harg13 x1 x2) (r19_eq c i arg1 harg1 arg2 harg2 arg3 harg3 arg4 harg4 arg5 harg5 arg6 harg6 arg7 harg7 arg8 harg8 arg9 harg9 arg10 harg10 arg11 harg11 arg12 harg12 arg13 harg13 x0 x1 x2)

end

end Cert.GramIdeal.Gen

end
-- ==== Proof.GramIdealSums.lean ====
/- The body's closing arithmetic, element by element, on the extended reals. -/
module

public import proofs.«01_k».proof.Proof.GramIdealAfter

@[expose] public section

set_option maxRecDepth 16384

noncomputable section

namespace Cert.GramIdeal.Gen

open Idealize.ShloMosaic Idealize.ShloMosaic.TcCoe Idealize.SL.Sem

theorem dotD_apply (db : Vec Ideal S1x256x6144 .fp8e5m2) (dw : Vec Ideal S1x1024x6144 .fp8e5m2) (p : Fin 256) (j : Fin 1024) :
    (k0_pay224 db dw (ix2 p j) : EReal) = ∑ c : Fin 6144, (db (ix3 0 p c) : EReal) * dw (ix3 0 j c) := by
  pointwise [k0_pay224]

theorem dotX_apply (v3 : Vec Ideal S1x1x1024 .f32) (xb : Vec Ideal S1x256x1536 .fp8e4m3) (xw : Vec Ideal S1x1024x1536 .fp8e4m3) (s : Vec Ideal S1x256x1 .f32) (p : Fin 256) (j : Fin 1024) :
    (k0_pay225 v3 xb xw s (ix2 p j) : EReal) = (∑ c : Fin 1536, (xb (ix3 0 p c) : EReal) * xw (ix3 0 j c)) * ((s (ix3 0 p 0) : EReal) * v3 (ix3 0 0 j)) := by
  pointwise [k0_pay225, k0_pay221]

theorem rows_apply (v6 : FVec Ideal S1x1024 .f32) (v17 v23 : FVec Ideal S256x1024 .f32) (v24 : Vec Ideal S1x256x1 .f32) (p : Fin 256) :
    (k0_pay226 v6 v17 v23 v24 (ix2 p 0) : EReal) = ∑ j : Fin 1024, (v23 (ix2 p j) : EReal) * ((v17 (ix2 p j) : EReal) * ((v24 (ix3 0 p 0) : EReal) * v6 (ix2 0 j))) := by
  pointwise [k0_pay226]

theorem pay222_apply (v : Vec Ideal S1x1x1024 .f32) (j : Fin 1024) : k0_pay222 v (ix2 0 j) = v (ix3 0 0 j) := by
  pointwise [k0_pay222]

theorem row8_apply (v : FVec Ideal S256x1 .f32) (p : Fin 256) : row8 v (ix3 0 0 p) = v (ix2 p 0) := by
  pointwise [row8]

theorem accB_apply (s : FVec Ideal S1x1 .f32) (v : FVec Ideal S256x1 .f32) : (accB s v (ix2 0 0) : EReal) = (s (ix2 0 0) : EReal) + ∑ p : Fin 256, (v (ix2 p 0) : EReal) := by
  pointwise [accB]

theorem pay246_apply (g : Vec Ideal S1x1x6144 .f32) : (k0_pay246 g (ix2 0 0) : EReal) = ∑ l : Fin 6144, (g (ix3 0 0 l) : EReal) * g (ix3 0 0 l) := by
  pointwise [k0_pay246]

theorem nrmB_apply (s g : FVec Ideal S1x1 .f32) : (nrmB s g (ix2 0 0) : EReal) = Ideal.sqrt (max ((s (ix2 0 0) : EReal) + g (ix2 0 0)) 0) := by
  pointwise [nrmB]

theorem coefB_apply (n : FVec Ideal S1x1 .f32) (z : Ideal .f32) : (coefB n z (ix2 0 0) : EReal) = min 1 (Ideal.div z ((n (ix2 0 0) : EReal) + Ideal.ofBits .f32 0x358637BD#32)) := by
  pointwise [coefB]

theorem pay2_apply (v : Vec Ideal S1x1024x128 .f32) (r : Fin 1024) (l : Fin 128) : (k0_pay2 v (ix3 0 r l) : EReal) = v (ix3 0 r l) := by
  pointwise [k0_pay2]

theorem pay3_apply (c : FVec Ideal S1x1 .f32) (v : Vec Ideal S1x1024x128 .f32) (r : Fin 1024) (l : Fin 128) : (k0_pay3 c v (ix3 0 r l) : EReal) = (c (ix2 0 0) : EReal) * v (ix3 0 r l) := by
  pointwise [k0_pay3]

theorem eq0 : ∀ l : Fin 128, IntOp.cmpi .eq (BitVec.ofNat 32 l.val) 0#32 = if l.val = 0 then 1#1 else 0#1 := by decide +kernel
theorem eq1 : ∀ l : Fin 128, IntOp.cmpi .eq (BitVec.ofNat 32 l.val) 1#32 = if l.val = 1 then 1#1 else 0#1 := by decide +kernel

theorem pay1_apply (g n z : FVec Ideal S1x1 .f32) (l : Fin 128) : (k0_pay1 g n z (iota .tc S1x128 32 [1] iota_S1x128_d1_w32) k0_pay249 k0_pay250 (ix3 0 0 l) : EReal)
    = if l.val = 0 then (n (ix2 0 0) : EReal) else if l.val = 1 then g (ix2 0 0) else z (ix2 0 0) := by
  pointwise [k0_pay1, k0_pay249, k0_pay250]
  rw [eq0, eq1]
  by_cases h0 : l.val = 0
  · rw [if_pos h0, if_pos h0]; rfl
  · rw [if_neg h0, if_neg h0]
    by_cases h1 : l.val = 1
    · rw [if_pos h1, if_pos h1]; rfl
    · rw [if_neg h1, if_neg h1]; rfl

/-- A row's squared sum; the sums over the rows; the norm; the coefficient. -/
def SQ (X : Vec Ideal S1x1024x1536 .bf16) (D : Vec Ideal S1x1024x6144 .bf16) (r : Fin 1024) : EReal :=
  ∑ j : Fin 1024, ((∑ c : Fin 1536, qX X r c * qX X j c) * (sX X r * sX X j)) * ((∑ c : Fin 6144, qD D r c * qD D j c) * (sD D r * sD D j))
def GV (D : Vec Ideal S1x1024x6144 .bf16) (l : Fin 6144) : EReal := ∑ r : Fin 1024, qD D r l * sD D r
def NRM (X : Vec Ideal S1x1024x1536 .bf16) (D : Vec Ideal S1x1024x6144 .bf16) : EReal :=
  Ideal.sqrt (max ((∑ r, SQ X D r) + ∑ l, GV D l * GV D l) 0)
def COEF (z n : EReal) : EReal := min 1 (Ideal.div z (n + Ideal.ofBits .f32 0x358637BD#32))

variable (c : Dev nD) (i : grid0.Coords) (arg1 : Memref sig .tc .smem S1 .f32) (harg1 : arg1.IsWhole)
  (arg2 : Memref sig .tc .vmem S1x1024x1536 .bf16) (harg2 : arg2.IsWhole)
  (arg3 : Memref sig .tc .vmem S1x1024x6144 .bf16) (harg3 : arg3.IsWhole)
  (arg4 : Memref sig .tc .vmem S1x1024x1536 .fp8e4m3) (harg4 : arg4.IsWhole)
  (arg5 : Memref sig .tc .vmem S1x1024x6144 .fp8e5m2) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x128 .bf16) (harg9 : arg9.IsWhole)
  (arg10 : Memref sig .tc .vmem S1x1024x128 .bf16) (harg10 : arg10.IsWhole)
  (arg11 : Memref sig .tc .vmem S1x1x6144 .f32) (harg11 : arg11.IsWhole)
  (arg12 : Memref sig .tc .vmem S1x1x128 .f32) (harg12 : arg12.IsWhole)
  (arg13 : Memref sig .tc .vmem S2x1024x128 .f32) (harg13 : arg13.IsWhole)
  (X : Vec Ideal S1x1024x1536 .bf16) (D : Vec Ideal S1x1024x6144 .bf16) (x0 : Vec Ideal S1 .f32)

theorem rd4b (b : Fin 4) (p : Fin 256) (q : Fin 1536) : (View.readAt (Elt Ideal) arg4.view (Rect.unit (s := S1x1024x1536) (o256 b) S1x256x1536.size (oX_inb b)).toLoadRect (harg4.unread (V4 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 p q) : EReal) = qX X ⟨256 * b.val + p.val, by omega⟩ q := by
  refine (harg4.readAt_unread _ _ _).trans ((V4_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine congrArg₂ (qX X) ?_ ?_
  · exact Fin.ext (by show 256 * b.val + 1 * p.val = 256 * b.val + p.val; omega)
  · exact Fin.ext (by show 0 + 1 * q.val = q.val; omega)

theorem rd5b (b : Fin 4) (p : Fin 256) (q : Fin 6144) : (View.readAt (Elt Ideal) arg5.view (Rect.unit (s := S1x1024x6144) (o256 b) S1x256x6144.size (oD_inb b)).toLoadRect (harg5.unread (V5 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 p q) : EReal) = qD D ⟨256 * b.val + p.val, by omega⟩ q := by
  refine (harg5.readAt_unread _ _ _).trans ((V5_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine congrArg₂ (qD D) ?_ ?_
  · exact Fin.ext (by show 256 * b.val + 1 * p.val = 256 * b.val + p.val; omega)
  · exact Fin.ext (by show 0 + 1 * q.val = q.val; omega)

theorem rd13s (b : Fin 4) (p : Fin 256) : (View.readAt (Elt Ideal) arg13.view (Rect.unit (s := S2x1024x128) (o256 b) S1x256x1.size (oS_inb b)).toLoadRect (harg13.unread (V13 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 p 0) : EReal) = sX X ⟨256 * b.val + p.val, by omega⟩ := by
  refine (harg13.readAt_unread _ _ _).trans ((V13_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine (if_pos (by show 0 + 1 * 0 = 0; rfl)).trans ?_
  refine congrArg (sX X) ?_
  · exact Fin.ext (by show 256 * b.val + 1 * p.val = 256 * b.val + p.val; omega)

theorem rd13t (b : Fin 4) (p : Fin 256) : (View.readAt (Elt Ideal) arg13.view (Rect.unit (s := S2x1024x128) (oT b) S1x256x1.size (oT_inb b)).toLoadRect (harg13.unread (V13 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 p 0) : EReal) = sD D ⟨256 * b.val + p.val, by omega⟩ := by
  refine (harg13.readAt_unread _ _ _).trans ((V13_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine (if_neg (by show ¬ 1 + 1 * 0 = 0; omega)).trans ?_
  refine congrArg (sD D) ?_
  · exact Fin.ext (by show 256 * b.val + 1 * p.val = 256 * b.val + p.val; omega)

theorem rd4w (j : Fin 1024) (q : Fin 1536) : (View.readAt (Elt Ideal) arg4.view (Rect.unit (s := S1x1024x1536) ![0, 0, 0] S1x1024x1536.size inb_S1x1024x1536_S1x1024x1536_0_0_0).toLoadRect (harg4.unread (V4 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 j q) : EReal) = qX X j q := by
  refine (harg4.readAt_unread _ _ _).trans ((V4_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine congrArg₂ (qX X) ?_ ?_
  · exact Fin.ext (by show 0 + 1 * j.val = j.val; omega)
  · exact Fin.ext (by show 0 + 1 * q.val = q.val; omega)

theorem rd5w (j : Fin 1024) (q : Fin 6144) : (View.readAt (Elt Ideal) arg5.view (Rect.unit (s := S1x1024x6144) ![0, 0, 0] S1x1024x6144.size inb_S1x1024x6144_S1x1024x6144_0_0_0).toLoadRect (harg5.unread (V5 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 j q) : EReal) = qD D j q := by
  refine (harg5.readAt_unread _ _ _).trans ((V5_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine congrArg₂ (qD D) ?_ ?_
  · exact Fin.ext (by show 0 + 1 * j.val = j.val; omega)
  · exact Fin.ext (by show 0 + 1 * q.val = q.val; omega)

theorem rd6w (j : Fin 1024) : (View.readAt (Elt Ideal) arg6.view (Rect.unit (s := S1x1x1024) ![0, 0, 0] S1x1x1024.size inb_S1x1x1024_S1x1x1024_0_0_0).toLoadRect (harg6.unread (V6 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 0 j) : EReal) = sX X j := by
  refine (harg6.readAt_unread _ _ _).trans ((V6_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine congrArg (sX X) ?_
  · exact Fin.ext (by show 0 + 1 * j.val = j.val; omega)

theorem rd7w (j : Fin 1024) : (View.readAt (Elt Ideal) arg7.view (Rect.unit (s := S1x1x1024) ![0, 0, 0] S1x1x1024.size inb_S1x1x1024_S1x1x1024_0_0_0).toLoadRect (harg7.unread (V7 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 0 j) : EReal) = sD D j := by
  refine (harg7.readAt_unread _ _ _).trans ((V7_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine congrArg (sD D) ?_
  · exact Fin.ext (by show 0 + 1 * j.val = j.val; omega)

theorem rd13x (r : Fin 1024) (l : Fin 128) : (View.readAt (Elt Ideal) arg13.view (Rect.unit (s := S2x1024x128) ![0, 0, 0] S1x1024x128.size inb_S2x1024x128_S1x1024x128_0_0_0).toLoadRect (harg13.unread (V13 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 r l) : EReal) = sX X r := by
  refine (harg13.readAt_unread _ _ _).trans ((V13_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine (if_pos (by show 0 + 1 * 0 = 0; rfl)).trans ?_
  refine congrArg (sX X) ?_
  · exact Fin.ext (by show 0 + 1 * r.val = r.val; omega)

theorem rd13d (r : Fin 1024) (l : Fin 128) : (View.readAt (Elt Ideal) arg13.view (Rect.unit (s := S2x1024x128) ![1, 0, 0] S1x1024x128.size inb_S2x1024x128_S1x1024x128_1_0_0).toLoadRect (harg13.unread (V13 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D))) (ix3 0 r l) : EReal) = sD D r := by
  refine (harg13.readAt_unread _ _ _).trans ((V13_apply Variants.none c none i arg1 harg1 arg2 harg2 arg3 harg3 arg4 harg4 arg5 harg5 arg6 harg6 arg7 harg7 arg8 harg8 arg9 harg9 arg10 harg10 arg11 harg11 arg12 harg12 arg13 harg13 X D _).trans ?_)
  refine (if_neg (by show ¬ 1 + 1 * 0 = 0; omega)).trans ?_
  refine congrArg (sD D) ?_
  · exact Fin.ext (by show 0 + 1 * r.val = r.val; omega)

theorem bsq_apply (b : Fin 4) (p : Fin 256) : (bsq (F := Ideal) c i arg1 harg1 arg2 harg2 arg3 harg3 arg4 harg4 arg5 harg5 arg6 harg6 arg7 harg7 arg8 harg8 arg9 harg9 arg10 harg10 arg11 harg11 arg12 harg12 arg13 harg13 X D b (ix2 p 0) : EReal) = SQ X D ⟨256 * b.val + p.val, by omega⟩ := by
  unfold bsq sqB SQ
  rw [rows_apply]
  refine Finset.sum_congr rfl fun j _ => ?_
  rw [dotX_apply, dotD_apply, pay222_apply, rd13s, rd13t, rd6w, rd7w]
  refine congrArg₂ (fun a b : EReal => a * (sX X _ * sX X j) * (b * (sD D _ * sD D j))) (Finset.sum_congr rfl fun q _ => ?_) (Finset.sum_congr rfl fun q _ => ?_)
  · exact congrArg₂ (fun a b : EReal => a * b) (rd4b c i arg1 harg1 arg2 harg2 arg3 harg3 arg4 harg4 arg5 harg5 arg6 harg6 arg7 harg7 arg8 harg8 arg9 harg9 arg10 harg10 arg11 harg11 arg12 harg12 arg13 harg13 X D b p q) (rd4w c i arg1 harg1 arg2 harg2 arg3 harg3 arg4 harg4 arg5 harg5 arg6 harg6 arg7 harg7 arg8 harg8 arg9 harg9 arg10 harg10 arg11 harg11 arg12 harg12 arg13 harg13 X D j q)
  · exact congrArg₂ (fun a b : EReal => a * b) (rd5b c i arg1 harg1 arg2 harg2 arg3 harg3 arg4 harg4 arg5 harg5 arg6 harg6 arg7 harg7 arg8 harg8 arg9 harg9 arg10 harg10 arg11 harg11 arg12 harg12 arg13 harg13 X D b p q) (rd5w c i arg1 harg1 arg2 harg2 arg3 harg3 arg4 harg4 arg5 harg5 arg6 harg6 arg7 harg7 arg8 harg8 arg9 harg9 arg10 harg10 arg11 harg11 arg12 harg12 arg13 harg13 X D j q)

theorem zero_read (f : BufTy.Contents (Elt Ideal) arg11.view.ty) (y : S1x1x6144.Idx) :
    (arg11.view.read (Elt Ideal) (View.write (Elt Ideal) (arg11.view.slice (Rect.unit (s := S1x1x6144) ![0, 0, 0] S1x1x6144.size inb_S1x1x6144_S1x1x6144_0_0_0)) f (k0_pay218 (F := Ideal)) Finset.univ) y : EReal) = 0 := by
  have hm : ∃ p ∈ [(⟨Rect.unit (s := S1x1x6144) ![0, 0, 0] S1x1x6144.size inb_S1x1x6144_S1x1x6144_0_0_0, k0_pay218 (F := Ideal)⟩ : View.Piece (Elt Ideal) S1x1x6144 .f32)], y ∈ p.1.set := by
    refine ⟨_, List.mem_singleton.mpr rfl, ?_⟩
    rw [Rect.mem_set_unit]
    intro a
    match a with
    | 0 => exact ⟨Nat.zero_le _, by show (y 0).val < 0 + 1; have : (y 0).val < 1 := (y 0).isLt; omega⟩
    | 1 => exact ⟨Nat.zero_le _, by show (y 1).val < 0 + 1; have : (y 1).val < 1 := (y 1).isLt; omega⟩
    | 2 => exact ⟨Nat.zero_le _, by show (y 2).val < 0 + 6144; have : (y 2).val < 6144 := (y 2).isLt; omega⟩
  refine (View.read_writes_apply_eq_canon arg11.view f y _ hm).trans (View.canon_apply_of_pieces (fun _ => (0 : EReal)) _ (fun p hp x => ?_) y hm)
  obtain rfl := List.mem_singleton.mp hp
  exact Ideal.ofBits_zero_f32 ▸ rfl

theorem gv_apply (l : Fin 6144) : (gv (F := Ideal) c i arg1 harg1 arg2 harg2 arg3 harg3 arg4 harg4 arg5 harg5 arg6 harg6 arg7 harg7 arg8 harg8 arg9 harg9 arg10 harg10 arg11 harg11 arg12 harg12 arg13 harg13 X D (ix3 0 0 l) : EReal) = GV D l := by
  obtain ⟨f, h⟩ := gv_eq (F := Ideal) c i arg1 harg1 arg2 harg2 arg3 harg3 arg4 harg4 arg5 harg5 arg6 harg6 arg7 harg7 arg8 harg8 arg9 harg9 arg10 harg10 arg11 harg11 arg12 harg12 arg13 harg13 X D
  rw [h]
  refine (sums_last Variants.none c none i arg1 harg1 arg2 harg2 arg3 harg3 arg4 harg4 arg5 harg5 arg6 harg6 arg7 harg7 arg8 harg8 arg9 harg9 arg10 harg10 arg11 harg11 arg12 harg12 arg13 harg13 X D _ _).trans ?_
  have hz : (arg11.view.read (Elt Ideal) (View.write (Elt Ideal) (arg11.view.slice (Rect.unit (s := S1x1x6144) ![0, 0, 0] S1x1x6144.size inb_S1x1x6144_S1x1x6144_0_0_0)) f (k0_pay218 (F := Ideal)) Finset.univ)
      ((Rect.unit (s := S1x1x6144) ![0, 0, 0] S1x1x6144.size inb_S1x1x6144_S1x1x6144_0_0_0).toLoadRect.idx (ix3 0 0 l)) : EReal) = 0 := by
    exact zero_read arg11 f _
  rw [hz, zero_add]
  unfold GV
  refine Finset.sum_congr rfl fun r _ => ?_
  refine congrArg (fun t => qD D r t * sD D r) (Fin.ext ?_)
  show 0 + 1 * l.val = l.val
  omega

theorem C11_apply (y : S1x1x6144.Idx) : (arg11.view.read (Elt Ideal) (kernelRun (F := Ideal) c i arg1 harg1 arg2 harg2 arg3 harg3 arg4 harg4 arg5 harg5 arg6 harg6 arg7 harg7 arg8 harg8 arg9 harg9 arg10 harg10 arg11 harg11 arg12 harg12 arg13 harg13 x0 X D).2.2.2.1 y : EReal) = GV D (y 2) := by
  obtain ⟨f, h⟩ := C11_eq (F := Ideal) c i arg1 harg1 arg2 harg2 arg3 harg3 arg4 harg4 arg5 harg5 arg6 harg6 arg7 harg7 arg8 harg8 arg9 harg9 arg10 harg10 arg11 harg11 arg12 harg12 arg13 harg13 x0 X D
  rw [h]
  refine (sums_last Variants.none c none i arg1 harg1 arg2 harg2 arg3 harg3 arg4 harg4 arg5 harg5 arg6 harg6 arg7 harg7 arg8 harg8 arg9 harg9 arg10 harg10 arg11 harg11 arg12 harg12 arg13 harg13 X D _ _).trans ?_
  have hz : (arg11.view.read (Elt Ideal) (View.write (Elt Ideal) (arg11.view.slice (Rect.unit (s := S1x1x6144) ![0, 0, 0] S1x1x6144.size inb_S1x1x6144_S1x1x6144_0_0_0)) f (k0_pay218 (F := Ideal)) Finset.univ) y : EReal) = 0 := by
    exact zero_read arg11 f _
  rw [hz, zero_add]
  rfl

theorem sum4 (f : Fin 1024 → EReal) : (((0 + ∑ p : Fin 256, f ⟨256 * (0 : Fin 4).val + p.val, by omega⟩) + ∑ p : Fin 256, f ⟨256 * (1 : Fin 4).val + p.val, by omega⟩) + ∑ p : Fin 256, f ⟨256 * (2 : Fin 4).val + p.val, by omega⟩) + ∑ p : Fin 256, f ⟨256 * (3 : Fin 4).val + p.val, by omega⟩ = ∑ r, f r := by
  have h : ∑ b : Fin 4, ∑ p : Fin 256, f ⟨256 * b.val + p.val, by omega⟩ = ∑ r, f r := Fin.sum_mul_add_congr (S := 4) (n := 256) (f := f) (F := fun b p => f ⟨256 * b.val + p.val, by omega⟩) (fun b p hl => congrArg f (Fin.ext (by show 256 * b.val + p.val = b.val * 256 + p.val; omega)))
  rw [← h, Fin.sum_univ_four, zero_add]

theorem pay223_apply : (k0_pay223 (F := Ideal) (ix2 0 0) : EReal) = 0 := by
  pointwise [k0_pay223]

theorem nrm_apply : (nrm (F := Ideal) c i arg1 harg1 arg2 harg2 arg3 harg3 arg4 harg4 arg5 harg5 arg6 harg6 arg7 harg7 arg8 harg8 arg9 harg9 arg10 harg10 arg11 harg11 arg12 harg12 arg13 harg13 X D (ix2 0 0) : EReal) = NRM X D := by
  unfold nrm NRM
  rw [nrmB_apply, accB_apply, accB_apply, accB_apply, accB_apply, pay223_apply, pay246_apply]
  simp only [bsq_apply, gv_apply]
  rw [sum4 (SQ X D)]

theorem coef_apply : (coef (F := Ideal) c i arg1 harg1 arg2 harg2 arg3 harg3 arg4 harg4 arg5 harg5 arg6 harg6 arg7 harg7 arg8 harg8 arg9 harg9 arg10 harg10 arg11 harg11 arg12 harg12 arg13 harg13 x0 X D (ix2 0 0) : EReal) = COEF (x0 (ix1 0)) (NRM X D) := by
  unfold coef COEF
  rw [coefB_apply, nrm_apply]
  refine congrArg (fun z : EReal => min 1 (Ideal.div z (NRM X D + Ideal.ofBits .f32 0x358637BD#32))) ((harg1.readAt_unread _ _ _).trans (congrArg x0 (funext fun a => Fin.ext ?_)))
  match a with
  | 0 => rfl

def g8 (X : Vec Ideal S1x1024x1536 .bf16) (D : Vec Ideal S1x1024x6144 .bf16) : Vec Ideal S1x1x1024 .f32 := fun y => SQ X D (y 2)
def g9 (X : Vec Ideal S1x1024x1536 .bf16) : Vec Ideal S1x1024x128 .bf16 := fun y => sX X (y 1)
def g10 (X : Vec Ideal S1x1024x1536 .bf16) (D : Vec Ideal S1x1024x6144 .bf16) (z : EReal) : Vec Ideal S1x1024x128 .bf16 := fun y => COEF z (NRM X D) * sD D (y 1)
def g12 (X : Vec Ideal S1x1024x1536 .bf16) (D : Vec Ideal S1x1024x6144 .bf16) (z : EReal) : Vec Ideal S1x1x128 .f32 := fun y =>
  if (y 2).val = 0 then NRM X D else if (y 2).val = 1 then ∑ l, GV D l * GV D l else COEF z (NRM X D)

theorem canon8 (y : S1x1x1024.Idx) : (View.canon (kernelRun (F := Ideal) c i arg1 harg1 arg2 harg2 arg3 harg3 arg4 harg4 arg5 harg5 arg6 harg6 arg7 harg7 arg8 harg8 arg9 harg9 arg10 harg10 arg11 harg11 arg12 harg12 arg13 harg13 x0 X D).1 y : EReal) = (g8 X D) y := by
  rw [L8_eq]
  refine View.canon_apply_of_pieces (g8 X D) _ (fun p hp x => ?_) y ?_
  · obtain ⟨b, -, rfl⟩ := List.mem_map.mp hp
    obtain ⟨p, rfl⟩ : ∃ p : Fin 256, x = ix3 0 0 p := ⟨x 2, by funext t; match t with | 0 => exact Fin.ext (by have : (x 0).val < 1 := (x 0).isLt; show (x 0).val = 0; omega) | 1 => exact Fin.ext (by have : (x 1).val < 1 := (x 1).isLt; show (x 1).val = 0; omega) | 2 => rfl⟩
    refine (row8_apply _ p).trans ((bsq_apply c i arg1 harg1 arg2 harg2 arg3 harg3 arg4 harg4 arg5 harg5 arg6 harg6 arg7 harg7 arg8 harg8 arg9 harg9 arg10 harg10 arg11 harg11 arg12 harg12 arg13 harg13 X D b p).trans (congrArg (SQ X D) (Fin.ext ?_)))
    show 256 * b.val + p.val = 256 * b.val + 1 * p.val
    omega
  · have h2 : (y 2).val < 1024 := (y 2).isLt
    refine ⟨_, List.mem_map_of_mem (a := (⟨(y 2).val / 256, by omega⟩ : Fin 4)) (by simp), ?_⟩
    rw [Rect.mem_set_unit]
    intro a
    match a with
    | 0 => exact ⟨Nat.zero_le _, by show (y 0).val < 0 + 1; have : (y 0).val < 1 := (y 0).isLt; omega⟩
    | 1 => exact ⟨Nat.zero_le _, by show (y 1).val < 0 + 1; have : (y 1).val < 1 := (y 1).isLt; omega⟩
    | 2 => show 256 * ((y 2).val / 256) ≤ (y 2).val ∧ (y 2).val < 256 * ((y 2).val / 256) + 256; omega

theorem canon9 (y : S1x1024x128.Idx) : (View.canon (kernelRun (F := Ideal) c i arg1 harg1 arg2 harg2 arg3 harg3 arg4 harg4 arg5 harg5 arg6 harg6 arg7 harg7 arg8 harg8 arg9 harg9 arg10 harg10 arg11 harg11 arg12 harg12 arg13 harg13 x0 X D).2.1 y : EReal) = (g9 X) y := by
  rw [L9_eq]
  refine View.canon_apply_of_pieces (g9 X) _ (fun p hp x => ?_) y ?_
  · obtain rfl := List.mem_singleton.mp hp
    obtain ⟨r, l, rfl⟩ : ∃ (r : Fin 1024) (l : Fin 128), x = ix3 0 r l := ⟨x 1, x 2, by funext t; match t with | 0 => exact Fin.ext (by have : (x 0).val < 1 := (x 0).isLt; show (x 0).val = 0; omega) | 1 => rfl | 2 => rfl⟩
    have e := (pay2_apply (View.readAt (Elt Ideal) arg13.view (Rect.unit (s := S2x1024x128) ![0, 0, 0] S1x1024x128.size inb_S2x1024x128_S1x1024x128_0_0_0).toLoadRect (harg13.unread (V13 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread X) (harg3.unread D)))) r l).trans (rd13x c i arg1 harg1 arg2 harg2 arg3 harg3 arg4 harg4 arg5 harg5 arg6 harg6 arg7 harg7 arg8 harg8 arg9 harg9 arg10 harg10 arg11 harg11 arg12 harg12 arg13 harg13 X D r l)
    refine Eq.trans e ?_
    refine congrArg (sX X) (Fin.ext ?_)
    show r.val = 0 + 1 * r.val
    omega
  · refine ⟨_, List.mem_singleton.mpr rfl, ?_⟩
    rw [Rect.mem_set_unit]
    intro a
    have := (y a).isLt
    match a with
    | 0 => exact ⟨Nat.zero_le _, by show (y 0).val < 0 + 1; have : (y 0).val < 1 := (y 0).isLt; omega⟩
    | 1 => exact ⟨Nat.zero_le _, by show (y 1).val < 0 + 1024; have : (y 1).val < 1024 := (y 1).isLt; omega⟩
    | 2 => exact ⟨Nat.zero_le _, by show (y 2).val < 0 + 128; have : (y 2).val < 128 := (y 2).isLt; omega⟩

theorem canon10 (y : S1x1024x128.Idx) : (View.canon (kernelRun (F := Ideal) c i arg1 harg1 arg2 harg2 arg3 harg3 arg4 harg4 arg5 harg5 arg6 harg6 arg7 harg7 arg8 harg8 arg9 harg9 arg10 harg10 arg11 harg11 arg12 harg12 arg13 harg13 x0 X D).2.2.1 y : EReal) = (g10 X D (x0 (ix1 0))) y := by
  rw [L10_eq]
  refine View.canon_apply_of_pieces (g10 X D (x0 (ix1 0))) _ (fun p hp x => ?_) y ?_
  · obtain rfl := List.mem_singleton.mp hp
    obtain ⟨r, l, rfl⟩ : ∃ (r : Fin 1024) (l : Fin 128), x = ix3 0 r l := ⟨x 1, x 2, by funext t; match t with | 0 => exact Fin.ext (by have : (x 0).val < 1 := (x 0).isLt; show (x 0).val = 0; omega) | 1 => rfl | 2 => rfl⟩
    refine (pay3_apply _ _ r l).trans ?_
    rw [rd13d, coef_apply]
    refine congrArg (fun t => COEF (x0 (ix1 0)) (NRM X D) * sD D t) (Fin.ext ?_)
    show r.val = 0 + 1 * r.val
    omega
  · refine ⟨_, List.mem_singleton.mpr rfl, ?_⟩
    rw [Rect.mem_set_unit]
    intro a
    have := (y a).isLt
    match a with
    | 0 => exact ⟨Nat.zero_le _, by show (y 0).val < 0 + 1; have : (y 0).val < 1 := (y 0).isLt; omega⟩
    | 1 => exact ⟨Nat.zero_le _, by show (y 1).val < 0 + 1024; have : (y 1).val < 1024 := (y 1).isLt; omega⟩
    | 2 => exact ⟨Nat.zero_le _, by show (y 2).val < 0 + 128; have : (y 2).val < 128 := (y 2).isLt; omega⟩

theorem canon12 (y : S1x1x128.Idx) : (View.canon (kernelRun (F := Ideal) c i arg1 harg1 arg2 harg2 arg3 harg3 arg4 harg4 arg5 harg5 arg6 harg6 arg7 harg7 arg8 harg8 arg9 harg9 arg10 harg10 arg11 harg11 arg12 harg12 arg13 harg13 x0 X D).2.2.2.2.1 y : EReal) = (g12 X D (x0 (ix1 0))) y := by
  rw [L12_eq]
  refine View.canon_apply_of_pieces (g12 X D (x0 (ix1 0))) _ (fun p hp x => ?_) y ?_
  · obtain rfl := List.mem_singleton.mp hp
    obtain ⟨l, rfl⟩ : ∃ l : Fin 128, x = ix3 0 0 l := ⟨x 2, by funext t; match t with | 0 => exact Fin.ext (by have : (x 0).val < 1 := (x 0).isLt; show (x 0).val = 0; omega) | 1 => exact Fin.ext (by have : (x 1).val < 1 := (x 1).isLt; show (x 1).val = 0; omega) | 2 => rfl⟩
    refine (pay1_apply _ _ _ l).trans ?_
    rw [nrm_apply, coef_apply, pay246_apply]
    simp only [gv_apply]
    have e : ∀ n, ((Rect.unit (s := S1x1x128) ![0, 0, 0] S1x1x128.size inb_S1x1x128_S1x1x128_0_0_0).emb (ix3 0 0 l) 2).val = n ↔ l.val = n := fun n => by
      show 0 + 1 * l.val = n ↔ l.val = n
      rw [zero_add, one_mul]
    unfold g12
    simp only [e]
  · refine ⟨_, List.mem_singleton.mpr rfl, ?_⟩
    rw [Rect.mem_set_unit]
    intro a
    have := (y a).isLt
    match a with
    | 0 => exact ⟨Nat.zero_le _, by show (y 0).val < 0 + 1; have : (y 0).val < 1 := (y 0).isLt; omega⟩
    | 1 => exact ⟨Nat.zero_le _, by show (y 1).val < 0 + 1; have : (y 1).val < 1 := (y 1).isLt; omega⟩
    | 2 => exact ⟨Nat.zero_le _, by show (y 2).val < 0 + 128; have : (y 2).val < 128 := (y 2).isLt; omega⟩

end Cert.GramIdeal.Gen

end
-- ==== Proof.GramRefVals.lean ====
/- The reference's values, element by element, on the extended reals. -/
module

public import proofs.«01_k».proof.Proof.GramRefPost
public import proofs.«01_k».proof.Proof.GramIdealSums

@[expose] public section

set_option maxRecDepth 16384

noncomputable section

namespace Cert.GramRefIdeal.Gen

open Idealize.ShloMosaic Idealize.ShloMosaic.TcCoe Idealize.ShloMosaic.StableHlo Idealize.SL.Sem
open Cert.Scale
open Cert.GramIdeal.Gen (amax)

theorem lit0_eq (k : Fin 254) : lit0 k = BitVec.ofNat 32 (k.val + 1) <<< 23#32 :=
  (by decide +kernel : ∀ k : Fin 254, lit0 k = BitVec.ofNat 32 (k.val + 1) <<< 23#32) k
theorem lit1_eq (k : Fin 254) : lit1 k = BitVec.ofNat 32 (k.val + 1) <<< 23#32 :=
  (by decide +kernel : ∀ k : Fin 254, lit1 k = BitVec.ofNat 32 (k.val + 1) <<< 23#32) k

theorem row254 (k : Fin 254) : S254.rowMajor (ix1 k) = k := by
  apply Fin.ext
  revert k
  decide +kernel

theorem tab0_apply (k : Fin 254) : tab0 (ix1 k) = P (k.val + 1) := by
  show Ideal.ofBits .f32 (lit0 (S254.rowMajor (ix1 k))) = _
  rw [row254, lit0_eq]; rfl
theorem tab1_apply (k : Fin 254) : tab1 (ix1 k) = P (k.val + 1) := by
  show Ideal.ofBits .f32 (lit1 (S254.rowMajor (ix1 k))) = _
  rw [row254, lit1_eq]; rfl

/-! The constants. -/

theorem bits_inf : (Ideal.ofBits .f32 0x7F800000#32 : EReal) = ⊤ := by
  rw [← P_top]; exact congrArg (Ideal.ofBits .f32) (by decide : (0x7F800000#32 : BitVec 32) = BitVec.ofNat 32 255 <<< 23#32)
theorem bits_ninf : (Ideal.ofBits .f32 0xFF800000#32 : EReal) = ⊥ := by
  show (Ideal.ieee 8 23 (0xFF800000#32 : BitVec 32) : EReal) = ⊥
  unfold Ideal.ieee
  rw [show ((0xFF800000#32).extractLsb' (8 + 23) 1 == 1#1) = true by decide, show ((0xFF800000#32).extractLsb' 23 8).toNat = 255 by decide,
    show ((0xFF800000#32).extractLsb' 0 23).toNat = 0 by decide]
  norm_num
theorem bits_max : (Ideal.ofBits .f32 0x7E800000#32 : EReal) = P 253 :=
  congrArg (Ideal.ofBits .f32) (by decide : (0x7E800000#32 : BitVec 32) = BitVec.ofNat 32 253 <<< 23#32)

/-- A positive normal number's bits denote a positive real. -/
theorem bits_pos (b : BitVec 32) (h1 : (b.extractLsb' (8 + 23) 1 == 1#1) = false) (h2 : (b.extractLsb' 23 8).toNat ≠ 255) (h3 : (b.extractLsb' 23 8).toNat ≠ 0) :
    ∃ r : ℝ, 0 < r ∧ (Ideal.ofBits .f32 b : EReal) = (r : EReal) := by
  show ∃ r : ℝ, 0 < r ∧ Ideal.ieee 8 23 b = _
  unfold Ideal.ieee
  rw [h1]
  refine ⟨_, ?_, (if_neg h2).trans (if_neg h3)⟩
  simp only [Bool.false_eq_true, if_false, one_mul]
  positivity

/-- A bf16 constant is the f32 constant whose leading bits it has. -/
theorem bits_bf16 (a : BitVec 16) (b : BitVec 32) (h1 : (a.extractLsb' (8 + 7) 1 == 1#1) = (b.extractLsb' (8 + 23) 1 == 1#1)) (h2 : (a.extractLsb' 7 8).toNat = (b.extractLsb' 23 8).toNat)
    (h3 : (b.extractLsb' 0 23).toNat = 2 ^ 16 * (a.extractLsb' 0 7).toNat) (h4 : (b.extractLsb' 23 8).toNat ≠ 255) (h5 : (b.extractLsb' 23 8).toNat ≠ 0) :
    (Ideal.ofBits .bf16 a : EReal) = Ideal.ofBits .f32 b := by
  show Ideal.ieee 8 7 a = Ideal.ieee 8 23 b
  unfold Ideal.ieee
  rw [h1, h2, h3]
  refine ((if_neg h4).trans (if_neg h5)).trans (Eq.trans ?_ ((if_neg h4).trans (if_neg h5)).symm)
  congr 1
  rw [show (((b.extractLsb' 23 8).toNat : ℤ) - (2 ^ (8 - 1) - 1) - ((7 : ℕ) : ℤ)) = 16 + (((b.extractLsb' 23 8).toNat : ℤ) - (2 ^ (8 - 1) - 1) - ((23 : ℕ) : ℤ)) by
    push_cast; ring, zpow_add₀ (by norm_num)]
  generalize (2 : ℝ) ^ (((b.extractLsb' 23 8).toNat : ℤ) - (2 ^ (8 - 1) - 1) - ((23 : ℕ) : ℤ)) = z
  rw [show (2 : ℝ) ^ (16 : ℤ) = 65536 by norm_num]
  push_cast
  ring

/-! The scales and the codes. -/

theorem amax_nonneg {n : ℕ} (f : Fin (n + 1) → EReal) : 0 ≤ amax f := by
  have h := (Cert.GramIdeal.Gen.amax_le f (amax f)).mp le_rfl 0
  refine le_trans ?_ h
  rcases le_total 0 (f 0) with h0 | h0
  · exact le_max_of_le_left h0
  · exact le_max_of_le_right (by have := EReal.neg_le_neg_iff.mpr h0; rwa [neg_zero] at this)

theorem mul_pos_zero {a : EReal} {r : ℝ} (ha : 0 ≤ a) (hr : 0 < r) : 0 ≤ a * (r : EReal) ∧ (a = 0 ↔ a * (r : EReal) = 0) := by
  have hr' : (0 : EReal) < (r : EReal) := EReal.coe_pos.mpr hr
  refine ⟨mul_nonneg ha hr'.le, ⟨fun h => by rw [h, zero_mul], fun h => ?_⟩⟩
  rcases mul_eq_zero.mp h with h | h
  · exact h
  · exact absurd h hr'.ne'

theorem rscale_pos {a y : EReal} : 0 < rscale a y := by
  unfold rscale
  split
  · exact one_pos
  · rw [Finset.lt_fold_min]
    refine ⟨EReal.zero_lt_top, fun k _ => ?_⟩
    split
    · rw [← P_zero]; exact P_lt (by omega) (by omega)
    · exact EReal.zero_lt_top

theorem maxX_apply (A : Vec Ideal S20x1024x1536 .bf16) (j : S20x1024.Idx) : maxX A j = amax fun c => A (ix3 (j 0) (j 1) c) := by
  pointwise [maxX]
  rw [bits_ninf]
  rfl

theorem maxD_apply (A : Vec Ideal S20x1024x6144 .bf16) (j : S20x1024.Idx) : maxD A j = amax fun c => A (ix3 (j 0) (j 1) c) := by
  pointwise [maxD]
  rw [bits_ninf]
  rfl

theorem inv_apply (s : Vec Ideal S20x1024 .f32) (j : S20x1024.Idx) (h : (s j : EReal) ≠ 0) : inv s j = rinv (s j) := by
  pointwise [inv, pick, isBig, recip]
  rw [bits_max]
  unfold rinv Ideal.div
  rw [if_neg h, one_div, one_mul]

theorem scl_apply (T : Vec Ideal S254 .f32) (hT : ∀ k : Fin 254, T (ix1 k) = P (k.val + 1)) (k : BitVec 32) (a : Vec Ideal S20x1024 .f32) (j : S20x1024.Idx) :
    scl T k a j = rscale (a j) (a j * Ideal.ofBits .f32 k) := by
  pointwise [scl, pick, isZero, least, cand, above]
  rw [bits_inf]
  simp only [hT]
  rfl

/-- One batch of `x`, and one of `dy`. -/
def bkX (A : Vec Ideal S20x1024x1536 .bf16) (b : Fin 20) : Vec Ideal Cert.GramIdeal.S1x1024x1536 .bf16 := fun y => A (ix3 b (y 1) (y 2))
def bkD (A : Vec Ideal S20x1024x6144 .bf16) (b : Fin 20) : Vec Ideal Cert.GramIdeal.S1x1024x6144 .bf16 := fun y => A (ix3 b (y 1) (y 2))

theorem sX_eq (A : Vec Ideal S20x1024x1536 .bf16) (b : Fin 20) (r : Fin 1024) : scl tab0 0x3B124925#32 (maxX A) (ix2 b r) = Cert.GramIdeal.Gen.sX (bkX A b) r := by
  obtain ⟨k, hk, e⟩ := bits_pos 0x3B124925#32 (by decide) (by decide) (by decide)
  have h := mul_pos_zero (amax_nonneg fun c : Fin 1536 => (A (ix3 b r c) : EReal)) hk
  rw [scl_apply tab0 tab0_apply, maxX_apply, e]
  unfold Cert.GramIdeal.Gen.sX
  rw [e]
  exact (kscale_eq h.1 h.2).symm

theorem iX_eq (A : Vec Ideal S20x1024x1536 .bf16) (b : Fin 20) (r : Fin 1024) : inv (scl tab0 0x3B124925#32 (maxX A)) (ix2 b r) = Cert.GramIdeal.Gen.iX (bkX A b) r := by
  obtain ⟨k, hk, e⟩ := bits_pos 0x3B124925#32 (by decide) (by decide) (by decide)
  have h := mul_pos_zero (amax_nonneg fun c : Fin 1536 => (A (ix3 b r c) : EReal)) hk
  have hs := scl_apply tab0 tab0_apply 0x3B124925#32 (maxX A) (ix2 b r)
  rw [inv_apply _ _ (by rw [hs]; exact rscale_pos.ne'), hs, maxX_apply, e]
  unfold Cert.GramIdeal.Gen.iX
  rw [e]
  exact (kinv_eq h.1 h.2).symm

theorem sD_eq (A : Vec Ideal S20x1024x6144 .bf16) (b : Fin 20) (r : Fin 1024) : scl tab1 0x37924925#32 (maxD A) (ix2 b r) = Cert.GramIdeal.Gen.sD (bkD A b) r := by
  obtain ⟨k, hk, e⟩ := bits_pos 0x37924925#32 (by decide) (by decide) (by decide)
  have h := mul_pos_zero (amax_nonneg fun c : Fin 6144 => (A (ix3 b r c) : EReal)) hk
  rw [scl_apply tab1 tab1_apply, maxD_apply, e]
  unfold Cert.GramIdeal.Gen.sD
  rw [e]
  exact (kscale_eq h.1 h.2).symm

theorem iD_eq (A : Vec Ideal S20x1024x6144 .bf16) (b : Fin 20) (r : Fin 1024) : inv (scl tab1 0x37924925#32 (maxD A)) (ix2 b r) = Cert.GramIdeal.Gen.iD (bkD A b) r := by
  obtain ⟨k, hk, e⟩ := bits_pos 0x37924925#32 (by decide) (by decide) (by decide)
  have h := mul_pos_zero (amax_nonneg fun c : Fin 6144 => (A (ix3 b r c) : EReal)) hk
  have hs := scl_apply tab1 tab1_apply 0x37924925#32 (maxD A) (ix2 b r)
  rw [inv_apply _ _ (by rw [hs]; exact rscale_pos.ne'), hs, maxD_apply, e]
  unfold Cert.GramIdeal.Gen.iD
  rw [e]
  exact (kinv_eq h.1 h.2).symm

theorem qX_eq (A : Vec Ideal S20x1024x1536 .bf16) (b : Fin 20) (r : Fin 1024) (c : Fin 1536) :
    k0_pay1 (F := Ideal) A (col (inv (scl tab0 0x3B124925#32 (maxX A)))) (ix3 b r c) = Cert.GramIdeal.Gen.qX (bkX A b) r c := by
  have h := iX_eq A b r
  generalize inv (scl tab0 0x3B124925#32 (maxX A)) = v at h ⊢
  pointwise [k0_pay1, col]
  rw [h]
  unfold Cert.GramIdeal.Gen.qX
  rw [bits_bf16 0x43E0#16 0x43E00000#32 (by decide) (by decide) (by decide) (by decide) (by decide),
    bits_bf16 0xC3E0#16 0xC3E00000#32 (by decide) (by decide) (by decide) (by decide) (by decide)]
  rfl

theorem qD_eq (A : Vec Ideal S20x1024x6144 .bf16) (b : Fin 20) (r : Fin 1024) (c : Fin 6144) :
    k0_pay2 (F := Ideal) A (col (inv (scl tab1 0x37924925#32 (maxD A)))) (ix3 b r c) = Cert.GramIdeal.Gen.qD (bkD A b) r c := by
  have h := iD_eq A b r
  generalize inv (scl tab1 0x37924925#32 (maxD A)) = v at h ⊢
  pointwise [k0_pay2, col]
  rw [h]
  unfold Cert.GramIdeal.Gen.qD
  rw [bits_bf16 0x4760#16 0x47600000#32 (by decide) (by decide) (by decide) (by decide) (by decide),
    bits_bf16 0xC760#16 0xC7600000#32 (by decide) (by decide) (by decide) (by decide) (by decide)]
  rfl

end Cert.GramRefIdeal.Gen
-- ==== Proof.GramRefSpec.lean ====
/- The nine results as functions of the three arguments, and the reference's host operations' values as these. -/
module

public import proofs.«01_k».proof.Proof.GramRefVals

@[expose] public section

set_option maxRecDepth 16384

noncomputable section

namespace Cert.GramRefIdeal.Gen

open Idealize.ShloMosaic Idealize.ShloMosaic.TcCoe Idealize.ShloMosaic.StableHlo Idealize.SL.Sem
open Cert.GramIdeal.Gen (sX sD qX qD SQ GV NRM COEF)

variable (A : Vec Ideal S20x1024x1536 .bf16) (D : Vec Ideal S20x1024x6144 .bf16) (z : EReal)

/-- The norm of a batch. -/
def batNorm (b : Fin 20) : EReal := NRM (bkX A b) (bkD D b)
/-- The squared length of a batch's vector. -/
def batLen (b : Fin 20) : EReal := ∑ l, GV (bkD D b) l * GV (bkD D b) l

/-- The codes of `x` and of `dy`. -/
def R0 : Vec Ideal S20x1024x1536 .fp8e4m3 := fun y => qX (bkX A (y 0)) (y 1) (y 2)
def R1 : Vec Ideal S20x1024x6144 .fp8e5m2 := fun y => qD (bkD D (y 0)) (y 1) (y 2)
/-- Their scales. -/
def R2 : Vec Ideal S20x1x1024 .f32 := fun y => sX (bkX A (y 0)) (y 2)
def R3 : Vec Ideal S20x1x1024 .f32 := fun y => sD (bkD D (y 0)) (y 2)
/-- The rows' sums of squares. -/
def R4 : Vec Ideal S20x1x1024 .f32 := fun y => SQ (bkX A (y 0)) (bkD D (y 0)) (y 2)
/-- The rows' factors. -/
def R5 : Vec Ideal S20x1024x128 .bf16 := fun y => sX (bkX A (y 0)) (y 1)
def R6 : Vec Ideal S20x1024x128 .bf16 := fun y => COEF z (batNorm A D (y 0)) * sD (bkD D (y 0)) (y 1)
/-- The per-batch vectors. -/
def R7 : Vec Ideal S20x1x6144 .f32 := fun y => GV (bkD D (y 0)) (y 2)
/-- The statistics. -/
def R8 : Vec Ideal S20x1x128 .f32 := fun y =>
  if (y 2).val = 0 then batNorm A D (y 0) else if (y 2).val = 1 then batLen D (y 0) else COEF z (batNorm A D (y 0))

variable {A D}
variable {s d : Vec Ideal S20x1024 .f32} {p : Vec Ideal S20x1024x1536 .f32} {q : Vec Ideal S20x1024x6144 .f32}
  (hs : ∀ b r, (s (ix2 b r) : EReal) = sX (bkX A b) r) (hd : ∀ b r, (d (ix2 b r) : EReal) = sD (bkD D b) r)
  (hp : ∀ b r c, (p (ix3 b r c) : EReal) = qX (bkX A b) r c) (hq : ∀ b r c, (q (ix3 b r c) : EReal) = qD (bkD D b) r c)
  (Z : Vec Ideal S1 .f32)

include hs in
theorem r2_eq : rowed s = R2 A := by
  funext y
  pointwise [rowed, R2]
  exact hs _ _

include hd in
theorem r3_eq : rowed d = R3 D := by
  funext y
  pointwise [rowed, R3]
  exact hd _ _

include hs hd hp hq in
theorem sqs_apply (b : Fin 20) (r : Fin 1024) : (sqs s d p q (ix2 b r) : EReal) = SQ (bkX A b) (bkD D b) r := by
  pointwise [sqs, pairs]
  simp only [hs, hd, hp, hq]
  rfl

include hd hq in
theorem gvs_apply (b : Fin 20) (l : Fin 6144) : (gvs d q (ix2 b l) : EReal) = GV (bkD D b) l := by
  pointwise [gvs]
  simp only [hd, hq]
  rfl

include hd hq in
theorem bss_apply (b : Fin 20) : (bss (gvs d q) (ix1 b) : EReal) = batLen D b := by
  have h := gvs_apply hd hq
  generalize gvs d q = g at h ⊢
  pointwise [bss]
  simp only [h]
  rfl

include hs hd hp hq in
theorem nms_apply (b : Fin 20) : (nms (sqs s d p q) (bss (gvs d q)) (ix1 b) : EReal) = batNorm A D b := by
  have h := sqs_apply hs hd hp hq
  have h' := bss_apply hd hq
  generalize sqs s d p q = g at h ⊢
  generalize bss (gvs d q) = g' at h' ⊢
  pointwise [nms]
  simp only [h, h']
  rfl

include hs hd hp hq in
theorem cfs_apply (b : Fin 20) : (cfs Z (nms (sqs s d p q) (bss (gvs d q))) (ix1 b) : EReal) = COEF (Z (ix1 0)) (batNorm A D b) := by
  have h := nms_apply hs hd hp hq
  generalize nms (sqs s d p q) (bss (gvs d q)) = g at h ⊢
  pointwise [cfs]
  simp only [h]
  rfl

include hs hd hp hq in
theorem r4_eq : rowed (sqs s d p q) = R4 A D := by
  have h := sqs_apply hs hd hp hq
  generalize sqs s d p q = g at h ⊢
  funext y
  pointwise [rowed, R4]
  exact h _ _

include hs in
theorem r5_eq : lanes (truncf (F := Ideal) (φ := .f32) .bf16 s bitsLt_bf16_f32) = R5 A := by
  funext y
  pointwise [lanes, R5]
  exact hs _ _

include hs hd hp hq in
theorem r6_eq : lanes (truncf (F := Ideal) (φ := .f32) .bf16 (facs (cfs Z (nms (sqs s d p q) (bss (gvs d q)))) d) bitsLt_bf16_f32) = R6 A D (Z (ix1 0)) := by
  have h := cfs_apply hs hd hp hq Z
  generalize cfs Z (nms (sqs s d p q) (bss (gvs d q))) = g at h ⊢
  funext y
  pointwise [lanes, facs, R6]
  exact congrArg₂ (fun a b : EReal => a * b) (h _) (hd _ _)

include hd hq in
theorem r7_eq : broadcastInDim S20x1x6144 ![0, 2] bcast_S20x6144_S20x1x6144_0_2 (gvs d q) = R7 D := by
  have h := gvs_apply hd hq
  generalize gvs d q = g at h ⊢
  funext y
  pointwise [R7]
  exact h _ _

include hs hd hp hq in
theorem r8_eq : stats (nms (sqs s d p q) (bss (gvs d q))) (bss (gvs d q)) (cfs Z (nms (sqs s d p q) (bss (gvs d q)))) = R8 A D (Z (ix1 0)) := by
  have h1 := nms_apply hs hd hp hq
  have h2 := bss_apply hd hq
  have h3 := cfs_apply hs hd hp hq Z
  generalize cfs Z (nms (sqs s d p q) (bss (gvs d q))) = g3 at h3 ⊢
  generalize nms (sqs s d p q) (bss (gvs d q)) = g1 at h1 ⊢
  generalize bss (gvs d q) = g2 at h2 ⊢
  funext y
  pointwise [stats, R8]

  split_ifs
  all_goals first | exact h1 _ | exact h2 _ | exact h3 _ | omega

end Cert.GramRefIdeal.Gen
-- ==== Proof.GramIdealFrame.lean ====
/- The quantising call framed: what each of its outputs holds at each grid point, and its run. -/
module

public import proofs.«01_k».proof.Proof.GramIdealRun
public import proofs.«01_k».proof.Proof.Gen.GramIdeal.Frame
public import Idealize.ShloMosaic.Lib.Claim

@[expose] public section

set_option maxRecDepth 16384

noncomputable section

namespace Cert.GramIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs of a point -/

abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1536 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x6144 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x6144 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x128 .f32 := win0_11.stage (cfg0.slots t 11)
abbrev hs0_11 (t : Fin cfg0.N) : (ms0_11 t).IsWhole := hstage0_11 ((cfg0.slots t 11).cast nbuf0_11)
abbrev scM0_0 : Memref sig .tc .vmem S2x1024x128 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-! ## What the outputs hold -/

def out0_3 (c : Dev nD) (t : Fin cfg0.N) : Vec F S1x1024x1536 .fp8e4m3 := V4 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hs0_1 t).unread (iblk m c 1 t)) ((hs0_2 t).unread (iblk m c 2 t))
def out0_4 (c : Dev nD) (t : Fin cfg0.N) : Vec F S1x1024x6144 .fp8e5m2 := V5 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hs0_1 t).unread (iblk m c 1 t)) ((hs0_2 t).unread (iblk m c 2 t))
def out0_5 (c : Dev nD) (t : Fin cfg0.N) : Vec F S1x1x1024 .f32 := V6 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hs0_1 t).unread (iblk m c 1 t)) ((hs0_2 t).unread (iblk m c 2 t))
def out0_6 (c : Dev nD) (t : Fin cfg0.N) : Vec F S1x1x1024 .f32 := V7 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hs0_1 t).unread (iblk m c 1 t)) ((hs0_2 t).unread (iblk m c 2 t))
def out0_7 (c : Dev nD) (t : Fin cfg0.N) : Vec F S1x1x1024 .f32 := View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).1
def out0_8 (c : Dev nD) (t : Fin cfg0.N) : Vec F S1x1024x128 .bf16 := View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.1
def out0_9 (c : Dev nD) (t : Fin cfg0.N) : Vec F S1x1024x128 .bf16 := View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.1
def out0_10 (c : Dev nD) (t : Fin cfg0.N) : Vec F S1x1x6144 .f32 := (ms0_10 t).view.read (Elt F) (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.1
def out0_11 (c : Dev nD) (t : Fin cfg0.N) : Vec F S1x1x128 .f32 := View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.2.1

theorem cover0_7 (c : Dev nD) (t : Fin cfg0.N) (y : S1x1x1024.Idx) : ∃ pc ∈ (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).1, y ∈ pc.1.set :=
  View.cover_of_tiledL (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).1 S1x1x256.size (by sl_kernel_rfl) y
theorem cover0_8 (c : Dev nD) (t : Fin cfg0.N) (y : S1x1024x128.Idx) : ∃ pc ∈ (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.1, y ∈ pc.1.set :=
  View.cover_of_tiledL (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.1 S1x1024x128.size (by sl_kernel_rfl) y
theorem cover0_9 (c : Dev nD) (t : Fin cfg0.N) (y : S1x1024x128.Idx) : ∃ pc ∈ (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.1, y ∈ pc.1.set :=
  View.cover_of_tiledL (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.1 S1x1024x128.size (by sl_kernel_rfl) y
theorem cover0_11 (c : Dev nD) (t : Fin cfg0.N) (y : S1x1x128.Idx) : ∃ pc ∈ (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.2.1, y ∈ pc.1.set :=
  View.cover_of_tiledL (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.2.1 S1x1x128.size (by sl_kernel_rfl) y

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 m c t
    | ⟨4, _⟩ => out0_4 m c t
    | ⟨5, _⟩ => out0_5 m c t
    | ⟨6, _⟩ => out0_6 m c t
    | ⟨7, _⟩ => out0_7 m c t
    | ⟨8, _⟩ => out0_8 m c t
    | ⟨9, _⟩ => out0_9 m c t
    | ⟨10, _⟩ => out0_10 m c t
    | ⟨11, _⟩ => out0_11 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 m c t := by dsimp only [dats]
theorem after0_4 (c : Dev nD) (t : Fin cfg0.N) : (dats m 0 c).after 4 t = out0_4 m c t := by dsimp only [dats]
theorem after0_5 (c : Dev nD) (t : Fin cfg0.N) : (dats m 0 c).after 5 t = out0_5 m c t := by dsimp only [dats]
theorem after0_6 (c : Dev nD) (t : Fin cfg0.N) : (dats m 0 c).after 6 t = out0_6 m c t := by dsimp only [dats]
theorem after0_7 (c : Dev nD) (t : Fin cfg0.N) : (dats m 0 c).after 7 t = out0_7 m c t := by dsimp only [dats]
theorem after0_8 (c : Dev nD) (t : Fin cfg0.N) : (dats m 0 c).after 8 t = out0_8 m c t := by dsimp only [dats]
theorem after0_9 (c : Dev nD) (t : Fin cfg0.N) : (dats m 0 c).after 9 t = out0_9 m c t := by dsimp only [dats]
theorem after0_10 (c : Dev nD) (t : Fin cfg0.N) : (dats m 0 c).after 10 t = out0_10 m c t := by dsimp only [dats]
theorem after0_11 (c : Dev nD) (t : Fin cfg0.N) : (dats m 0 c).after 11 t = out0_11 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS]; · iexact HS
  iintro ⟨H0, H1, H2, H3, H4, H5, H6, ⟨%e7, H7⟩, ⟨%e8, H8⟩, ⟨%e9, H9⟩, H10, ⟨%e11, H11⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact (hs0_3 t).read_unread _
  isplitl [H4]
  · unfold owns; iexists _; isplitr
    swap; · iexact H4
    ipureintro; exact (hs0_4 t).read_unread _
  isplitl [H5]
  · unfold owns; iexists _; isplitr
    swap; · iexact H5
    ipureintro; exact (hs0_5 t).read_unread _
  isplitl [H6]
  · unfold owns; iexists _; isplitr
    swap; · iexact H6
    ipureintro; exact (hs0_6 t).read_unread _
  isplitl [H7]
  · unfold owns; iexists _; isplitr
    swap; · iexact H7
    ipureintro; exact funext fun y => View.read_writes_apply_eq_canon _ _ _ _ (cover0_7 m c t y)
  isplitl [H8]
  · unfold owns; iexists _; isplitr
    swap; · iexact H8
    ipureintro; exact funext fun y => View.read_writes_apply_eq_canon _ _ _ _ (cover0_8 m c t y)
  isplitl [H9]
  · unfold owns; iexists _; isplitr
    swap; · iexact H9
    ipureintro; exact funext fun y => View.read_writes_apply_eq_canon _ _ _ _ (cover0_9 m c t y)
  isplitl [H10]
  · unfold owns; iexists _; isplitr
    swap; · iexact H10
    ipureintro; rfl
  unfold owns; iexists _; isplitr
  swap; · iexact H11
  ipureintro; exact funext fun y => View.read_writes_apply_eq_canon _ _ _ _ (cover0_11 m c t y)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The call runs, changes none of its arguments, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.GramIdeal.Gen

end
-- ==== Proof.GramIdealArr.lean ====
/- The kernel's nine arrays at the end of the grid, as functions of its three arguments. -/
module

public import proofs.«01_k».proof.Proof.GramRefSpec
public import proofs.«01_k».proof.Proof.GramIdealFrame
public import Idealize.ShloMosaic.Lib.Pipeline.ReadBack

@[expose] public section

set_option maxRecDepth 16384

noncomputable section

namespace Cert.GramIdeal.Gen

open Idealize.ShloMosaic Idealize.ShloMosaic.TcCoe Idealize.SL.Sem
open Cert.GramRefIdeal.Gen (bkX bkD batNorm batLen R0 R1 R2 R3 R4 R5 R6 R7 R8)

variable (m : (ℓ : Loc nD τ sig) → Buf (Elt Ideal) ℓ) (c : Dev nD)

/-- Every window's block of a point is its batch's. -/
theorem idx : ∀ t : Fin cfg0.N, win0_0.index t = ![0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0]
    ∧ win0_11.index t = ![t.val, 0, 0] :=
  (by decide +kernel : ∀ t : Fin grid0.N, _)

/-- The batch of a point. -/
def bat (t : Fin cfg0.N) : Fin 20 := ⟨t.val, t.isLt⟩

theorem iblk1 (t : Fin cfg0.N) : (iblk m c 1 t : Vec Ideal S1x1024x1536 .bf16) = bkX (m ((c : Thread nD τ).loc main_arg0)) (bat t) := by
  funext y
  have h := (idx t).2.1
  unfold bkX bat
  blk_ext! [iblk, V, h]

theorem iblk2 (t : Fin cfg0.N) : (iblk m c 2 t : Vec Ideal S1x1024x6144 .bf16) = bkD (m ((c : Thread nD τ).loc main_arg1)) (bat t) := by
  funext y
  have h := (idx t).2.2.1
  unfold bkD bat
  blk_ext! [iblk, V, h]

theorem iblk0 (t : Fin cfg0.N) : ((iblk m c 0 t : Vec Ideal S1 .f32) (ix1 0) : EReal) = (m ((c : Thread nD τ).loc main_arg2) : Vec Ideal S1 .f32) (ix1 0) := by
  have h := (idx t).1
  blk_ext! [iblk, V, h]

theorem o3_apply (t : Fin cfg0.N) (y : S1x1024x1536.Idx) : (out0_3 (F := Ideal) m c t y : EReal) = qX (iblk m c 1 t : Vec Ideal S1x1024x1536 .bf16) (y 1) (y 2) :=
  V4_apply Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 1 t) (iblk m c 2 t) y

theorem arr3 : (dats m 0 c).arrAt 3 cfg0.N = R0 (m ((c : Thread nD τ).loc main_arg0)) := by
  refine (dats m 0 c).arrAt_eq_of_covers 3 _ (by decide +kernel) fun t hf y => ?_
  have hi := (idx t).2.2.2.1
  blk_simp
  rw [after0_3]
  refine (o3_apply m c t y).trans ?_
  rw [iblk1]
  have e : (win0_3.blk t).view.emb y = ix3 (bat t) (y 1) (y 2) := by
    unfold bat
    blk_ext [hi]
  refine Eq.trans ?_ (congrArg (R0 (m ((c : Thread nD τ).loc main_arg0))) e.symm)
  unfold R0
  rfl

theorem o4_apply (t : Fin cfg0.N) (y : S1x1024x6144.Idx) : (out0_4 (F := Ideal) m c t y : EReal) = qD (iblk m c 2 t : Vec Ideal S1x1024x6144 .bf16) (y 1) (y 2) :=
  V5_apply Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 1 t) (iblk m c 2 t) y

theorem arr4 : (dats m 0 c).arrAt 4 cfg0.N = R1 (m ((c : Thread nD τ).loc main_arg1)) := by
  refine (dats m 0 c).arrAt_eq_of_covers 4 _ (by decide +kernel) fun t hf y => ?_
  have hi := (idx t).2.2.2.2.1
  blk_simp
  rw [after0_4]
  refine (o4_apply m c t y).trans ?_
  rw [iblk2]
  have e : (win0_4.blk t).view.emb y = ix3 (bat t) (y 1) (y 2) := by
    unfold bat
    blk_ext [hi]
  refine Eq.trans ?_ (congrArg (R1 (m ((c : Thread nD τ).loc main_arg1))) e.symm)
  unfold R1
  rfl

theorem o5_apply (t : Fin cfg0.N) (y : S1x1x1024.Idx) : (out0_5 (F := Ideal) m c t y : EReal) = sX (iblk m c 1 t : Vec Ideal S1x1024x1536 .bf16) (y 2) :=
  V6_apply Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 1 t) (iblk m c 2 t) y

theorem arr5 : (dats m 0 c).arrAt 5 cfg0.N = R2 (m ((c : Thread nD τ).loc main_arg0)) := by
  refine (dats m 0 c).arrAt_eq_of_covers 5 _ (by decide +kernel) fun t hf y => ?_
  have hi := (idx t).2.2.2.2.2.1
  blk_simp
  rw [after0_5]
  refine (o5_apply m c t y).trans ?_
  rw [iblk1]
  have e : (win0_5.blk t).view.emb y = ix3 (bat t) (y 1) (y 2) := by
    unfold bat
    blk_ext [hi]
  refine Eq.trans ?_ (congrArg (R2 (m ((c : Thread nD τ).loc main_arg0))) e.symm)
  unfold R2
  rfl

theorem o6_apply (t : Fin cfg0.N) (y : S1x1x1024.Idx) : (out0_6 (F := Ideal) m c t y : EReal) = sD (iblk m c 2 t : Vec Ideal S1x1024x6144 .bf16) (y 2) :=
  V7_apply Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 1 t) (iblk m c 2 t) y

theorem arr6 : (dats m 0 c).arrAt 6 cfg0.N = R3 (m ((c : Thread nD τ).loc main_arg1)) := by
  refine (dats m 0 c).arrAt_eq_of_covers 6 _ (by decide +kernel) fun t hf y => ?_
  have hi := (idx t).2.2.2.2.2.2.1
  blk_simp
  rw [after0_6]
  refine (o6_apply m c t y).trans ?_
  rw [iblk2]
  have e : (win0_6.blk t).view.emb y = ix3 (bat t) (y 1) (y 2) := by
    unfold bat
    blk_ext [hi]
  refine Eq.trans ?_ (congrArg (R3 (m ((c : Thread nD τ).loc main_arg1))) e.symm)
  unfold R3
  rfl

theorem o7_apply (t : Fin cfg0.N) (y : S1x1x1024.Idx) : (out0_7 (F := Ideal) m c t y : EReal) = g8 (iblk m c 1 t : Vec Ideal S1x1024x1536 .bf16) (iblk m c 2 t : Vec Ideal S1x1024x6144 .bf16) y :=
  canon8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 1 t) (iblk m c 2 t) (iblk m c 0 t) y

theorem arr7 : (dats m 0 c).arrAt 7 cfg0.N = R4 (m ((c : Thread nD τ).loc main_arg0)) (m ((c : Thread nD τ).loc main_arg1)) := by
  refine (dats m 0 c).arrAt_eq_of_covers 7 _ (by decide +kernel) fun t hf y => ?_
  have hi := (idx t).2.2.2.2.2.2.2.1
  blk_simp
  rw [after0_7]
  refine (o7_apply m c t y).trans ?_
  rw [iblk1, iblk2]
  have e : (win0_7.blk t).view.emb y = ix3 (bat t) (y 1) (y 2) := by
    unfold bat
    blk_ext [hi]
  refine Eq.trans ?_ (congrArg (R4 (m ((c : Thread nD τ).loc main_arg0)) (m ((c : Thread nD τ).loc main_arg1))) e.symm)
  unfold R4 g8
  rfl

theorem o8_apply (t : Fin cfg0.N) (y : S1x1024x128.Idx) : (out0_8 (F := Ideal) m c t y : EReal) = g9 (iblk m c 1 t : Vec Ideal S1x1024x1536 .bf16) y :=
  canon9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 1 t) (iblk m c 2 t) (iblk m c 0 t) y

theorem arr8 : (dats m 0 c).arrAt 8 cfg0.N = R5 (m ((c : Thread nD τ).loc main_arg0)) := by
  refine (dats m 0 c).arrAt_eq_of_covers 8 _ (by decide +kernel) fun t hf y => ?_
  have hi := (idx t).2.2.2.2.2.2.2.2.1
  blk_simp
  rw [after0_8]
  refine (o8_apply m c t y).trans ?_
  rw [iblk1]
  have e : (win0_8.blk t).view.emb y = ix3 (bat t) (y 1) (y 2) := by
    unfold bat
    blk_ext [hi]
  refine Eq.trans ?_ (congrArg (R5 (m ((c : Thread nD τ).loc main_arg0))) e.symm)
  unfold R5 g9
  rfl

theorem o9_apply (t : Fin cfg0.N) (y : S1x1024x128.Idx) : (out0_9 (F := Ideal) m c t y : EReal) = g10 (iblk m c 1 t : Vec Ideal S1x1024x1536 .bf16) (iblk m c 2 t : Vec Ideal S1x1024x6144 .bf16) ((iblk m c 0 t : Vec Ideal S1 .f32) (ix1 0)) y :=
  canon10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 1 t) (iblk m c 2 t) (iblk m c 0 t) y

theorem arr9 : (dats m 0 c).arrAt 9 cfg0.N = R6 (m ((c : Thread nD τ).loc main_arg0)) (m ((c : Thread nD τ).loc main_arg1)) ((m ((c : Thread nD τ).loc main_arg2) : Vec Ideal S1 .f32) (ix1 0)) := by
  refine (dats m 0 c).arrAt_eq_of_covers 9 _ (by decide +kernel) fun t hf y => ?_
  have hi := (idx t).2.2.2.2.2.2.2.2.2.1
  blk_simp
  rw [after0_9]
  refine (o9_apply m c t y).trans ?_
  rw [iblk1, iblk2, iblk0]
  have e : (win0_9.blk t).view.emb y = ix3 (bat t) (y 1) (y 2) := by
    unfold bat
    blk_ext [hi]
  refine Eq.trans ?_ (congrArg (R6 (m ((c : Thread nD τ).loc main_arg0)) (m ((c : Thread nD τ).loc main_arg1)) ((m ((c : Thread nD τ).loc main_arg2) : Vec Ideal S1 .f32) (ix1 0))) e.symm)
  unfold R6 g10 batNorm
  rfl

theorem o10_apply (t : Fin cfg0.N) (y : S1x1x6144.Idx) : (out0_10 (F := Ideal) m c t y : EReal) = GV (iblk m c 2 t : Vec Ideal S1x1024x6144 .bf16) (y 2) :=
  C11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 1 t) (iblk m c 2 t) (iblk m c 0 t) y

theorem arr10 : (dats m 0 c).arrAt 10 cfg0.N = R7 (m ((c : Thread nD τ).loc main_arg1)) := by
  refine (dats m 0 c).arrAt_eq_of_covers 10 _ (by decide +kernel) fun t hf y => ?_
  have hi := (idx t).2.2.2.2.2.2.2.2.2.2.1
  blk_simp
  rw [after0_10]
  refine (o10_apply m c t y).trans ?_
  rw [iblk2]
  have e : (win0_10.blk t).view.emb y = ix3 (bat t) (y 1) (y 2) := by
    unfold bat
    blk_ext [hi]
  refine Eq.trans ?_ (congrArg (R7 (m ((c : Thread nD τ).loc main_arg1))) e.symm)
  unfold R7
  rfl

theorem o11_apply (t : Fin cfg0.N) (y : S1x1x128.Idx) : (out0_11 (F := Ideal) m c t y : EReal) = g12 (iblk m c 1 t : Vec Ideal S1x1024x1536 .bf16) (iblk m c 2 t : Vec Ideal S1x1024x6144 .bf16) ((iblk m c 0 t : Vec Ideal S1 .f32) (ix1 0)) y :=
  canon12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 1 t) (iblk m c 2 t) (iblk m c 0 t) y

theorem arr11 : (dats m 0 c).arrAt 11 cfg0.N = R8 (m ((c : Thread nD τ).loc main_arg0)) (m ((c : Thread nD τ).loc main_arg1)) ((m ((c : Thread nD τ).loc main_arg2) : Vec Ideal S1 .f32) (ix1 0)) := by
  refine (dats m 0 c).arrAt_eq_of_covers 11 _ (by decide +kernel) fun t hf y => ?_
  have hi := (idx t).2.2.2.2.2.2.2.2.2.2.2
  blk_simp
  rw [after0_11]
  refine (o11_apply m c t y).trans ?_
  rw [iblk1, iblk2, iblk0]
  have e : (win0_11.blk t).view.emb y = ix3 (bat t) (y 1) (y 2) := by
    unfold bat
    blk_ext [hi]
  refine Eq.trans ?_ (congrArg (R8 (m ((c : Thread nD τ).loc main_arg0)) (m ((c : Thread nD τ).loc main_arg1)) ((m ((c : Thread nD τ).loc main_arg2) : Vec Ideal S1 .f32) (ix1 0))) e.symm)
  unfold R8 g12 batNorm batLen
  rfl

end Cert.GramIdeal.Gen
-- ==== Proof.GramRefArr.lean ====
/- The reference's nine results at its end, as functions of its three arguments. -/
module

public import proofs.«01_k».proof.Proof.GramRefSpec
public import proofs.«01_k».proof.Proof.Gen.GramRefIdeal.Frame
public import Idealize.ShloMosaic.Lib.Pipeline.ReadBack

@[expose] public section

set_option maxRecDepth 16384

noncomputable section

namespace Cert.GramRefIdeal.Gen

open Idealize.ShloMosaic Idealize.ShloMosaic.TcCoe Idealize.ShloMosaic.StableHlo Idealize.SL.Sem

variable (m : (ℓ : Loc nD τ sig) → Buf (Elt Ideal) ℓ) (c : Dev nD)

/-- Every window has one block. -/
theorem idx (t : Fin cfg0.N) : win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0]) t

theorem hz : (![0, 0, 0] : Fin 3 → Nat) = fun _ => 0 := by decide

theorem V_v40 : V m c main_v40 = col (inv (scl tab0 0x3B124925#32 (maxX (m ((c : Thread nD τ).loc main_arg0))))) :=
  pre_v40 (fun b => m (c, b))
theorem V_v41 : V m c main_v41 = col (inv (scl tab1 0x37924925#32 (maxD (m ((c : Thread nD τ).loc main_arg1))))) :=
  pre_v41 (fun b => m (c, b))
theorem V_v14 : V m c main_v14 = scl tab0 0x3B124925#32 (maxX (m ((c : Thread nD τ).loc main_arg0))) :=
  pre_v14 (fun b => m (c, b))
theorem V_v34 : V m c main_v34 = scl tab1 0x37924925#32 (maxD (m ((c : Thread nD τ).loc main_arg1))) :=
  pre_v34 (fun b => m (c, b))

/-- The one point's blocks are the arrays. -/
theorem rd0 (t : Fin cfg0.N) (W : Vec Ideal S20x1024x1536 .bf16) : (((cfg0.win 0).blk t).view.read (Elt Ideal) W : Vec Ideal S20x1024x1536 .bf16) = W := by
  funext y
  have h := (idx t).1
  blk_ext! [h]
theorem rd1 (t : Fin cfg0.N) (W : Vec Ideal S20x1024x1 .f32) : (((cfg0.win 1).blk t).view.read (Elt Ideal) W : Vec Ideal S20x1024x1 .f32) = W := by
  funext y
  have h := (idx t).2.1
  blk_ext! [h]
theorem rd2 (t : Fin cfg0.N) (W : Vec Ideal S20x1024x6144 .bf16) : (((cfg0.win 2).blk t).view.read (Elt Ideal) W : Vec Ideal S20x1024x6144 .bf16) = W := by
  funext y
  have h := (idx t).2.2.1
  blk_ext! [h]
theorem rd3 (t : Fin cfg0.N) (W : Vec Ideal S20x1024x1 .f32) : (((cfg0.win 3).blk t).view.read (Elt Ideal) W : Vec Ideal S20x1024x1 .f32) = W := by
  funext y
  have h := (idx t).2.2.2.1
  blk_ext! [h]
theorem rd4 (t : Fin cfg0.N) (W : Vec Ideal S20x1024x1536 .fp8e4m3) : (((cfg0.win 4).blk t).view.read (Elt Ideal) W : Vec Ideal S20x1024x1536 .fp8e4m3) = W := by
  funext y
  have h := (idx t).2.2.2.2.1
  blk_ext! [h]
theorem rd5 (t : Fin cfg0.N) (W : Vec Ideal S20x1024x1536 .f32) : (((cfg0.win 5).blk t).view.read (Elt Ideal) W : Vec Ideal S20x1024x1536 .f32) = W := by
  funext y
  have h := (idx t).2.2.2.2.2.1
  blk_ext! [h]
theorem rd6 (t : Fin cfg0.N) (W : Vec Ideal S20x1024x6144 .fp8e5m2) : (((cfg0.win 6).blk t).view.read (Elt Ideal) W : Vec Ideal S20x1024x6144 .fp8e5m2) = W := by
  funext y
  have h := (idx t).2.2.2.2.2.2.1
  blk_ext! [h]
theorem rd7 (t : Fin cfg0.N) (W : Vec Ideal S20x1024x6144 .f32) : (((cfg0.win 7).blk t).view.read (Elt Ideal) W : Vec Ideal S20x1024x6144 .f32) = W := by
  funext y
  have h := (idx t).2.2.2.2.2.2.2
  blk_ext! [h]
theorem blk0 (t : Fin cfg0.N) : (iblk m c 0 t : Vec Ideal S20x1024x1536 .bf16) = (m ((c : Thread nD τ).loc main_arg0)) := (rd0 t _).trans (V_main_arg0 m c)
theorem blk1 (t : Fin cfg0.N) : (iblk m c 1 t : Vec Ideal S20x1024x1 .f32) = col (inv (scl tab0 0x3B124925#32 (maxX (m ((c : Thread nD τ).loc main_arg0))))) := (rd1 t _).trans (V_v40 m c)
theorem blk2 (t : Fin cfg0.N) : (iblk m c 2 t : Vec Ideal S20x1024x6144 .bf16) = (m ((c : Thread nD τ).loc main_arg1)) := (rd2 t _).trans (V_main_arg1 m c)
theorem blk3 (t : Fin cfg0.N) : (iblk m c 3 t : Vec Ideal S20x1024x1 .f32) = col (inv (scl tab1 0x37924925#32 (maxD (m ((c : Thread nD τ).loc main_arg1))))) := (rd3 t _).trans (V_v41 m c)

/-- What the body leaves, from blocks. -/
theorem o4 (x0 : Vec Ideal S20x1024x1536 .bf16) (x1 : Vec Ideal S20x1024x1 .f32) (x2 : Vec Ideal S20x1024x6144 .bf16) (x3 : Vec Ideal S20x1024x1 .f32) :
    out0_4 (F := Ideal) x0 x1 x2 x3 = k0_pay1 (F := Ideal) x0 x1 := by
  unfold out0_4
  rw [View.canon_unit_zero hz, View.ld_unit_zero (S := S20x1024x1536) hz, View.ld_unit_zero (S := S20x1024x1) hz]
theorem o5 (x0 : Vec Ideal S20x1024x1536 .bf16) (x1 : Vec Ideal S20x1024x1 .f32) (x2 : Vec Ideal S20x1024x6144 .bf16) (x3 : Vec Ideal S20x1024x1 .f32) :
    out0_5 (F := Ideal) x0 x1 x2 x3 = k0_pay3 (F := Ideal) x0 x1 := by
  unfold out0_5
  rw [View.canon_unit_zero hz, View.ld_unit_zero (S := S20x1024x1536) hz, View.ld_unit_zero (S := S20x1024x1) hz]
theorem o6 (x0 : Vec Ideal S20x1024x1536 .bf16) (x1 : Vec Ideal S20x1024x1 .f32) (x2 : Vec Ideal S20x1024x6144 .bf16) (x3 : Vec Ideal S20x1024x1 .f32) :
    out0_6 (F := Ideal) x0 x1 x2 x3 = k0_pay2 (F := Ideal) x2 x3 := by
  unfold out0_6
  rw [View.canon_unit_zero hz, View.ld_unit_zero (S := S20x1024x6144) hz, View.ld_unit_zero (S := S20x1024x1) hz]
theorem o7 (x0 : Vec Ideal S20x1024x1536 .bf16) (x1 : Vec Ideal S20x1024x1 .f32) (x2 : Vec Ideal S20x1024x6144 .bf16) (x3 : Vec Ideal S20x1024x1 .f32) :
    out0_7 (F := Ideal) x0 x1 x2 x3 = k0_pay4 (F := Ideal) x2 x3 := by
  unfold out0_7
  rw [View.canon_unit_zero hz, View.ld_unit_zero (S := S20x1024x6144) hz, View.ld_unit_zero (S := S20x1024x1) hz]

/-- The reference's codes and their values. -/
theorem arr4 : ((dats m 0 c).arrAt 4 cfg0.N : Vec Ideal S20x1024x1536 .fp8e4m3) = k0_pay1 (F := Ideal) (m ((c : Thread nD τ).loc main_arg0)) (col (inv (scl tab0 0x3B124925#32 (maxX (m ((c : Thread nD τ).loc main_arg0)))))) := by
  refine (dats m 0 c).arrAt_eq_of_covers 4 _ (by decide +kernel) fun t hf y => ?_
  rw [show (dats m 0 c).after 4 t = k0_pay1 (F := Ideal) (m ((c : Thread nD τ).loc main_arg0)) (col (inv (scl tab0 0x3B124925#32 (maxX (m ((c : Thread nD τ).loc main_arg0)))))) from
    (after0_4 m c t).trans ((o4 (iblk m c 0 t) (iblk m c 1 t) (iblk m c 2 t) (iblk m c 3 t)).trans (congrArg₂ (k0_pay1 (F := Ideal)) (blk0 m c t) (blk1 m c t)))]
  generalize k0_pay1 (F := Ideal) (m ((c : Thread nD τ).loc main_arg0)) (col (inv (scl tab0 0x3B124925#32 (maxX (m ((c : Thread nD τ).loc main_arg0)))))) = G
  exact (congrFun (rd4 t G) y).symm
theorem arr5 : ((dats m 0 c).arrAt 5 cfg0.N : Vec Ideal S20x1024x1536 .f32) = k0_pay3 (F := Ideal) (m ((c : Thread nD τ).loc main_arg0)) (col (inv (scl tab0 0x3B124925#32 (maxX (m ((c : Thread nD τ).loc main_arg0)))))) := by
  refine (dats m 0 c).arrAt_eq_of_covers 5 _ (by decide +kernel) fun t hf y => ?_
  rw [show (dats m 0 c).after 5 t = k0_pay3 (F := Ideal) (m ((c : Thread nD τ).loc main_arg0)) (col (inv (scl tab0 0x3B124925#32 (maxX (m ((c : Thread nD τ).loc main_arg0)))))) from
    (after0_5 m c t).trans ((o5 (iblk m c 0 t) (iblk m c 1 t) (iblk m c 2 t) (iblk m c 3 t)).trans (congrArg₂ (k0_pay3 (F := Ideal)) (blk0 m c t) (blk1 m c t)))]
  generalize k0_pay3 (F := Ideal) (m ((c : Thread nD τ).loc main_arg0)) (col (inv (scl tab0 0x3B124925#32 (maxX (m ((c : Thread nD τ).loc main_arg0)))))) = G
  exact (congrFun (rd5 t G) y).symm
theorem arr6 : ((dats m 0 c).arrAt 6 cfg0.N : Vec Ideal S20x1024x6144 .fp8e5m2) = k0_pay2 (F := Ideal) (m ((c : Thread nD τ).loc main_arg1)) (col (inv (scl tab1 0x37924925#32 (maxD (m ((c : Thread nD τ).loc main_arg1)))))) := by
  refine (dats m 0 c).arrAt_eq_of_covers 6 _ (by decide +kernel) fun t hf y => ?_
  rw [show (dats m 0 c).after 6 t = k0_pay2 (F := Ideal) (m ((c : Thread nD τ).loc main_arg1)) (col (inv (scl tab1 0x37924925#32 (maxD (m ((c : Thread nD τ).loc main_arg1)))))) from
    (after0_6 m c t).trans ((o6 (iblk m c 0 t) (iblk m c 1 t) (iblk m c 2 t) (iblk m c 3 t)).trans (congrArg₂ (k0_pay2 (F := Ideal)) (blk2 m c t) (blk3 m c t)))]
  generalize k0_pay2 (F := Ideal) (m ((c : Thread nD τ).loc main_arg1)) (col (inv (scl tab1 0x37924925#32 (maxD (m ((c : Thread nD τ).loc main_arg1)))))) = G
  exact (congrFun (rd6 t G) y).symm
theorem arr7 : ((dats m 0 c).arrAt 7 cfg0.N : Vec Ideal S20x1024x6144 .f32) = k0_pay4 (F := Ideal) (m ((c : Thread nD τ).loc main_arg1)) (col (inv (scl tab1 0x37924925#32 (maxD (m ((c : Thread nD τ).loc main_arg1)))))) := by
  refine (dats m 0 c).arrAt_eq_of_covers 7 _ (by decide +kernel) fun t hf y => ?_
  rw [show (dats m 0 c).after 7 t = k0_pay4 (F := Ideal) (m ((c : Thread nD τ).loc main_arg1)) (col (inv (scl tab1 0x37924925#32 (maxD (m ((c : Thread nD τ).loc main_arg1)))))) from
    (after0_7 m c t).trans ((o7 (iblk m c 0 t) (iblk m c 1 t) (iblk m c 2 t) (iblk m c 3 t)).trans (congrArg₂ (k0_pay4 (F := Ideal)) (blk2 m c t) (blk3 m c t)))]
  generalize k0_pay4 (F := Ideal) (m ((c : Thread nD τ).loc main_arg1)) (col (inv (scl tab1 0x37924925#32 (maxD (m ((c : Thread nD τ).loc main_arg1)))))) = G
  exact (congrFun (rd7 t G) y).symm

/-- What the host operations after the call read. -/
abbrev Wv : Valuation τ sig (Elt Ideal) := Pipeline.withArrays (cfgs 0).spec c (V0 m c) fun w => (dats m 0 c).arrAt w (cfgs 0).N
theorem w_v14 : Wv m c (Proc.devRef .tc main_v14) = scl tab0 0x3B124925#32 (maxX (m ((c : Thread nD τ).loc main_arg0))) :=
  (Pipeline.withArrays_of_ne _ c (V0 m c) _ main_v14 (by exact (by decide : ∀ w, Pipeline.arrRef spec0 w ≠ main_v14))).trans (V_v14 m c)
theorem w_v34 : Wv m c (Proc.devRef .tc main_v34) = scl tab1 0x37924925#32 (maxD (m ((c : Thread nD τ).loc main_arg1))) :=
  (Pipeline.withArrays_of_ne _ c (V0 m c) _ main_v34 (by exact (by decide : ∀ w, Pipeline.arrRef spec0 w ≠ main_v34))).trans (V_v34 m c)
theorem w_arg2 : Wv m c (Proc.devRef .tc main_arg2) = (m ((c : Thread nD τ).loc main_arg2)) :=
  (Pipeline.withArrays_of_ne _ c (V0 m c) _ main_arg2 (by exact (by decide : ∀ w, Pipeline.arrRef spec0 w ≠ main_arg2))).trans (V_main_arg2 m c)
theorem arr_inj : Function.Injective (Pipeline.arrRef spec0) := by decide
theorem w_v42_1 : Wv m c (Proc.devRef .tc main_v42_1) = (dats m 0 c).arrAt 5 cfg0.N :=
  Pipeline.withArrays_arr spec0 arr_inj c (V0 m c) _ 5
theorem w_v42_3 : Wv m c (Proc.devRef .tc main_v42_3) = (dats m 0 c).arrAt 7 cfg0.N :=
  Pipeline.withArrays_arr spec0 arr_inj c (V0 m c) _ 7

theorem hs (b : Fin 20) (r : Fin 1024) : ((Wv m c (Proc.devRef .tc main_v14) : Vec Ideal S20x1024 .f32) (ix2 b r) : EReal) = Cert.GramIdeal.Gen.sX (bkX (m ((c : Thread nD τ).loc main_arg0)) b) r := by
  rw [w_v14]; exact sX_eq _ b r
theorem hd (b : Fin 20) (r : Fin 1024) : ((Wv m c (Proc.devRef .tc main_v34) : Vec Ideal S20x1024 .f32) (ix2 b r) : EReal) = Cert.GramIdeal.Gen.sD (bkD (m ((c : Thread nD τ).loc main_arg1)) b) r := by
  rw [w_v34]; exact sD_eq _ b r
theorem hp (b : Fin 20) (r : Fin 1024) (l : Fin 1536) : ((Wv m c (Proc.devRef .tc main_v42_1) : Vec Ideal S20x1024x1536 .f32) (ix3 b r l) : EReal) = Cert.GramIdeal.Gen.qX (bkX (m ((c : Thread nD τ).loc main_arg0)) b) r l := by
  rw [w_v42_1, arr5]; exact qX_eq _ b r l
theorem hq (b : Fin 20) (r : Fin 1024) (l : Fin 6144) : ((Wv m c (Proc.devRef .tc main_v42_3) : Vec Ideal S20x1024x6144 .f32) (ix3 b r l) : EReal) = Cert.GramIdeal.Gen.qD (bkD (m ((c : Thread nD τ).loc main_arg1)) b) r l := by
  rw [w_v42_3, arr7]; exact qD_eq _ b r l

theorem end0 : (dats m 0 c).arrAt 4 cfg0.N = R0 (m ((c : Thread nD τ).loc main_arg0)) := by
  rw [arr4]; funext y
  obtain ⟨b, r, l, rfl⟩ : ∃ b r l, y = ix3 b r l := ⟨y 0, y 1, y 2, by funext a; fin_cases a <;> rfl⟩
  exact qX_eq _ b r l
theorem end1 : (dats m 0 c).arrAt 6 cfg0.N = R1 (m ((c : Thread nD τ).loc main_arg1)) := by
  rw [arr6]; funext y
  obtain ⟨b, r, l, rfl⟩ : ∃ b r l, y = ix3 b r l := ⟨y 0, y 1, y 2, by funext a; fin_cases a <;> rfl⟩
  exact qD_eq _ b r l

/-- What the host operations after the call leave. -/
theorem tail (b : Ref sig .tc) : Pipeline.afterTail₀ cfgs (dats m) 0 (V0 m) [hostOps1] c b = after hostOps1 (Wv m c) (Proc.devRef .tc b) := by
  unfold Pipeline.afterTail₀
  rw [List.flatten_cons, List.flatten_nil, List.append_nil]
theorem end2 : Pipeline.afterTail₀ cfgs (dats m) 0 (V0 m) [hostOps1] c main_v88 = R2 (m ((c : Thread nD τ).loc main_arg0)) :=
  (tail m c main_v88).trans ((p_v88 (Wv m c)).trans (r2_eq (hs m c)))
theorem end3 : Pipeline.afterTail₀ cfgs (dats m) 0 (V0 m) [hostOps1] c main_v89 = R3 (m ((c : Thread nD τ).loc main_arg1)) :=
  (tail m c main_v89).trans ((p_v89 (Wv m c)).trans (r3_eq (hd m c)))
theorem end4 : Pipeline.afterTail₀ cfgs (dats m) 0 (V0 m) [hostOps1] c main_v90 = R4 (m ((c : Thread nD τ).loc main_arg0)) (m ((c : Thread nD τ).loc main_arg1)) :=
  (tail m c main_v90).trans ((p_v90 (Wv m c)).trans (r4_eq (hs m c) (hd m c) (hp m c) (hq m c)))
theorem end5 : Pipeline.afterTail₀ cfgs (dats m) 0 (V0 m) [hostOps1] c main_v80 = R5 (m ((c : Thread nD τ).loc main_arg0)) :=
  (tail m c main_v80).trans ((p_v80 (Wv m c)).trans (r5_eq (hs m c)))
theorem end6 : Pipeline.afterTail₀ cfgs (dats m) 0 (V0 m) [hostOps1] c main_v82 = R6 (m ((c : Thread nD τ).loc main_arg0)) (m ((c : Thread nD τ).loc main_arg1)) (((m ((c : Thread nD τ).loc main_arg2)) : Vec Ideal S1 .f32) (ix1 0)) := by
  rw [← w_arg2 m c]
  exact (tail m c main_v82).trans ((p_v82 (Wv m c)).trans (r6_eq (hs m c) (hd m c) (hp m c) (hq m c) _))
theorem end7 : Pipeline.afterTail₀ cfgs (dats m) 0 (V0 m) [hostOps1] c main_v91 = R7 (m ((c : Thread nD τ).loc main_arg1)) :=
  (tail m c main_v91).trans ((p_v91 (Wv m c)).trans (r7_eq (hd m c) (hq m c)))
theorem end8 : Pipeline.afterTail₀ cfgs (dats m) 0 (V0 m) [hostOps1] c main_v92 = R8 (m ((c : Thread nD τ).loc main_arg0)) (m ((c : Thread nD τ).loc main_arg1)) (((m ((c : Thread nD τ).loc main_arg2)) : Vec Ideal S1 .f32) (ix1 0)) := by
  rw [← w_arg2 m c]
  exact (tail m c main_v92).trans ((p_v92 (Wv m c)).trans (r8_eq (hs m c) (hd m c) (hp m c) (hq m c) _))

end Cert.GramRefIdeal.Gen
-- ==== Proof.GramTie.lean ====
/- The kernel's nine results and the reference's are the same nine functions of the arguments. -/
module

public import proofs.«01_k».proof.Defs
public import proofs.«01_k».proof.Proof.GramIdealArr
public import proofs.«01_k».proof.Proof.GramRefArr

@[expose] public section

set_option maxRecDepth 16384

noncomputable section

namespace Cert.Tie

open Idealize.ShloMosaic Idealize.ShloMosaic.TcCoe Idealize.SL.Sem
open Cert.GramRefIdeal.Gen (R0 R1 R2 R3 R4 R5 R6 R7 R8)

section Ker
open Cert.GramIdeal Cert.GramIdeal.Gen
variable (m : (ℓ : Loc Cert.GramIdeal.nD Cert.GramIdeal.τ Cert.GramIdeal.sig) → Buf (Elt Ideal) ℓ) (ρ : Dev Cert.GramIdeal.nD → PrngReg)

/-- The kernel's results. -/
theorem ker : θ_run (Cert.GramIdeal.defs (F := Ideal)) (onTc (τ := Cert.GramIdeal.τ) (Cert.GramIdeal.main (F := Ideal))) ⟨m, fun _ => 0, ρ⟩ (fun r => ∀ c : Dev Cert.GramIdeal.nD,
      r.2.mem ((c.tc : Thread Cert.GramIdeal.nD Cert.GramIdeal.τ).loc Cert.GramIdeal.main_v0_0) = R0 (m ((c.tc : Thread Cert.GramIdeal.nD Cert.GramIdeal.τ).loc Cert.GramIdeal.main_arg0))
      ∧ r.2.mem ((c.tc : Thread Cert.GramIdeal.nD Cert.GramIdeal.τ).loc Cert.GramIdeal.main_v0_1) = R1 (m ((c.tc : Thread Cert.GramIdeal.nD Cert.GramIdeal.τ).loc Cert.GramIdeal.main_arg1))
      ∧ r.2.mem ((c.tc : Thread Cert.GramIdeal.nD Cert.GramIdeal.τ).loc Cert.GramIdeal.main_v0_2) = R2 (m ((c.tc : Thread Cert.GramIdeal.nD Cert.GramIdeal.τ).loc Cert.GramIdeal.main_arg0))
      ∧ r.2.mem ((c.tc : Thread Cert.GramIdeal.nD Cert.GramIdeal.τ).loc Cert.GramIdeal.main_v0_3) = R3 (m ((c.tc : Thread Cert.GramIdeal.nD Cert.GramIdeal.τ).loc Cert.GramIdeal.main_arg1))
      ∧ r.2.mem ((c.tc : Thread Cert.GramIdeal.nD Cert.GramIdeal.τ).loc Cert.GramIdeal.main_v0_4) = R4 (m ((c.tc : Thread Cert.GramIdeal.nD Cert.GramIdeal.τ).loc Cert.GramIdeal.main_arg0)) (m ((c.tc : Thread Cert.GramIdeal.nD Cert.GramIdeal.τ).loc Cert.GramIdeal.main_arg1))
      ∧ r.2.mem ((c.tc : Thread Cert.GramIdeal.nD Cert.GramIdeal.τ).loc Cert.GramIdeal.main_v0_5) = R5 (m ((c.tc : Thread Cert.GramIdeal.nD Cert.GramIdeal.τ).loc Cert.GramIdeal.main_arg0))
      ∧ r.2.mem ((c.tc : Thread Cert.GramIdeal.nD Cert.GramIdeal.τ).loc Cert.GramIdeal.main_v0_6) = R6 (m ((c.tc : Thread Cert.GramIdeal.nD Cert.GramIdeal.τ).loc Cert.GramIdeal.main_arg0)) (m ((c.tc : Thread Cert.GramIdeal.nD Cert.GramIdeal.τ).loc Cert.GramIdeal.main_arg1)) (((m ((c.tc : Thread Cert.GramIdeal.nD Cert.GramIdeal.τ).loc Cert.GramIdeal.main_arg2)) : Vec Ideal Cert.GramRefIdeal.S1 .f32) (ix1 0))
      ∧ r.2.mem ((c.tc : Thread Cert.GramIdeal.nD Cert.GramIdeal.τ).loc Cert.GramIdeal.main_v0_7) = R7 (m ((c.tc : Thread Cert.GramIdeal.nD Cert.GramIdeal.τ).loc Cert.GramIdeal.main_arg1))
      ∧ r.2.mem ((c.tc : Thread Cert.GramIdeal.nD Cert.GramIdeal.τ).loc Cert.GramIdeal.main_v0_8) = R8 (m ((c.tc : Thread Cert.GramIdeal.nD Cert.GramIdeal.τ).loc Cert.GramIdeal.main_arg0)) (m ((c.tc : Thread Cert.GramIdeal.nD Cert.GramIdeal.τ).loc Cert.GramIdeal.main_arg1)) (((m ((c.tc : Thread Cert.GramIdeal.nD Cert.GramIdeal.τ).loc Cert.GramIdeal.main_arg2)) : Vec Ideal Cert.GramRefIdeal.S1 .f32) (ix1 0))
      ∧ r.2.mem ((c.tc : Thread Cert.GramIdeal.nD Cert.GramIdeal.τ).loc Cert.GramIdeal.main_arg0) = m ((c.tc : Thread Cert.GramIdeal.nD Cert.GramIdeal.τ).loc Cert.GramIdeal.main_arg0)
      ∧ r.2.mem ((c.tc : Thread Cert.GramIdeal.nD Cert.GramIdeal.τ).loc Cert.GramIdeal.main_arg1) = m ((c.tc : Thread Cert.GramIdeal.nD Cert.GramIdeal.τ).loc Cert.GramIdeal.main_arg1)
      ∧ r.2.mem ((c.tc : Thread Cert.GramIdeal.nD Cert.GramIdeal.τ).loc Cert.GramIdeal.main_arg2) = m ((c.tc : Thread Cert.GramIdeal.nD Cert.GramIdeal.τ).loc Cert.GramIdeal.main_arg2)) :=
  (θ_run Cert.GramIdeal.defs _ _).mono (fun r h c => ⟨((h c).1 3).trans (arr3 m c), ((h c).1 4).trans (arr4 m c), ((h c).1 5).trans (arr5 m c), ((h c).1 6).trans (arr6 m c), ((h c).1 7).trans (arr7 m c),
    ((h c).1 8).trans (arr8 m c), ((h c).1 9).trans (arr9 m c), ((h c).1 10).trans (arr10 m c), ((h c).1 11).trans (arr11 m c),
    ((h c).1 1).trans (((dats m 0 c).arrAt_in 1 rfl _).trans (A_eq m c 1)),
    ((h c).1 2).trans (((dats m 0 c).arrAt_in 2 rfl _).trans (A_eq m c 2)),
    ((h c).1 0).trans (((dats m 0 c).arrAt_in 0 rfl _).trans (A_eq m c 0))⟩) (Cert.GramIdeal.Gen.run_main m ρ)
end Ker

section Ref
open Cert.GramRefIdeal Cert.GramRefIdeal.Gen
variable (m : (ℓ : Loc Cert.GramRefIdeal.nD Cert.GramRefIdeal.τ Cert.GramRefIdeal.sig) → Buf (Elt Ideal) ℓ) (ρ : Dev Cert.GramRefIdeal.nD → PrngReg)

/-- The reference's results. -/
theorem ref : θ_run (Cert.GramRefIdeal.defs (F := Ideal)) (onTc (τ := Cert.GramRefIdeal.τ) (Cert.GramRefIdeal.main (F := Ideal))) ⟨m, fun _ => 0, ρ⟩ (fun r => ∀ c : Dev Cert.GramRefIdeal.nD,
      r.2.mem ((c.tc : Thread Cert.GramRefIdeal.nD Cert.GramRefIdeal.τ).loc Cert.GramRefIdeal.main_v42_0) = R0 (m ((c.tc : Thread Cert.GramRefIdeal.nD Cert.GramRefIdeal.τ).loc Cert.GramRefIdeal.main_arg0))
      ∧ r.2.mem ((c.tc : Thread Cert.GramRefIdeal.nD Cert.GramRefIdeal.τ).loc Cert.GramRefIdeal.main_v42_2) = R1 (m ((c.tc : Thread Cert.GramRefIdeal.nD Cert.GramRefIdeal.τ).loc Cert.GramRefIdeal.main_arg1))
      ∧ r.2.mem ((c.tc : Thread Cert.GramRefIdeal.nD Cert.GramRefIdeal.τ).loc Cert.GramRefIdeal.main_v88) = R2 (m ((c.tc : Thread Cert.GramRefIdeal.nD Cert.GramRefIdeal.τ).loc Cert.GramRefIdeal.main_arg0))
      ∧ r.2.mem ((c.tc : Thread Cert.GramRefIdeal.nD Cert.GramRefIdeal.τ).loc Cert.GramRefIdeal.main_v89) = R3 (m ((c.tc : Thread Cert.GramRefIdeal.nD Cert.GramRefIdeal.τ).loc Cert.GramRefIdeal.main_arg1))
      ∧ r.2.mem ((c.tc : Thread Cert.GramRefIdeal.nD Cert.GramRefIdeal.τ).loc Cert.GramRefIdeal.main_v90) = R4 (m ((c.tc : Thread Cert.GramRefIdeal.nD Cert.GramRefIdeal.τ).loc Cert.GramRefIdeal.main_arg0)) (m ((c.tc : Thread Cert.GramRefIdeal.nD Cert.GramRefIdeal.τ).loc Cert.GramRefIdeal.main_arg1))
      ∧ r.2.mem ((c.tc : Thread Cert.GramRefIdeal.nD Cert.GramRefIdeal.τ).loc Cert.GramRefIdeal.main_v80) = R5 (m ((c.tc : Thread Cert.GramRefIdeal.nD Cert.GramRefIdeal.τ).loc Cert.GramRefIdeal.main_arg0))
      ∧ r.2.mem ((c.tc : Thread Cert.GramRefIdeal.nD Cert.GramRefIdeal.τ).loc Cert.GramRefIdeal.main_v82) = R6 (m ((c.tc : Thread Cert.GramRefIdeal.nD Cert.GramRefIdeal.τ).loc Cert.GramRefIdeal.main_arg0)) (m ((c.tc : Thread Cert.GramRefIdeal.nD Cert.GramRefIdeal.τ).loc Cert.GramRefIdeal.main_arg1)) (((m ((c.tc : Thread Cert.GramRefIdeal.nD Cert.GramRefIdeal.τ).loc Cert.GramRefIdeal.main_arg2)) : Vec Ideal Cert.GramRefIdeal.S1 .f32) (ix1 0))
      ∧ r.2.mem ((c.tc : Thread Cert.GramRefIdeal.nD Cert.GramRefIdeal.τ).loc Cert.GramRefIdeal.main_v91) = R7 (m ((c.tc : Thread Cert.GramRefIdeal.nD Cert.GramRefIdeal.τ).loc Cert.GramRefIdeal.main_arg1))
      ∧ r.2.mem ((c.tc : Thread Cert.GramRefIdeal.nD Cert.GramRefIdeal.τ).loc Cert.GramRefIdeal.main_v92) = R8 (m ((c.tc : Thread Cert.GramRefIdeal.nD Cert.GramRefIdeal.τ).loc Cert.GramRefIdeal.main_arg0)) (m ((c.tc : Thread Cert.GramRefIdeal.nD Cert.GramRefIdeal.τ).loc Cert.GramRefIdeal.main_arg1)) (((m ((c.tc : Thread Cert.GramRefIdeal.nD Cert.GramRefIdeal.τ).loc Cert.GramRefIdeal.main_arg2)) : Vec Ideal Cert.GramRefIdeal.S1 .f32) (ix1 0))
      ∧ r.2.mem ((c.tc : Thread Cert.GramRefIdeal.nD Cert.GramRefIdeal.τ).loc Cert.GramRefIdeal.main_arg0) = m ((c.tc : Thread Cert.GramRefIdeal.nD Cert.GramRefIdeal.τ).loc Cert.GramRefIdeal.main_arg0)
      ∧ r.2.mem ((c.tc : Thread Cert.GramRefIdeal.nD Cert.GramRefIdeal.τ).loc Cert.GramRefIdeal.main_arg1) = m ((c.tc : Thread Cert.GramRefIdeal.nD Cert.GramRefIdeal.τ).loc Cert.GramRefIdeal.main_arg1)
      ∧ r.2.mem ((c.tc : Thread Cert.GramRefIdeal.nD Cert.GramRefIdeal.τ).loc Cert.GramRefIdeal.main_arg2) = m ((c.tc : Thread Cert.GramRefIdeal.nD Cert.GramRefIdeal.τ).loc Cert.GramRefIdeal.main_arg2)) :=
  (θ_run Cert.GramRefIdeal.defs _ _).mono (fun r h c => ⟨((h c).1 4).trans (end0 m c), ((h c).1 6).trans (end1 m c),
    ((h c).2 main_v88 (Pipeline.mem_restRefs_of main_v88 (by decide) (by decide))).trans (end2 m c),
    ((h c).2 main_v89 (Pipeline.mem_restRefs_of main_v89 (by decide) (by decide))).trans (end3 m c),
    ((h c).2 main_v90 (Pipeline.mem_restRefs_of main_v90 (by decide) (by decide))).trans (end4 m c),
    ((h c).2 main_v80 (Pipeline.mem_restRefs_of main_v80 (by decide) (by decide))).trans (end5 m c),
    ((h c).2 main_v82 (Pipeline.mem_restRefs_of main_v82 (by decide) (by decide))).trans (end6 m c),
    ((h c).2 main_v91 (Pipeline.mem_restRefs_of main_v91 (by decide) (by decide))).trans (end7 m c),
    ((h c).2 main_v92 (Pipeline.mem_restRefs_of main_v92 (by decide) (by decide))).trans (end8 m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (W_main_arg2 m (dats m) c)⟩) (Cert.GramRefIdeal.Gen.run_main m ρ)
end Ref

theorem algebraic_gram : Cert.algebraic_GramIdeal_GramRefIdeal := by
  intro m g m' g' _ h
  refine ⟨fun c => R0 (m ((c.tc : Thread Cert.GramIdeal.nD Cert.GramIdeal.τ).loc Cert.GramIdeal.main_arg0)), fun c => R1 (m ((c.tc : Thread Cert.GramIdeal.nD Cert.GramIdeal.τ).loc Cert.GramIdeal.main_arg1)), fun c => R2 (m ((c.tc : Thread Cert.GramIdeal.nD Cert.GramIdeal.τ).loc Cert.GramIdeal.main_arg0)), fun c => R3 (m ((c.tc : Thread Cert.GramIdeal.nD Cert.GramIdeal.τ).loc Cert.GramIdeal.main_arg1)), fun c => R4 (m ((c.tc : Thread Cert.GramIdeal.nD Cert.GramIdeal.τ).loc Cert.GramIdeal.main_arg0)) (m ((c.tc : Thread Cert.GramIdeal.nD Cert.GramIdeal.τ).loc Cert.GramIdeal.main_arg1)), fun c => R5 (m ((c.tc : Thread Cert.GramIdeal.nD Cert.GramIdeal.τ).loc Cert.GramIdeal.main_arg0)), fun c => R6 (m ((c.tc : Thread Cert.GramIdeal.nD Cert.GramIdeal.τ).loc Cert.GramIdeal.main_arg0)) (m ((c.tc : Thread Cert.GramIdeal.nD Cert.GramIdeal.τ).loc Cert.GramIdeal.main_arg1)) (((m ((c.tc : Thread Cert.GramIdeal.nD Cert.GramIdeal.τ).loc Cert.GramIdeal.main_arg2)) : Vec Ideal Cert.GramRefIdeal.S1 .f32) (ix1 0)), fun c => R7 (m ((c.tc : Thread Cert.GramIdeal.nD Cert.GramIdeal.τ).loc Cert.GramIdeal.main_arg1)), fun c => R8 (m ((c.tc : Thread Cert.GramIdeal.nD Cert.GramIdeal.τ).loc Cert.GramIdeal.main_arg0)) (m ((c.tc : Thread Cert.GramIdeal.nD Cert.GramIdeal.τ).loc Cert.GramIdeal.main_arg1)) (((m ((c.tc : Thread Cert.GramIdeal.nD Cert.GramIdeal.τ).loc Cert.GramIdeal.main_arg2)) : Vec Ideal Cert.GramRefIdeal.S1 .f32) (ix1 0)), ker m g, (θ_run _ _ _).mono (fun r hr c => ?_) (ref m' g')⟩
  have e := hr c
  rw [(h c).1, (h c).2.1, (h c).2.2] at e
  rw [(h c).1, (h c).2.1, (h c).2.2]
  exact e

end Cert.Tie
-- ==== Proof.DwStep.lean ====
module

public import proofs.«01_k».proof.Proof.Gen.DwIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwIdeal.Sum

open Cert.DwIdeal Cert.DwIdeal.Gen Idealize.ShloMosaic Idealize.ShloMosaic.TcCoe Idealize.SL.Sem

variable (m : (ℓ : Loc nD τ sig) → Buf (Elt Ideal) ℓ)

/-- The scaled tile the body keeps for the left operand: a code times its row's scale, at whatever lane. -/
def xw (x : Vec Ideal S1024x1536 .fp8e4m3) (s : Vec Ideal S1024x128 .bf16) : FVec Ideal S1024x1536 .bf16 :=
  fun j => (x j : EReal) * s (ix2 (j 0) ⟨(j 1).val % 128, Nat.mod_lt _ (by decide)⟩)

/-- The scaled tile the body keeps for the right operand. -/
def dw (x : Vec Ideal S1024x1024 .fp8e5m2) (s : Vec Ideal S1024x128 .bf16) : FVec Ideal S1024x1024 .bf16 :=
  fun j => (x j : EReal) * s (ix2 (j 0) ⟨(j 1).val % 128, Nat.mod_lt _ (by decide)⟩)

theorem pay_congr {o : FVec Ideal S1536x1024 .f32} {A A' : Vec Ideal S1024x1536 .bf16} {B B' : Vec Ideal S1024x1024 .bf16}
    (hA : A = A') (hB : B = B') : k0_pay1 o A B = k0_pay1 o A' B' := by rw [hA, hB]

/-- A load of the whole buffer after stores reads what the stores leave. -/
theorem readCov_all {S : Shape} {e : EltTy} {sig : RefSig} {κ : Kind} {sp : Space} (v : View sig κ sp S e)
    (L : List (View.Piece (Elt Ideal) S e)) {off : Fin S.rank → ℕ} (inb : ∀ a, off a + S.size a ≤ S.size a) (h : ∀ a, off a = 0) :
    v.readCov L (Rect.unit off S.size inb).toLoadRect = View.canon L := by
  rw [View.readCov_eq_canon']
  funext j
  congr 1
  funext a
  apply Fin.ext
  show off a + 1 * (j a).val = (j a).val
  rw [h a]; omega

/-- One grid point's addend: the product of the two scaled tiles over the block's 1024 rows. -/
def term (X : Vec Ideal S1024x1536 .fp8e4m3) (D : Vec Ideal S1024x1024 .fp8e5m2) (s f : Vec Ideal S1024x128 .bf16) (j : S1536x1024.Idx) : EReal :=
  ∑ k : Fin 1024, xw X s (ix2 k (j 0)) * dw D f (ix2 k (j 1))

theorem pay_apply (o : FVec Ideal S1536x1024 .f32) (A : Vec Ideal S1024x1536 .bf16) (B : Vec Ideal S1024x1024 .bf16) (j : S1536x1024.Idx) :
    k0_pay1 (k0_pay26 o) A B j = (o j : EReal) + ∑ k : Fin 1024, (A (ix2 k (j 0)) : EReal) * B (ix2 k (j 1)) := by
  pointwise [k0_pay1, k0_pay26]

set_option maxHeartbeats 1000000 in
theorem outsB (c : Dev nD) (t : Fin cfg0.N) (h : ¬t.val % 20 = 0) (j : S1536x1024.Idx) :
    outsAt0 (F := Ideal) m c t.val t.isLt j = (outsAt0 (F := Ideal) m c (t.val - 1) (Nat.lt_of_le_of_lt (Nat.sub_le _ _) t.isLt) j : EReal)
      + term (iblk m c 0 t) (iblk m c 1 t) (iblk m c 2 t) (iblk m c 3 t) j := by
  rw [outsAt0_B m c t h]
  frame_out
  refine (congrFun (pay_congr (A' := xw (iblk m c 0 t) (iblk m c 2 t)) (B' := dw (iblk m c 1 t) (iblk m c 3 t))
    ((readCov_all (S := S1024x1536) _ _ _ (by decide)).trans (funext fun y => ?_)) ((readCov_all (S := S1024x1024) _ _ _ (by decide)).trans (funext fun y => ?_))) j).trans (pay_apply _ _ _ j)
  · generalize (iblk m c 0 t : Vec Ideal S1024x1536 .fp8e4m3) = X, (iblk m c 2 t : Vec Ideal S1024x128 .bf16) = s
    canon_tiles x h
    all_goals (unfold_payloads; pointwise [xw]; congr 2 <;> blk_ext)
  · generalize (iblk m c 1 t : Vec Ideal S1024x1024 .fp8e5m2) = X, (iblk m c 3 t : Vec Ideal S1024x128 .bf16) = s
    canon_tiles x h
    all_goals (unfold_payloads; pointwise [dw]; congr 2 <;> blk_ext)

set_option maxHeartbeats 1000000 in
theorem outsA (c : Dev nD) (t : Fin cfg0.N) (h : t.val % 20 = 0) (j : S1536x1024.Idx) :
    outsAt0 (F := Ideal) m c t.val t.isLt j = 0
      + term (iblk m c 0 t) (iblk m c 1 t) (iblk m c 2 t) (iblk m c 3 t) j := by
  rw [outsAt0_A m c t h]
  frame_out
  refine (congrFun (pay_congr (A' := xw (iblk m c 0 t) (iblk m c 2 t)) (B' := dw (iblk m c 1 t) (iblk m c 3 t))
    ((readCov_all (S := S1024x1536) _ _ _ (by decide)).trans (funext fun y => ?_)) ((readCov_all (S := S1024x1024) _ _ _ (by decide)).trans (funext fun y => ?_))) j).trans ((pay_apply _ _ _ j).trans (by pointwise [k0_pay2]; rfl))
  · generalize (iblk m c 0 t : Vec Ideal S1024x1536 .fp8e4m3) = X, (iblk m c 2 t : Vec Ideal S1024x128 .bf16) = s
    canon_tiles x h
    all_goals (unfold_payloads; pointwise [xw]; congr 2 <;> blk_ext)
  · generalize (iblk m c 1 t : Vec Ideal S1024x1024 .fp8e5m2) = X, (iblk m c 3 t : Vec Ideal S1024x128 .bf16) = s
    canon_tiles x h
    all_goals (unfold_payloads; pointwise [dw]; congr 2 <;> blk_ext)

theorem idx : ∀ t : Fin cfg0.N, win0_0.index t = ![t.val % 20, 0] ∧ win0_1.index t = ![t.val % 20, t.val / 20]
    ∧ win0_2.index t = ![t.val % 20, 0] ∧ win0_3.index t = ![t.val % 20, 0] ∧ win0_4.index t = ![0, t.val / 20] :=
  (by decide +kernel : ∀ t : Fin grid0.N, _)

/-- The product of the two scaled matrices, row by row of their common axis. -/
def prod (X : Vec Ideal S20480x1536 .fp8e4m3) (D : Vec Ideal S20480x6144 .fp8e5m2) (s f : Vec Ideal S20480x1 .bf16) :
    Vec Ideal S1536x6144 .f32 :=
  fun j => ∑ k : Fin 20480, ((X (ix2 k (j 0)) : EReal) * s (ix2 k 0)) * ((D (ix2 k (j 1)) : EReal) * f (ix2 k 0))

theorem final (c : Dev nD) : (dats m 0 c).arrAt 4 cfg0.N
    = prod (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  have hr : t.val % 20 = 19 := (flush0_4 t).mp hf
  blk_simp
  rw [after0_4]
  refine (Pipeline.eq_sum_fin_of_reset_step_apply_of_flush (fun n h => outsAt0 (F := Ideal) m c n h) 20 (fun _ => (0 : EReal)) _
    (outsA m c) (outsB m c) t hr y).trans ?_
  rw [zero_add]
  have ht : t.val < 120 := t.isLt
  have hi := fun s : Fin 20 => idx ⟨20 * (t.val / 20) + s.val, Pipeline.run_point_lt_of_flush t hr s⟩
  have h4 := (idx t).2.2.2.2
  unfold prod term
  refine Fin.sum_mul_add_congr (S := 20) (n := 1024) (fun s k hl => ?_)
  obtain ⟨e0, e1, e2, e3, -⟩ := hi s
  dsimp only at e0 e1 e2 e3
  rw [show (20 * (t.val / 20) + s.val) % 20 = s.val by omega] at e0 e1 e2 e3
  rw [show (20 * (t.val / 20) + s.val) / 20 = t.val / 20 by omega] at e1
  unfold xw dw
  congr 2
  · blk_ext! [iblk, V, e0, h4]
  · blk_ext! [iblk, V, e2, h4]
  · blk_ext! [iblk, V, e1, h4]
  · blk_ext! [iblk, V, e3, h4]

end Cert.DwIdeal.Sum
-- ==== Proof.DwTie.lean ====
module

public import proofs.«01_k».proof.Proof.DwStep
public import proofs.«01_k».proof.Proof.Gen.DwRefIdeal.Value

@[expose] public section

set_option maxRecDepth 16384

noncomputable section

namespace Cert.DwIdeal.Sum

open Idealize.ShloMosaic Idealize.ShloMosaic.TcCoe Idealize.SL.Sem

/-- The reference's one product is the same sum over the 20480 rows. -/
theorem ref_eq (X : Vec Ideal S20480x1536 .fp8e4m3) (D : Vec Ideal S20480x6144 .fp8e5m2) (s f : Vec Ideal S20480x1 .bf16) :
    Cert.DwRefIdeal.Value.G4 (F := Ideal) X D s f = prod X D s f := by
  funext j
  unfold Cert.DwRefIdeal.Value.G4
  pointwise [Cert.DwRefIdeal.Gen.k0_pay1, prod]

end Cert.DwIdeal.Sum
-- ==== Proof.DbTie.lean ====
module

public import proofs.«01_k».proof.Proof.Gen.DbIdeal.Value
public import proofs.«01_k».proof.Proof.Gen.DbRefIdeal.Run
public import Idealize.ShloMosaic.Lib.Pipeline.ValueKit
public import Idealize.ShloMosaic.Lib.Pointwise

@[expose] public section

set_option maxRecDepth 16384

noncomputable section

namespace Cert.DbIdeal.Sum

open Cert.DbIdeal Cert.DbIdeal.Gen Idealize.ShloMosaic Idealize.ShloMosaic.TcCoe Idealize.SL.Sem

/-- The weighted sum of the 20 gradients. -/
def wsum (s : Vec Ideal S20x1x128 .f32) (g : Vec Ideal S20x1x6144 .f32) : Vec Ideal S1x6144 .f32 :=
  fun j => ∑ b : Fin 20, (s (ix3 b 0 2) : EReal) * g (ix3 b 0 (j 1))

theorem ker_eq (s : Vec Ideal S20x1x128 .f32) (g : Vec Ideal S20x1x6144 .f32) : Cert.DbIdeal.Value.G2 (F := Ideal) s g = wsum s g := by
  funext j
  unfold Cert.DbIdeal.Value.G2
  unfold_payloads
  pointwise [wsum]
  simp only [Fin.sum_univ_castSucc, Finset.univ_eq_empty, Finset.sum_empty, zero_add]
  rfl

end Cert.DbIdeal.Sum

namespace Cert.DbRefIdeal.Sum

open Cert.DbRefIdeal Cert.DbRefIdeal.Gen Idealize.ShloMosaic Idealize.ShloMosaic.TcCoe Idealize.SL.Sem

/-- The host's reduction of the 20 weighted rows is the same sum. -/
theorem ref_eq (s : Vec Ideal S20x1x128 .f32) (g : Vec Ideal S20x1x6144 .f32) :
    (broadcastInDim S1x6144 ![1] bcast_S6144_S1x6144_1 (Host.reduceAdd (F := Ideal) (φ := .f32) (mulf (broadcastInDim S20x6144 ![0, 1] bcast_S20x1_S20x6144_0_1 (broadcastInDim S20x1 ![0] bcast_S20_S20x1_0 (shapeCast S20 (extractStridedSlice S20x1x1 ![0, 0, 2] s slices_S20x1x128_S20x1x1_0_0_2) shapeCasts_S20x1x1_S20))) (shapeCast S20x6144 g shapeCasts_S20x1x6144_S20x6144)) (constant S_ .f32 0x00000000#32) reducesTo_S20x6144_S6144_d0 h_S_) : Vec Ideal S1x6144 .f32)
      = Cert.DbIdeal.Sum.wsum s g := by
  funext j
  pointwise [Cert.DbIdeal.Sum.wsum]

end Cert.DbRefIdeal.Sum
-- ==== Proof.lean ====
module

public import proofs.«01_k».proof.Defs
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwRefIdeal.Skeleton
public import proofs.«01_k».proof.Proof.Gen.DwRefIdeal.Launch
public import proofs.«01_k».proof.Proof.Gen.DwRefIdeal.Points
public import proofs.«01_k».proof.Proof.Gen.DwRefIdeal.Frame
public import proofs.«01_k».proof.Proof.Gen.Db
public import proofs.«01_k».proof.Proof.Gen.Db.Skeleton
public import proofs.«01_k».proof.Proof.Gen.Db.Launch
public import proofs.«01_k».proof.Proof.Gen.Db.Points
public import proofs.«01_k».proof.Proof.Gen.Db.Frame
public import proofs.«01_k».proof.Proof.Gen.DbIdeal
public import proofs.«01_k».proof.Proof.Gen.DbIdeal.Skeleton
public import proofs.«01_k».proof.Proof.Gen.DbIdeal.Launch
public import proofs.«01_k».proof.Proof.Gen.DbIdeal.Points
public import proofs.«01_k».proof.Proof.Gen.DbIdeal.Frame
public import proofs.«01_k».proof.Proof.Gen.DbRefIdeal
public import proofs.«01_k».proof.Proof.Gen.DwIdeal.Value
public import proofs.«01_k».proof.Proof.Gen.DbIdeal.Value
public import proofs.«01_k».proof.Proof.Gen.DwRefIdeal.Value
public import proofs.«01_k».proof.Proof.Gen.DbRefIdeal.Run
public import proofs.«01_k».proof.Proof.Gen.Gram
public import proofs.«01_k».proof.Proof.Gen.Gram.Frame
public import proofs.«01_k».proof.Proof.Gen.GramIdeal
public import proofs.«01_k».proof.Proof.Gen.GramIdeal.Frame
public import proofs.«01_k».proof.Proof.Gen.GramRefIdeal
public import proofs.«01_k».proof.Proof.Gen.GramRefIdeal.Frame
public import proofs.«01_k».proof.Proof.GramFrame
public import proofs.«01_k».proof.Proof.GramTie
public import proofs.«01_k».proof.Proof.DwTie
public import proofs.«01_k».proof.Proof.DbTie
public import Idealize.ShloMosaic.Lib.Quiescent
public import Idealize.ShloMosaic.Adequacy
public import Idealize.ShloMosaic.Init

@[expose] public section

noncomputable section

namespace Cert.Proof

open Idealize.ShloMosaic Idealize.SL.Sem Cert.Dw

/-- The product call and its reference end with the same matrix: both are the sum over the 20480 rows. -/
theorem algebraic_dw : Cert.algebraic_DwIdeal_DwRefIdeal := by
  intro m g m' g' _ h
  refine ⟨fun c => Cert.DwIdeal.Sum.prod _ _ _ _, (θ_run _ _ _).mono (fun r hr c => ⟨(hr c).1.trans (Cert.DwIdeal.Sum.final m c), (hr c).2⟩)
    (Cert.DwIdeal.Value.run_blocks m g), (θ_run _ _ _).mono (fun r hr c => ⟨(hr c).1.trans ?_, (hr c).2⟩) (Cert.DwRefIdeal.Value.run m' g')⟩
  rw [(h c).1, (h c).2.1, (h c).2.2.1, (h c).2.2.2]
  exact Cert.DwIdeal.Sum.ref_eq _ _ _ _

/-- The bias call and its reference end with the same vector. -/
theorem algebraic_db : Cert.algebraic_DbIdeal_DbRefIdeal := by
  intro m g m' g' _ h
  refine ⟨fun c => Cert.DbIdeal.Sum.wsum _ _, (θ_run _ _ _).mono (fun r hr c => ⟨(hr c).1.trans (Cert.DbIdeal.Sum.ker_eq _ _), (hr c).2⟩)
    (Cert.DbIdeal.Value.run m g), (θ_run _ _ _).mono (fun r hr c => ⟨(hr c).1.trans ?_, (hr c).2⟩) (Cert.DbRefIdeal.Value.run m' g')⟩
  rw [(h c).1, (h c).2]
  exact Cert.DbRefIdeal.Sum.ref_eq _ _

/-- The host program of the bias reference leaves its arguments and has no semaphore. -/
theorem frame_db_ref : Cert.quiescent_DbRefIdeal := fun m ρ _ =>
  (θ_run _ _ _).mono (fun r hr => ⟨fun c => (hr c).2, Idealize.ShloMosaic.sem_eq_zero_of_no_sems (by decide) r.2⟩)
    (Cert.DbRefIdeal.Value.run m ρ)

theorem claim : Cert.Claim := ⟨Cert.Dw.Gen.facts, Cert.DwIdeal.Gen.facts, Cert.DwRefIdeal.Gen.facts, Cert.Db.Gen.facts, Cert.DbIdeal.Gen.facts, Cert.DbRefIdeal.Gen.facts,
  Cert.Gram.Gen.facts, Cert.GramIdeal.Gen.facts, Cert.GramRefIdeal.Gen.facts,
  fun m ρ _ => Cert.Dw.Gen.frame m ρ, fun m ρ _ => Cert.DwIdeal.Gen.frame m ρ, fun m ρ _ => Cert.DwRefIdeal.Gen.frame m ρ,
  fun m ρ _ => Cert.Db.Gen.frame m ρ, fun m ρ _ => Cert.DbIdeal.Gen.frame m ρ, frame_db_ref,
  fun m ρ _ => Cert.Gram.Gen.frame m ρ, fun m ρ _ => Cert.GramIdeal.Gen.frame m ρ, fun m ρ _ => Cert.GramRefIdeal.Gen.frame m ρ,
  trivial, algebraic_dw, trivial, algebraic_db, trivial, Cert.Tie.algebraic_gram⟩

end Cert.Proof
